-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProjZ (m : (ℓ : Loc Cert.InProjZ.nD Cert.InProjZ.τ Cert.InProjZ.sig) → Buf (Elt Bits) ℓ) : Prop :=
  True

def Pre_InProjZIdeal (m : (ℓ : Loc Cert.InProjZIdeal.nD Cert.InProjZIdeal.τ Cert.InProjZIdeal.sig) → Buf (Elt Ideal) ℓ) : Prop :=
  True

def Pre_ZRefIdeal (m : (ℓ : Loc Cert.ZRefIdeal.nD Cert.ZRefIdeal.τ Cert.ZRefIdeal.sig) → Buf (Elt Ideal) ℓ) : Prop :=
  True

def Pre_InProjConv (m : (ℓ : Loc Cert.InProjConv.nD Cert.InProjConv.τ Cert.InProjConv.sig) → Buf (Elt Bits) ℓ) : Prop :=
  True

def Pre_InProjConvIdeal (m : (ℓ : Loc Cert.InProjConvIdeal.nD Cert.InProjConvIdeal.τ Cert.InProjConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_StateQuant (m : (ℓ : Loc Cert.StateQuant.nD Cert.StateQuant.τ Cert.StateQuant.sig) → Buf (Elt Bits) ℓ) : Prop :=
  True

def Pre_StateQuantIdeal (m : (ℓ : Loc Cert.StateQuantIdeal.nD Cert.StateQuantIdeal.τ Cert.StateQuantIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def Pre_NormRotate (m : (ℓ : Loc Cert.NormRotate.nD Cert.NormRotate.τ Cert.NormRotate.sig) → Buf (Elt Bits) ℓ) : Prop :=
  True

def Pre_ResRef (m : (ℓ : Loc Cert.ResRef.nD Cert.ResRef.τ Cert.ResRef.sig) → Buf (Elt Bits) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_finite [hPre_finite : Cert.Pre_finite.Facts] (m : (ℓ : Loc Cert.RotateIdeal.nD Cert.RotateIdeal.τ Cert.RotateIdeal.sig) → Buf (Elt Ideal) ℓ) : Prop :=
  ∀ c : Dev Cert.RotateIdeal.nD,
    (Cert.Pre_finite.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1)) (m ((c.tc : Thread Cert.RotateIdeal.nD Cert.RotateIdeal.τ).loc Cert.RotateIdeal.main_arg2)) (m ((c.tc : Thread Cert.RotateIdeal.nD Cert.RotateIdeal.τ).loc Cert.RotateIdeal.main_arg3))) = (fun _ => 1#1)

def Pre_RotateRefIdeal (m : (ℓ : Loc Cert.RotateRefIdeal.nD Cert.RotateRefIdeal.τ Cert.RotateRefIdeal.sig) → Buf (Elt Ideal) ℓ) : Prop :=
  True

def Pre_RotateRefIdeal_finite [hPre_finite : Cert.Pre_finite.Facts] (m : (ℓ : Loc Cert.RotateRefIdeal.nD Cert.RotateRefIdeal.τ Cert.RotateRefIdeal.sig) → Buf (Elt Ideal) ℓ) : Prop :=
  ∀ c : Dev Cert.RotateRefIdeal.nD,
    (Cert.Pre_finite.fn (F := Ideal) (m ((c.tc : Thread Cert.RotateRefIdeal.nD Cert.RotateRefIdeal.τ).loc Cert.RotateRefIdeal.main_arg0)) (m ((c.tc : Thread Cert.RotateRefIdeal.nD Cert.RotateRefIdeal.τ).loc Cert.RotateRefIdeal.main_arg1)) (m ((c.tc : Thread Cert.RotateRefIdeal.nD Cert.RotateRefIdeal.τ).loc Cert.RotateRefIdeal.main_arg2)) (m ((c.tc : Thread Cert.RotateRefIdeal.nD Cert.RotateRefIdeal.τ).loc Cert.RotateRefIdeal.main_arg3))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_InProjZ [hInProjZ : Cert.InProjZ.Facts] : Prop :=
  ∀ (m : (ℓ : Loc Cert.InProjZ.nD Cert.InProjZ.τ Cert.InProjZ.sig) → Buf (Elt Bits) ℓ) (g : Dev Cert.InProjZ.nD → PrngReg), Pre_InProjZ m →
    θ_run (Cert.InProjZ.defs (F := Bits)) (onTc (τ := Cert.InProjZ.τ) (Cert.InProjZ.main (F := Bits))) ⟨m, fun _ => 0, g⟩ (fun r => (∀ c : Dev Cert.InProjZ.nD,
      r.2.mem ((c.tc : Thread Cert.InProjZ.nD Cert.InProjZ.τ).loc Cert.InProjZ.main_arg0) = m ((c.tc : Thread Cert.InProjZ.nD Cert.InProjZ.τ).loc Cert.InProjZ.main_arg0)
      ∧ r.2.mem ((c.tc : Thread Cert.InProjZ.nD Cert.InProjZ.τ).loc Cert.InProjZ.main_arg1) = m ((c.tc : Thread Cert.InProjZ.nD Cert.InProjZ.τ).loc Cert.InProjZ.main_arg1)
      ∧ r.2.mem ((c.tc : Thread Cert.InProjZ.nD Cert.InProjZ.τ).loc Cert.InProjZ.main_arg2) = m ((c.tc : Thread Cert.InProjZ.nD Cert.InProjZ.τ).loc Cert.InProjZ.main_arg2))
      ∧ r.2.sem = fun _ => 0)

def quiescent_InProjZIdeal [hInProjZIdeal : Cert.InProjZIdeal.Facts] : Prop :=
  ∀ (m : (ℓ : Loc Cert.InProjZIdeal.nD Cert.InProjZIdeal.τ Cert.InProjZIdeal.sig) → Buf (Elt Ideal) ℓ) (g : Dev Cert.InProjZIdeal.nD → PrngReg), Pre_InProjZIdeal m →
    θ_run (Cert.InProjZIdeal.defs (F := Ideal)) (onTc (τ := Cert.InProjZIdeal.τ) (Cert.InProjZIdeal.main (F := Ideal))) ⟨m, fun _ => 0, g⟩ (fun r => (∀ c : Dev Cert.InProjZIdeal.nD,
      r.2.mem ((c.tc : Thread Cert.InProjZIdeal.nD Cert.InProjZIdeal.τ).loc Cert.InProjZIdeal.main_arg0) = m ((c.tc : Thread Cert.InProjZIdeal.nD Cert.InProjZIdeal.τ).loc Cert.InProjZIdeal.main_arg0)
      ∧ r.2.mem ((c.tc : Thread Cert.InProjZIdeal.nD Cert.InProjZIdeal.τ).loc Cert.InProjZIdeal.main_arg1) = m ((c.tc : Thread Cert.InProjZIdeal.nD Cert.InProjZIdeal.τ).loc Cert.InProjZIdeal.main_arg1)
      ∧ r.2.mem ((c.tc : Thread Cert.InProjZIdeal.nD Cert.InProjZIdeal.τ).loc Cert.InProjZIdeal.main_arg2) = m ((c.tc : Thread Cert.InProjZIdeal.nD Cert.InProjZIdeal.τ).loc Cert.InProjZIdeal.main_arg2))
      ∧ r.2.sem = fun _ => 0)

def quiescent_ZRefIdeal [hZRefIdeal : Cert.ZRefIdeal.Facts] : Prop :=
  ∀ (m : (ℓ : Loc Cert.ZRefIdeal.nD Cert.ZRefIdeal.τ Cert.ZRefIdeal.sig) → Buf (Elt Ideal) ℓ) (g : Dev Cert.ZRefIdeal.nD → PrngReg), Pre_ZRefIdeal m →
    θ_run (Cert.ZRefIdeal.defs (F := Ideal)) (onTc (τ := Cert.ZRefIdeal.τ) (Cert.ZRefIdeal.main (F := Ideal))) ⟨m, fun _ => 0, g⟩ (fun r => (∀ c : Dev Cert.ZRefIdeal.nD,
      r.2.mem ((c.tc : Thread Cert.ZRefIdeal.nD Cert.ZRefIdeal.τ).loc Cert.ZRefIdeal.main_arg0) = m ((c.tc : Thread Cert.ZRefIdeal.nD Cert.ZRefIdeal.τ).loc Cert.ZRefIdeal.main_arg0)
      ∧ r.2.mem ((c.tc : Thread Cert.ZRefIdeal.nD Cert.ZRefIdeal.τ).loc Cert.ZRefIdeal.main_arg1) = m ((c.tc : Thread Cert.ZRefIdeal.nD Cert.ZRefIdeal.τ).loc Cert.ZRefIdeal.main_arg1)
      ∧ r.2.mem ((c.tc : Thread Cert.ZRefIdeal.nD Cert.ZRefIdeal.τ).loc Cert.ZRefIdeal.main_arg2) = m ((c.tc : Thread Cert.ZRefIdeal.nD Cert.ZRefIdeal.τ).loc Cert.ZRefIdeal.main_arg2))
      ∧ r.2.sem = fun _ => 0)

def quiescent_InProjConv [hInProjConv : Cert.InProjConv.Facts] : Prop :=
  ∀ (m : (ℓ : Loc Cert.InProjConv.nD Cert.InProjConv.τ Cert.InProjConv.sig) → Buf (Elt Bits) ℓ) (g : Dev Cert.InProjConv.nD → PrngReg), Pre_InProjConv m →
    θ_run (Cert.InProjConv.defs (F := Bits)) (onTc (τ := Cert.InProjConv.τ) (Cert.InProjConv.main (F := Bits))) ⟨m, fun _ => 0, g⟩ (fun r => (∀ c : Dev Cert.InProjConv.nD,
      r.2.mem ((c.tc : Thread Cert.InProjConv.nD Cert.InProjConv.τ).loc Cert.InProjConv.main_arg0) = m ((c.tc : Thread Cert.InProjConv.nD Cert.InProjConv.τ).loc Cert.InProjConv.main_arg0)
      ∧ r.2.mem ((c.tc : Thread Cert.InProjConv.nD Cert.InProjConv.τ).loc Cert.InProjConv.main_arg1) = m ((c.tc : Thread Cert.InProjConv.nD Cert.InProjConv.τ).loc Cert.InProjConv.main_arg1)
      ∧ r.2.mem ((c.tc : Thread Cert.InProjConv.nD Cert.InProjConv.τ).loc Cert.InProjConv.main_arg2) = m ((c.tc : Thread Cert.InProjConv.nD Cert.InProjConv.τ).loc Cert.InProjConv.main_arg2)
      ∧ r.2.mem ((c.tc : Thread Cert.InProjConv.nD Cert.InProjConv.τ).loc Cert.InProjConv.main_arg3) = m ((c.tc : Thread Cert.InProjConv.nD Cert.InProjConv.τ).loc Cert.InProjConv.main_arg3)
      ∧ r.2.mem ((c.tc : Thread Cert.InProjConv.nD Cert.InProjConv.τ).loc Cert.InProjConv.main_arg4) = m ((c.tc : Thread Cert.InProjConv.nD Cert.InProjConv.τ).loc Cert.InProjConv.main_arg4))
      ∧ r.2.sem = fun _ => 0)

def quiescent_InProjConvIdeal [hInProjConvIdeal : Cert.InProjConvIdeal.Facts] : Prop :=
  ∀ (m : (ℓ : Loc Cert.InProjConvIdeal.nD Cert.InProjConvIdeal.τ Cert.InProjConvIdeal.sig) → Buf (Elt Ideal) ℓ) (g : Dev Cert.InProjConvIdeal.nD → PrngReg), Pre_InProjConvIdeal m →
    θ_run (Cert.InProjConvIdeal.defs (F := Ideal)) (onTc (τ := Cert.InProjConvIdeal.τ) (Cert.InProjConvIdeal.main (F := Ideal))) ⟨m, fun _ => 0, g⟩ (fun r => (∀ c : Dev Cert.InProjConvIdeal.nD,
      r.2.mem ((c.tc : Thread Cert.InProjConvIdeal.nD Cert.InProjConvIdeal.τ).loc Cert.InProjConvIdeal.main_arg0) = m ((c.tc : Thread Cert.InProjConvIdeal.nD Cert.InProjConvIdeal.τ).loc Cert.InProjConvIdeal.main_arg0)
      ∧ r.2.mem ((c.tc : Thread Cert.InProjConvIdeal.nD Cert.InProjConvIdeal.τ).loc Cert.InProjConvIdeal.main_arg1) = m ((c.tc : Thread Cert.InProjConvIdeal.nD Cert.InProjConvIdeal.τ).loc Cert.InProjConvIdeal.main_arg1)
      ∧ r.2.mem ((c.tc : Thread Cert.InProjConvIdeal.nD Cert.InProjConvIdeal.τ).loc Cert.InProjConvIdeal.main_arg2) = m ((c.tc : Thread Cert.InProjConvIdeal.nD Cert.InProjConvIdeal.τ).loc Cert.InProjConvIdeal.main_arg2)
      ∧ r.2.mem ((c.tc : Thread Cert.InProjConvIdeal.nD Cert.InProjConvIdeal.τ).loc Cert.InProjConvIdeal.main_arg3) = m ((c.tc : Thread Cert.InProjConvIdeal.nD Cert.InProjConvIdeal.τ).loc Cert.InProjConvIdeal.main_arg3)
      ∧ r.2.mem ((c.tc : Thread Cert.InProjConvIdeal.nD Cert.InProjConvIdeal.τ).loc Cert.InProjConvIdeal.main_arg4) = m ((c.tc : Thread Cert.InProjConvIdeal.nD Cert.InProjConvIdeal.τ).loc Cert.InProjConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_StateQuant [hStateQuant : Cert.StateQuant.Facts] : Prop :=
  ∀ (m : (ℓ : Loc Cert.StateQuant.nD Cert.StateQuant.τ Cert.StateQuant.sig) → Buf (Elt Bits) ℓ) (g : Dev Cert.StateQuant.nD → PrngReg), Pre_StateQuant m →
    θ_run (Cert.StateQuant.defs (F := Bits)) (onTc (τ := Cert.StateQuant.τ) (Cert.StateQuant.main (F := Bits))) ⟨m, fun _ => 0, g⟩ (fun r => (∀ c : Dev Cert.StateQuant.nD,
      r.2.mem ((c.tc : Thread Cert.StateQuant.nD Cert.StateQuant.τ).loc Cert.StateQuant.main_arg0) = m ((c.tc : Thread Cert.StateQuant.nD Cert.StateQuant.τ).loc Cert.StateQuant.main_arg0)
      ∧ r.2.mem ((c.tc : Thread Cert.StateQuant.nD Cert.StateQuant.τ).loc Cert.StateQuant.main_arg1) = m ((c.tc : Thread Cert.StateQuant.nD Cert.StateQuant.τ).loc Cert.StateQuant.main_arg1))
      ∧ r.2.sem = fun _ => 0)

def quiescent_StateQuantIdeal [hStateQuantIdeal : Cert.StateQuantIdeal.Facts] : Prop :=
  ∀ (m : (ℓ : Loc Cert.StateQuantIdeal.nD Cert.StateQuantIdeal.τ Cert.StateQuantIdeal.sig) → Buf (Elt Ideal) ℓ) (g : Dev Cert.StateQuantIdeal.nD → PrngReg), Pre_StateQuantIdeal m →
    θ_run (Cert.StateQuantIdeal.defs (F := Ideal)) (onTc (τ := Cert.StateQuantIdeal.τ) (Cert.StateQuantIdeal.main (F := Ideal))) ⟨m, fun _ => 0, g⟩ (fun r => (∀ c : Dev Cert.StateQuantIdeal.nD,
      r.2.mem ((c.tc : Thread Cert.StateQuantIdeal.nD Cert.StateQuantIdeal.τ).loc Cert.StateQuantIdeal.main_arg0) = m ((c.tc : Thread Cert.StateQuantIdeal.nD Cert.StateQuantIdeal.τ).loc Cert.StateQuantIdeal.main_arg0)
      ∧ r.2.mem ((c.tc : Thread Cert.StateQuantIdeal.nD Cert.StateQuantIdeal.τ).loc Cert.StateQuantIdeal.main_arg1) = m ((c.tc : Thread Cert.StateQuantIdeal.nD Cert.StateQuantIdeal.τ).loc Cert.StateQuantIdeal.main_arg1))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1))
      ∧ r.2.sem = fun _ => 0)

def quiescent_NormRotate [hNormRotate : Cert.NormRotate.Facts] : Prop :=
  ∀ (m : (ℓ : Loc Cert.NormRotate.nD Cert.NormRotate.τ Cert.NormRotate.sig) → Buf (Elt Bits) ℓ) (g : Dev Cert.NormRotate.nD → PrngReg), Pre_NormRotate m →
    θ_run (Cert.NormRotate.defs (F := Bits)) (onTc (τ := Cert.NormRotate.τ) (Cert.NormRotate.main (F := Bits))) ⟨m, fun _ => 0, g⟩ (fun r => (∀ c : Dev Cert.NormRotate.nD,
      r.2.mem ((c.tc : Thread Cert.NormRotate.nD Cert.NormRotate.τ).loc Cert.NormRotate.main_arg0) = m ((c.tc : Thread Cert.NormRotate.nD Cert.NormRotate.τ).loc Cert.NormRotate.main_arg0)
      ∧ r.2.mem ((c.tc : Thread Cert.NormRotate.nD Cert.NormRotate.τ).loc Cert.NormRotate.main_arg1) = m ((c.tc : Thread Cert.NormRotate.nD Cert.NormRotate.τ).loc Cert.NormRotate.main_arg1)
      ∧ r.2.mem ((c.tc : Thread Cert.NormRotate.nD Cert.NormRotate.τ).loc Cert.NormRotate.main_arg2) = m ((c.tc : Thread Cert.NormRotate.nD Cert.NormRotate.τ).loc Cert.NormRotate.main_arg2)
      ∧ r.2.mem ((c.tc : Thread Cert.NormRotate.nD Cert.NormRotate.τ).loc Cert.NormRotate.main_arg3) = m ((c.tc : Thread Cert.NormRotate.nD Cert.NormRotate.τ).loc Cert.NormRotate.main_arg3)
      ∧ r.2.mem ((c.tc : Thread Cert.NormRotate.nD Cert.NormRotate.τ).loc Cert.NormRotate.main_arg4) = m ((c.tc : Thread Cert.NormRotate.nD Cert.NormRotate.τ).loc Cert.NormRotate.main_arg4))
      ∧ r.2.sem = fun _ => 0)

def quiescent_ResRef [hResRef : Cert.ResRef.Facts] : Prop :=
  ∀ (m : (ℓ : Loc Cert.ResRef.nD Cert.ResRef.τ Cert.ResRef.sig) → Buf (Elt Bits) ℓ) (g : Dev Cert.ResRef.nD → PrngReg), Pre_ResRef m →
    θ_run (Cert.ResRef.defs (F := Bits)) (onTc (τ := Cert.ResRef.τ) (Cert.ResRef.main (F := Bits))) ⟨m, fun _ => 0, g⟩ (fun r => (∀ c : Dev Cert.ResRef.nD,
      r.2.mem ((c.tc : Thread Cert.ResRef.nD Cert.ResRef.τ).loc Cert.ResRef.main_arg0) = m ((c.tc : Thread Cert.ResRef.nD Cert.ResRef.τ).loc Cert.ResRef.main_arg0)
      ∧ r.2.mem ((c.tc : Thread Cert.ResRef.nD Cert.ResRef.τ).loc Cert.ResRef.main_arg1) = m ((c.tc : Thread Cert.ResRef.nD Cert.ResRef.τ).loc Cert.ResRef.main_arg1)
      ∧ r.2.mem ((c.tc : Thread Cert.ResRef.nD Cert.ResRef.τ).loc Cert.ResRef.main_arg2) = m ((c.tc : Thread Cert.ResRef.nD Cert.ResRef.τ).loc Cert.ResRef.main_arg2)
      ∧ r.2.mem ((c.tc : Thread Cert.ResRef.nD Cert.ResRef.τ).loc Cert.ResRef.main_arg3) = m ((c.tc : Thread Cert.ResRef.nD Cert.ResRef.τ).loc Cert.ResRef.main_arg3)
      ∧ r.2.mem ((c.tc : Thread Cert.ResRef.nD Cert.ResRef.τ).loc Cert.ResRef.main_arg4) = m ((c.tc : Thread Cert.ResRef.nD Cert.ResRef.τ).loc Cert.ResRef.main_arg4))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1)
      ∧ r.2.mem ((c.tc : Thread Cert.Rotate.nD Cert.Rotate.τ).loc Cert.Rotate.main_arg2) = m ((c.tc : Thread Cert.Rotate.nD Cert.Rotate.τ).loc Cert.Rotate.main_arg2)
      ∧ r.2.mem ((c.tc : Thread Cert.Rotate.nD Cert.Rotate.τ).loc Cert.Rotate.main_arg3) = m ((c.tc : Thread Cert.Rotate.nD Cert.Rotate.τ).loc Cert.Rotate.main_arg3))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2)
      ∧ r.2.mem ((c.tc : Thread Cert.RotateIdeal.nD Cert.RotateIdeal.τ).loc Cert.RotateIdeal.main_arg3) = m ((c.tc : Thread Cert.RotateIdeal.nD Cert.RotateIdeal.τ).loc Cert.RotateIdeal.main_arg3))
      ∧ r.2.sem = fun _ => 0)

def quiescent_RotateIdeal_pre_finite [hRotateIdeal : Cert.RotateIdeal.Facts] [hPre_finite : Cert.Pre_finite.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_finite m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2)
      ∧ r.2.mem ((c.tc : Thread Cert.RotateIdeal.nD Cert.RotateIdeal.τ).loc Cert.RotateIdeal.main_arg3) = m ((c.tc : Thread Cert.RotateIdeal.nD Cert.RotateIdeal.τ).loc Cert.RotateIdeal.main_arg3))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1)
      ∧ r.2.mem ((c.tc : Thread Cert.RotateRefIdeal.nD Cert.RotateRefIdeal.τ).loc Cert.RotateRefIdeal.main_arg2) = m ((c.tc : Thread Cert.RotateRefIdeal.nD Cert.RotateRefIdeal.τ).loc Cert.RotateRefIdeal.main_arg2)
      ∧ r.2.mem ((c.tc : Thread Cert.RotateRefIdeal.nD Cert.RotateRefIdeal.τ).loc Cert.RotateRefIdeal.main_arg3) = m ((c.tc : Thread Cert.RotateRefIdeal.nD Cert.RotateRefIdeal.τ).loc Cert.RotateRefIdeal.main_arg3))
      ∧ r.2.sem = fun _ => 0)

def quiescent_RotateRefIdeal_pre_finite [hRotateRefIdeal : Cert.RotateRefIdeal.Facts] [hPre_finite : Cert.Pre_finite.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal_finite m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1)
      ∧ r.2.mem ((c.tc : Thread Cert.RotateRefIdeal.nD Cert.RotateRefIdeal.τ).loc Cert.RotateRefIdeal.main_arg2) = m ((c.tc : Thread Cert.RotateRefIdeal.nD Cert.RotateRefIdeal.τ).loc Cert.RotateRefIdeal.main_arg2)
      ∧ r.2.mem ((c.tc : Thread Cert.RotateRefIdeal.nD Cert.RotateRefIdeal.τ).loc Cert.RotateRefIdeal.main_arg3) = m ((c.tc : Thread Cert.RotateRefIdeal.nD Cert.RotateRefIdeal.τ).loc Cert.RotateRefIdeal.main_arg3))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_InProjZ_InProjZIdeal : Prop :=
  True

def algebraic_InProjZIdeal_ZRefIdeal [hInProjZIdeal : Cert.InProjZIdeal.Facts] [hZRefIdeal : Cert.ZRefIdeal.Facts] : Prop :=
  ∀ (m : (ℓ : Loc Cert.InProjZIdeal.nD Cert.InProjZIdeal.τ Cert.InProjZIdeal.sig) → Buf (Elt Ideal) ℓ) (g : Dev Cert.InProjZIdeal.nD → PrngReg)
    (m' : (ℓ : Loc Cert.ZRefIdeal.nD Cert.ZRefIdeal.τ Cert.ZRefIdeal.sig) → Buf (Elt Ideal) ℓ) (g' : Dev Cert.ZRefIdeal.nD → PrngReg), Pre_InProjZIdeal m →
    (∀ c : Dev Cert.InProjZIdeal.nD,
      m' ((c.tc : Thread Cert.ZRefIdeal.nD Cert.ZRefIdeal.τ).loc Cert.ZRefIdeal.main_arg0) = m ((c.tc : Thread Cert.InProjZIdeal.nD Cert.InProjZIdeal.τ).loc Cert.InProjZIdeal.main_arg0)
      ∧ m' ((c.tc : Thread Cert.ZRefIdeal.nD Cert.ZRefIdeal.τ).loc Cert.ZRefIdeal.main_arg1) = m ((c.tc : Thread Cert.InProjZIdeal.nD Cert.InProjZIdeal.τ).loc Cert.InProjZIdeal.main_arg1)
      ∧ m' ((c.tc : Thread Cert.ZRefIdeal.nD Cert.ZRefIdeal.τ).loc Cert.ZRefIdeal.main_arg2) = m ((c.tc : Thread Cert.InProjZIdeal.nD Cert.InProjZIdeal.τ).loc Cert.InProjZIdeal.main_arg2)) →
    ∃ (v0 : (c : Dev Cert.InProjZIdeal.nD) → Buf (Elt Ideal) ((c.tc : Thread Cert.InProjZIdeal.nD Cert.InProjZIdeal.τ).loc Cert.InProjZIdeal.main_v0)),
      θ_run (Cert.InProjZIdeal.defs (F := Ideal)) (onTc (τ := Cert.InProjZIdeal.τ) (Cert.InProjZIdeal.main (F := Ideal))) ⟨m, fun _ => 0, g⟩ (fun r => ∀ c : Dev Cert.InProjZIdeal.nD,
          r.2.mem ((c.tc : Thread Cert.InProjZIdeal.nD Cert.InProjZIdeal.τ).loc Cert.InProjZIdeal.main_v0) = v0 c
          ∧ r.2.mem ((c.tc : Thread Cert.InProjZIdeal.nD Cert.InProjZIdeal.τ).loc Cert.InProjZIdeal.main_arg0) = m ((c.tc : Thread Cert.InProjZIdeal.nD Cert.InProjZIdeal.τ).loc Cert.InProjZIdeal.main_arg0)
          ∧ r.2.mem ((c.tc : Thread Cert.InProjZIdeal.nD Cert.InProjZIdeal.τ).loc Cert.InProjZIdeal.main_arg1) = m ((c.tc : Thread Cert.InProjZIdeal.nD Cert.InProjZIdeal.τ).loc Cert.InProjZIdeal.main_arg1)
          ∧ r.2.mem ((c.tc : Thread Cert.InProjZIdeal.nD Cert.InProjZIdeal.τ).loc Cert.InProjZIdeal.main_arg2) = m ((c.tc : Thread Cert.InProjZIdeal.nD Cert.InProjZIdeal.τ).loc Cert.InProjZIdeal.main_arg2))
      ∧ θ_run (Cert.ZRefIdeal.defs (F := Ideal)) (onTc (τ := Cert.ZRefIdeal.τ) (Cert.ZRefIdeal.main (F := Ideal))) ⟨m', fun _ => 0, g'⟩ (fun r => ∀ c : Dev Cert.ZRefIdeal.nD,
          r.2.mem ((c.tc : Thread Cert.ZRefIdeal.nD Cert.ZRefIdeal.τ).loc Cert.ZRefIdeal.main_v29) = v0 c
          ∧ r.2.mem ((c.tc : Thread Cert.ZRefIdeal.nD Cert.ZRefIdeal.τ).loc Cert.ZRefIdeal.main_arg0) = m' ((c.tc : Thread Cert.ZRefIdeal.nD Cert.ZRefIdeal.τ).loc Cert.ZRefIdeal.main_arg0)
          ∧ r.2.mem ((c.tc : Thread Cert.ZRefIdeal.nD Cert.ZRefIdeal.τ).loc Cert.ZRefIdeal.main_arg1) = m' ((c.tc : Thread Cert.ZRefIdeal.nD Cert.ZRefIdeal.τ).loc Cert.ZRefIdeal.main_arg1)
          ∧ r.2.mem ((c.tc : Thread Cert.ZRefIdeal.nD Cert.ZRefIdeal.τ).loc Cert.ZRefIdeal.main_arg2) = m' ((c.tc : Thread Cert.ZRefIdeal.nD Cert.ZRefIdeal.τ).loc Cert.ZRefIdeal.main_arg2))

def preserves_InProjConv_InProjConvIdeal : Prop :=
  True

def algebraic_InProjConvIdeal_ConvRefIdeal [hInProjConvIdeal : Cert.InProjConvIdeal.Facts] [hConvRefIdeal : Cert.ConvRefIdeal.Facts] : Prop :=
  ∀ (m : (ℓ : Loc Cert.InProjConvIdeal.nD Cert.InProjConvIdeal.τ Cert.InProjConvIdeal.sig) → Buf (Elt Ideal) ℓ) (g : Dev Cert.InProjConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_InProjConvIdeal m →
    (∀ c : Dev Cert.InProjConvIdeal.nD,
      m' ((c.tc : Thread Cert.ConvRefIdeal.nD Cert.ConvRefIdeal.τ).loc Cert.ConvRefIdeal.main_arg0) = m ((c.tc : Thread Cert.InProjConvIdeal.nD Cert.InProjConvIdeal.τ).loc Cert.InProjConvIdeal.main_arg0)
      ∧ m' ((c.tc : Thread Cert.ConvRefIdeal.nD Cert.ConvRefIdeal.τ).loc Cert.ConvRefIdeal.main_arg1) = m ((c.tc : Thread Cert.InProjConvIdeal.nD Cert.InProjConvIdeal.τ).loc Cert.InProjConvIdeal.main_arg1)
      ∧ m' ((c.tc : Thread Cert.ConvRefIdeal.nD Cert.ConvRefIdeal.τ).loc Cert.ConvRefIdeal.main_arg2) = m ((c.tc : Thread Cert.InProjConvIdeal.nD Cert.InProjConvIdeal.τ).loc Cert.InProjConvIdeal.main_arg2)
      ∧ m' ((c.tc : Thread Cert.ConvRefIdeal.nD Cert.ConvRefIdeal.τ).loc Cert.ConvRefIdeal.main_arg3) = m ((c.tc : Thread Cert.InProjConvIdeal.nD Cert.InProjConvIdeal.τ).loc Cert.InProjConvIdeal.main_arg3)
      ∧ m' ((c.tc : Thread Cert.ConvRefIdeal.nD Cert.ConvRefIdeal.τ).loc Cert.ConvRefIdeal.main_arg4) = m ((c.tc : Thread Cert.InProjConvIdeal.nD Cert.InProjConvIdeal.τ).loc Cert.InProjConvIdeal.main_arg4)) →
    ∃ (v0 : (c : Dev Cert.InProjConvIdeal.nD) → Buf (Elt Ideal) ((c.tc : Thread Cert.InProjConvIdeal.nD Cert.InProjConvIdeal.τ).loc Cert.InProjConvIdeal.main_v1_0)) (v1 : (c : Dev Cert.InProjConvIdeal.nD) → Buf (Elt Ideal) ((c.tc : Thread Cert.InProjConvIdeal.nD Cert.InProjConvIdeal.τ).loc Cert.InProjConvIdeal.main_v1_1)) (v2 : (c : Dev Cert.InProjConvIdeal.nD) → Buf (Elt Ideal) ((c.tc : Thread Cert.InProjConvIdeal.nD Cert.InProjConvIdeal.τ).loc Cert.InProjConvIdeal.main_v1_2)),
      θ_run (Cert.InProjConvIdeal.defs (F := Ideal)) (onTc (τ := Cert.InProjConvIdeal.τ) (Cert.InProjConvIdeal.main (F := Ideal))) ⟨m, fun _ => 0, g⟩ (fun r => ∀ c : Dev Cert.InProjConvIdeal.nD,
          r.2.mem ((c.tc : Thread Cert.InProjConvIdeal.nD Cert.InProjConvIdeal.τ).loc Cert.InProjConvIdeal.main_v1_0) = v0 c
          ∧ r.2.mem ((c.tc : Thread Cert.InProjConvIdeal.nD Cert.InProjConvIdeal.τ).loc Cert.InProjConvIdeal.main_v1_1) = v1 c
          ∧ r.2.mem ((c.tc : Thread Cert.InProjConvIdeal.nD Cert.InProjConvIdeal.τ).loc Cert.InProjConvIdeal.main_v1_2) = v2 c
          ∧ r.2.mem ((c.tc : Thread Cert.InProjConvIdeal.nD Cert.InProjConvIdeal.τ).loc Cert.InProjConvIdeal.main_arg0) = m ((c.tc : Thread Cert.InProjConvIdeal.nD Cert.InProjConvIdeal.τ).loc Cert.InProjConvIdeal.main_arg0)
          ∧ r.2.mem ((c.tc : Thread Cert.InProjConvIdeal.nD Cert.InProjConvIdeal.τ).loc Cert.InProjConvIdeal.main_arg1) = m ((c.tc : Thread Cert.InProjConvIdeal.nD Cert.InProjConvIdeal.τ).loc Cert.InProjConvIdeal.main_arg1)
          ∧ r.2.mem ((c.tc : Thread Cert.InProjConvIdeal.nD Cert.InProjConvIdeal.τ).loc Cert.InProjConvIdeal.main_arg2) = m ((c.tc : Thread Cert.InProjConvIdeal.nD Cert.InProjConvIdeal.τ).loc Cert.InProjConvIdeal.main_arg2)
          ∧ r.2.mem ((c.tc : Thread Cert.InProjConvIdeal.nD Cert.InProjConvIdeal.τ).loc Cert.InProjConvIdeal.main_arg3) = m ((c.tc : Thread Cert.InProjConvIdeal.nD Cert.InProjConvIdeal.τ).loc Cert.InProjConvIdeal.main_arg3)
          ∧ r.2.mem ((c.tc : Thread Cert.InProjConvIdeal.nD Cert.InProjConvIdeal.τ).loc Cert.InProjConvIdeal.main_arg4) = m ((c.tc : Thread Cert.InProjConvIdeal.nD Cert.InProjConvIdeal.τ).loc Cert.InProjConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v79) = v0 c
          ∧ r.2.mem ((c.tc : Thread Cert.ConvRefIdeal.nD Cert.ConvRefIdeal.τ).loc Cert.ConvRefIdeal.main_v44) = v1 c
          ∧ r.2.mem ((c.tc : Thread Cert.ConvRefIdeal.nD Cert.ConvRefIdeal.τ).loc Cert.ConvRefIdeal.main_v37) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_StateQuant_StateQuantIdeal : Prop :=
  True

def algebraic_StateQuantIdeal_StateRefIdeal [hStateQuantIdeal : Cert.StateQuantIdeal.Facts] [hStateRefIdeal : Cert.StateRefIdeal.Facts] : Prop :=
  ∀ (m : (ℓ : Loc Cert.StateQuantIdeal.nD Cert.StateQuantIdeal.τ Cert.StateQuantIdeal.sig) → Buf (Elt Ideal) ℓ) (g : Dev Cert.StateQuantIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateQuantIdeal m →
    (∀ c : Dev Cert.StateQuantIdeal.nD,
      m' ((c.tc : Thread Cert.StateRefIdeal.nD Cert.StateRefIdeal.τ).loc Cert.StateRefIdeal.main_arg0) = m ((c.tc : Thread Cert.StateQuantIdeal.nD Cert.StateQuantIdeal.τ).loc Cert.StateQuantIdeal.main_arg0)
      ∧ m' ((c.tc : Thread Cert.StateRefIdeal.nD Cert.StateRefIdeal.τ).loc Cert.StateRefIdeal.main_arg1) = m ((c.tc : Thread Cert.StateQuantIdeal.nD Cert.StateQuantIdeal.τ).loc Cert.StateQuantIdeal.main_arg1)) →
    ∃ (v0 : (c : Dev Cert.StateQuantIdeal.nD) → Buf (Elt Ideal) ((c.tc : Thread Cert.StateQuantIdeal.nD Cert.StateQuantIdeal.τ).loc Cert.StateQuantIdeal.main_v0_0)) (v1 : (c : Dev Cert.StateQuantIdeal.nD) → Buf (Elt Ideal) ((c.tc : Thread Cert.StateQuantIdeal.nD Cert.StateQuantIdeal.τ).loc Cert.StateQuantIdeal.main_v0_1)),
      θ_run (Cert.StateQuantIdeal.defs (F := Ideal)) (onTc (τ := Cert.StateQuantIdeal.τ) (Cert.StateQuantIdeal.main (F := Ideal))) ⟨m, fun _ => 0, g⟩ (fun r => ∀ c : Dev Cert.StateQuantIdeal.nD,
          r.2.mem ((c.tc : Thread Cert.StateQuantIdeal.nD Cert.StateQuantIdeal.τ).loc Cert.StateQuantIdeal.main_v0_0) = v0 c
          ∧ r.2.mem ((c.tc : Thread Cert.StateQuantIdeal.nD Cert.StateQuantIdeal.τ).loc Cert.StateQuantIdeal.main_v0_1) = v1 c
          ∧ r.2.mem ((c.tc : Thread Cert.StateQuantIdeal.nD Cert.StateQuantIdeal.τ).loc Cert.StateQuantIdeal.main_arg0) = m ((c.tc : Thread Cert.StateQuantIdeal.nD Cert.StateQuantIdeal.τ).loc Cert.StateQuantIdeal.main_arg0)
          ∧ r.2.mem ((c.tc : Thread Cert.StateQuantIdeal.nD Cert.StateQuantIdeal.τ).loc Cert.StateQuantIdeal.main_arg1) = m ((c.tc : Thread Cert.StateQuantIdeal.nD Cert.StateQuantIdeal.τ).loc Cert.StateQuantIdeal.main_arg1))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v27) = v0 c
          ∧ r.2.mem ((c.tc : Thread Cert.StateRefIdeal.nD Cert.StateRefIdeal.τ).loc Cert.StateRefIdeal.main_v28) = v1 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1))

def bitexact_NormRotate_ResRef [hNormRotate : Cert.NormRotate.Facts] [hResRef : Cert.ResRef.Facts] : Prop :=
  ∀ (m : (ℓ : Loc Cert.NormRotate.nD Cert.NormRotate.τ Cert.NormRotate.sig) → Buf (Elt Bits) ℓ) (g : Dev Cert.NormRotate.nD → PrngReg)
    (m' : (ℓ : Loc Cert.ResRef.nD Cert.ResRef.τ Cert.ResRef.sig) → Buf (Elt Bits) ℓ) (g' : Dev Cert.ResRef.nD → PrngReg), Pre_NormRotate m →
    (∀ c : Dev Cert.NormRotate.nD,
      m' ((c.tc : Thread Cert.ResRef.nD Cert.ResRef.τ).loc Cert.ResRef.main_arg0) = m ((c.tc : Thread Cert.NormRotate.nD Cert.NormRotate.τ).loc Cert.NormRotate.main_arg0)
      ∧ m' ((c.tc : Thread Cert.ResRef.nD Cert.ResRef.τ).loc Cert.ResRef.main_arg1) = m ((c.tc : Thread Cert.NormRotate.nD Cert.NormRotate.τ).loc Cert.NormRotate.main_arg1)
      ∧ m' ((c.tc : Thread Cert.ResRef.nD Cert.ResRef.τ).loc Cert.ResRef.main_arg2) = m ((c.tc : Thread Cert.NormRotate.nD Cert.NormRotate.τ).loc Cert.NormRotate.main_arg2)
      ∧ m' ((c.tc : Thread Cert.ResRef.nD Cert.ResRef.τ).loc Cert.ResRef.main_arg3) = m ((c.tc : Thread Cert.NormRotate.nD Cert.NormRotate.τ).loc Cert.NormRotate.main_arg3)
      ∧ m' ((c.tc : Thread Cert.ResRef.nD Cert.ResRef.τ).loc Cert.ResRef.main_arg4) = m ((c.tc : Thread Cert.NormRotate.nD Cert.NormRotate.τ).loc Cert.NormRotate.main_arg4)) →
    ∃ (v0 : (c : Dev Cert.NormRotate.nD) → Buf (Elt Bits) ((c.tc : Thread Cert.NormRotate.nD Cert.NormRotate.τ).loc Cert.NormRotate.main_v30_0)),
      θ_run (Cert.NormRotate.defs (F := Bits)) (onTc (τ := Cert.NormRotate.τ) (Cert.NormRotate.main (F := Bits))) ⟨m, fun _ => 0, g⟩ (fun r => ∀ c : Dev Cert.NormRotate.nD,
          r.2.mem ((c.tc : Thread Cert.NormRotate.nD Cert.NormRotate.τ).loc Cert.NormRotate.main_v30_0) = v0 c
          ∧ r.2.mem ((c.tc : Thread Cert.NormRotate.nD Cert.NormRotate.τ).loc Cert.NormRotate.main_arg0) = m ((c.tc : Thread Cert.NormRotate.nD Cert.NormRotate.τ).loc Cert.NormRotate.main_arg0)
          ∧ r.2.mem ((c.tc : Thread Cert.NormRotate.nD Cert.NormRotate.τ).loc Cert.NormRotate.main_arg1) = m ((c.tc : Thread Cert.NormRotate.nD Cert.NormRotate.τ).loc Cert.NormRotate.main_arg1)
          ∧ r.2.mem ((c.tc : Thread Cert.NormRotate.nD Cert.NormRotate.τ).loc Cert.NormRotate.main_arg2) = m ((c.tc : Thread Cert.NormRotate.nD Cert.NormRotate.τ).loc Cert.NormRotate.main_arg2)
          ∧ r.2.mem ((c.tc : Thread Cert.NormRotate.nD Cert.NormRotate.τ).loc Cert.NormRotate.main_arg3) = m ((c.tc : Thread Cert.NormRotate.nD Cert.NormRotate.τ).loc Cert.NormRotate.main_arg3)
          ∧ r.2.mem ((c.tc : Thread Cert.NormRotate.nD Cert.NormRotate.τ).loc Cert.NormRotate.main_arg4) = m ((c.tc : Thread Cert.NormRotate.nD Cert.NormRotate.τ).loc Cert.NormRotate.main_arg4))
      ∧ θ_run (Cert.ResRef.defs (F := Bits)) (onTc (τ := Cert.ResRef.τ) (Cert.ResRef.main (F := Bits))) ⟨m', fun _ => 0, g'⟩ (fun r => ∀ c : Dev Cert.ResRef.nD,
          r.2.mem ((c.tc : Thread Cert.ResRef.nD Cert.ResRef.τ).loc Cert.ResRef.main_v1) = v0 c
          ∧ r.2.mem ((c.tc : Thread Cert.ResRef.nD Cert.ResRef.τ).loc Cert.ResRef.main_arg0) = m' ((c.tc : Thread Cert.ResRef.nD Cert.ResRef.τ).loc Cert.ResRef.main_arg0)
          ∧ r.2.mem ((c.tc : Thread Cert.ResRef.nD Cert.ResRef.τ).loc Cert.ResRef.main_arg1) = m' ((c.tc : Thread Cert.ResRef.nD Cert.ResRef.τ).loc Cert.ResRef.main_arg1)
          ∧ r.2.mem ((c.tc : Thread Cert.ResRef.nD Cert.ResRef.τ).loc Cert.ResRef.main_arg2) = m' ((c.tc : Thread Cert.ResRef.nD Cert.ResRef.τ).loc Cert.ResRef.main_arg2)
          ∧ r.2.mem ((c.tc : Thread Cert.ResRef.nD Cert.ResRef.τ).loc Cert.ResRef.main_arg3) = m' ((c.tc : Thread Cert.ResRef.nD Cert.ResRef.τ).loc Cert.ResRef.main_arg3)
          ∧ r.2.mem ((c.tc : Thread Cert.ResRef.nD Cert.ResRef.τ).loc Cert.ResRef.main_arg4) = m' ((c.tc : Thread Cert.ResRef.nD Cert.ResRef.τ).loc Cert.ResRef.main_arg4))

def preserves_Rotate_RotateIdeal : Prop :=
  True

def algebraic_RotateIdeal_RotateRefIdeal_pre_finite [hRotateIdeal : Cert.RotateIdeal.Facts] [hRotateRefIdeal : Cert.RotateRefIdeal.Facts] [hPre_finite : Cert.Pre_finite.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal_finite m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)
      ∧ m' ((c.tc : Thread Cert.RotateRefIdeal.nD Cert.RotateRefIdeal.τ).loc Cert.RotateRefIdeal.main_arg1) = m ((c.tc : Thread Cert.RotateIdeal.nD Cert.RotateIdeal.τ).loc Cert.RotateIdeal.main_arg1)
      ∧ m' ((c.tc : Thread Cert.RotateRefIdeal.nD Cert.RotateRefIdeal.τ).loc Cert.RotateRefIdeal.main_arg2) = m ((c.tc : Thread Cert.RotateIdeal.nD Cert.RotateIdeal.τ).loc Cert.RotateIdeal.main_arg2)
      ∧ m' ((c.tc : Thread Cert.RotateRefIdeal.nD Cert.RotateRefIdeal.τ).loc Cert.RotateRefIdeal.main_arg3) = m ((c.tc : Thread Cert.RotateIdeal.nD Cert.RotateIdeal.τ).loc Cert.RotateIdeal.main_arg3)) →
    ∃ (v0 : (c : Dev Cert.RotateIdeal.nD) → Buf (Elt Ideal) ((c.tc : Thread Cert.RotateIdeal.nD Cert.RotateIdeal.τ).loc Cert.RotateIdeal.main_v39_0)) (v1 : (c : Dev Cert.RotateIdeal.nD) → Buf (Elt Ideal) ((c.tc : Thread Cert.RotateIdeal.nD Cert.RotateIdeal.τ).loc Cert.RotateIdeal.main_v39_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v39_0) = v0 c
          ∧ r.2.mem ((c.tc : Thread Cert.RotateIdeal.nD Cert.RotateIdeal.τ).loc Cert.RotateIdeal.main_v39_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
          ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2)
          ∧ r.2.mem ((c.tc : Thread Cert.RotateIdeal.nD Cert.RotateIdeal.τ).loc Cert.RotateIdeal.main_arg3) = m ((c.tc : Thread Cert.RotateIdeal.nD Cert.RotateIdeal.τ).loc Cert.RotateIdeal.main_arg3))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v1) = v0 c
          ∧ r.2.mem ((c.tc : Thread Cert.RotateRefIdeal.nD Cert.RotateRefIdeal.τ).loc Cert.RotateRefIdeal.main_v34) = v1 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0)
          ∧ r.2.mem ((c.tc : Thread Cert.RotateRefIdeal.nD Cert.RotateRefIdeal.τ).loc Cert.RotateRefIdeal.main_arg1) = m' ((c.tc : Thread Cert.RotateRefIdeal.nD Cert.RotateRefIdeal.τ).loc Cert.RotateRefIdeal.main_arg1)
          ∧ r.2.mem ((c.tc : Thread Cert.RotateRefIdeal.nD Cert.RotateRefIdeal.τ).loc Cert.RotateRefIdeal.main_arg2) = m' ((c.tc : Thread Cert.RotateRefIdeal.nD Cert.RotateRefIdeal.τ).loc Cert.RotateRefIdeal.main_arg2)
          ∧ r.2.mem ((c.tc : Thread Cert.RotateRefIdeal.nD Cert.RotateRefIdeal.τ).loc Cert.RotateRefIdeal.main_arg3) = m' ((c.tc : Thread Cert.RotateRefIdeal.nD Cert.RotateRefIdeal.τ).loc Cert.RotateRefIdeal.main_arg3))

def Claim : Prop :=
  ∃ (hOutProj : Cert.OutProj.Facts) (hOutProjIdeal : Cert.OutProjIdeal.Facts) (hOutRefIdeal : Cert.OutRefIdeal.Facts) (hInProjZ : Cert.InProjZ.Facts) (hInProjZIdeal : Cert.InProjZIdeal.Facts) (hZRefIdeal : Cert.ZRefIdeal.Facts) (hInProjConv : Cert.InProjConv.Facts) (hInProjConvIdeal : Cert.InProjConvIdeal.Facts) (hConvRefIdeal : Cert.ConvRefIdeal.Facts) (hStateQuant : Cert.StateQuant.Facts) (hStateQuantIdeal : Cert.StateQuantIdeal.Facts) (hStateRefIdeal : Cert.StateRefIdeal.Facts) (hNormRotate : Cert.NormRotate.Facts) (hResRef : Cert.ResRef.Facts) (hRotate : Cert.Rotate.Facts) (hRotateIdeal : Cert.RotateIdeal.Facts) (hRotateRefIdeal : Cert.RotateRefIdeal.Facts) (hPre_finite : Cert.Pre_finite.Facts),
    quiescent_OutProj (hOutProj := hOutProj)
    ∧ quiescent_OutProjIdeal (hOutProjIdeal := hOutProjIdeal)
    ∧ quiescent_OutRefIdeal (hOutRefIdeal := hOutRefIdeal)
    ∧ quiescent_InProjZ (hInProjZ := hInProjZ)
    ∧ quiescent_InProjZIdeal (hInProjZIdeal := hInProjZIdeal)
    ∧ quiescent_ZRefIdeal (hZRefIdeal := hZRefIdeal)
    ∧ quiescent_InProjConv (hInProjConv := hInProjConv)
    ∧ quiescent_InProjConvIdeal (hInProjConvIdeal := hInProjConvIdeal)
    ∧ quiescent_ConvRefIdeal (hConvRefIdeal := hConvRefIdeal)
    ∧ quiescent_StateQuant (hStateQuant := hStateQuant)
    ∧ quiescent_StateQuantIdeal (hStateQuantIdeal := hStateQuantIdeal)
    ∧ quiescent_StateRefIdeal (hStateRefIdeal := hStateRefIdeal)
    ∧ quiescent_NormRotate (hNormRotate := hNormRotate)
    ∧ quiescent_ResRef (hResRef := hResRef)
    ∧ quiescent_Rotate (hRotate := hRotate)
    ∧ quiescent_RotateIdeal (hRotateIdeal := hRotateIdeal)
    ∧ quiescent_RotateIdeal_pre_finite (hRotateIdeal := hRotateIdeal) (hPre_finite := hPre_finite)
    ∧ quiescent_RotateRefIdeal (hRotateRefIdeal := hRotateRefIdeal)
    ∧ quiescent_RotateRefIdeal_pre_finite (hRotateRefIdeal := hRotateRefIdeal) (hPre_finite := hPre_finite)
    ∧ preserves_OutProj_OutProjIdeal
    ∧ algebraic_OutProjIdeal_OutRefIdeal (hOutProjIdeal := hOutProjIdeal) (hOutRefIdeal := hOutRefIdeal)
    ∧ preserves_InProjZ_InProjZIdeal
    ∧ algebraic_InProjZIdeal_ZRefIdeal (hInProjZIdeal := hInProjZIdeal) (hZRefIdeal := hZRefIdeal)
    ∧ preserves_InProjConv_InProjConvIdeal
    ∧ algebraic_InProjConvIdeal_ConvRefIdeal (hInProjConvIdeal := hInProjConvIdeal) (hConvRefIdeal := hConvRefIdeal)
    ∧ preserves_StateQuant_StateQuantIdeal
    ∧ algebraic_StateQuantIdeal_StateRefIdeal (hStateQuantIdeal := hStateQuantIdeal) (hStateRefIdeal := hStateRefIdeal)
    ∧ bitexact_NormRotate_ResRef (hNormRotate := hNormRotate) (hResRef := hResRef)
    ∧ preserves_Rotate_RotateIdeal
    ∧ algebraic_RotateIdeal_RotateRefIdeal_pre_finite (hRotateIdeal := hRotateIdeal) (hRotateRefIdeal := hRotateRefIdeal) (hPre_finite := hPre_finite)
-- ==== Pre_finite.lean ====
abbrev S2048x2560 : Shape := ⟨2, ![2048, 2560]⟩
abbrev S2560 : Shape := ⟨1, ![2560]⟩
abbrev S20x20 : Shape := ⟨2, ![20, 20]⟩
abbrev S_ : Shape := ⟨0, ![]⟩
abbrev S1x2560 : Shape := ⟨2, ![1, 2560]⟩

class Facts : Prop where
  bitsLt_bf16_f32 : FTy.bits .bf16 < FTy.bits .f32
  bcast_S_S2048x2560 : S_.BroadcastsInDim S2048x2560 (![] : Fin 0 → Fin S2048x2560.rank)
  bcast_S_S2560 : S_.BroadcastsInDim S2560 (![] : Fin 0 → Fin S2560.rank)
  bcast_S2560_S1x2560_1 : S2560.BroadcastsInDim S1x2560 (![1] : Fin 1 → Fin S1x2560.rank)
  bcast_S1x2560_S2048x2560_0_1 : S1x2560.BroadcastsInDim S2048x2560 (![0, 1] : Fin 2 → Fin S2048x2560.rank)
  bcast_S_S20x20 : S_.BroadcastsInDim S20x20 (![] : Fin 0 → Fin S20x20.rank)
  reducesTo_S20x20_S_d0_1 : S20x20.ReducesTo [0, 1] S_
  h_S_ : 0 < S_.numel

variable [Facts]

def fn_part1 {F : FTy → Type} [FloatOps F] (main_v13 : IVec S2048x2560 1) (main_v18 : IVec S2048x2560 1) : IVec S2048x2560 1 :=
  let main_v19 : IVec S2048x2560 1 := andi main_v13 main_v18
  main_v19

def fn {F : FTy → Type} [FloatOps F] (main_arg0 : FVec F S2048x2560 .bf16) (main_arg1 : FVec F S2048x2560 .f32) (main_arg2 : FVec F S2560 .f32) (main_arg3 : FVec F S20x20 .f32) : IVec S2048x2560 1 :=
  let main_v0 : FVec F S2048x2560 .f32 := (extf .f32 · bitsLt_bf16_f32) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  let main_v4 : FVec F S2048x2560 .f32 := Host.absf main_arg1
  let main_cst_0 : FVec F S_ .f32 := constant S_ .f32 0x7F800000#32
  let main_v5 : FVec F S2048x2560 .f32 := broadcastInDim S2048x2560 ![] bcast_S_S2048x2560 main_cst_0
  let main_v6 : IVec S2048x2560 1 := cmpf .olt main_v4 main_v5
  let main_v7 : IVec S2048x2560 1 := andi main_v3 main_v6
  let main_v8 : FVec F S2560 .f32 := Host.absf main_arg2
  let main_cst_1 : FVec F S_ .f32 := constant S_ .f32 0x7F800000#32
  let main_v9 : FVec F S2560 .f32 := broadcastInDim S2560 ![] bcast_S_S2560 main_cst_1
  let main_v10 : IVec S2560 1 := cmpf .olt main_v8 main_v9
  let main_v11 : IVec S1x2560 1 := broadcastInDim S1x2560 ![1] bcast_S2560_S1x2560_1 main_v10
  let main_v12 : IVec S2048x2560 1 := broadcastInDim S2048x2560 ![0, 1] bcast_S1x2560_S2048x2560_0_1 main_v11
  let main_v13 : IVec S2048x2560 1 := andi main_v7 main_v12
  let main_v14 : FVec F S20x20 .f32 := Host.absf main_arg3
  let main_cst_2 : FVec F S_ .f32 := constant S_ .f32 0x7F800000#32
  let main_v15 : FVec F S20x20 .f32 := broadcastInDim S20x20 ![] bcast_S_S20x20 main_cst_2
  let main_v16 : IVec S20x20 1 := cmpf .olt main_v14 main_v15
  let main_c : IVec S_ 1 := constantI S_ 1 1#1
  let main_v17 : IVec S_ 1 := (fun x v => Host.reduce IntOp.andi x v reducesTo_S20x20_S_d0_1 h_S_) main_v16 main_c
  let main_v18 : IVec S2048x2560 1 := broadcastInDim S2048x2560 ![] bcast_S_S2048x2560 main_v17
  fn_part1 (F := F) main_v13 main_v18
-- ==== OutProj.lean ====
abbrev S2048x5120 : Shape := ⟨2, ![2048, 5120]⟩
abbrev S5120x1280 : Shape := ⟨2, ![5120, 1280]⟩
abbrev S40x2560 : Shape := ⟨2, ![40, 2560]⟩
abbrev S2048x1280 : Shape := ⟨2, ![2048, 1280]⟩
abbrev S5120x128 : Shape := ⟨2, ![5120, 128]⟩
abbrev S40x128 : Shape := ⟨2, ![40, 128]⟩
abbrev S2048x128 : Shape := ⟨2, ![2048, 128]⟩
abbrev S5120x256 : Shape := ⟨2, ![5120, 256]⟩
abbrev S128x128 : Shape := ⟨2, ![128, 128]⟩
abbrev S32x128 : Shape := ⟨2, ![32, 128]⟩
abbrev S1x128 : Shape := ⟨2, ![1, 128]⟩
abbrev S256x5120 : Shape := ⟨2, ![256, 5120]⟩
abbrev S256x256 : Shape := ⟨2, ![256, 256]⟩
abbrev S256x128 : Shape := ⟨2, ![256, 128]⟩
abbrev S2048x2560 : Shape := ⟨2, ![2048, 2560]⟩

abbrev nBuf : Space → Nat
  | .hbm => 6
  | .vmem => 12
  | .smem => 0
  | _ => 0

abbrev bufTy : (tb : Table) → Fin (tcTables nBuf tb) → BufTy
  | .hbm, ⟨0, _⟩ => ⟨S2048x5120, .bf16⟩
  | .hbm, ⟨1, _⟩ => ⟨S5120x1280, .i8⟩
  | .hbm, ⟨2, _⟩ => ⟨S40x2560, .f32⟩
  | .hbm, ⟨3, _⟩ => ⟨S2048x1280, .bf16⟩
  | .hbm, ⟨4, _⟩ => ⟨S2048x1280, .bf16⟩
  | .hbm, ⟨5, _⟩ => ⟨S2048x2560, .bf16⟩
  | .local _ .vmem, ⟨0, _⟩ => ⟨S2048x5120, .bf16⟩
  | .local _ .vmem, ⟨1, _⟩ => ⟨S5120x128, .i8⟩
  | .local _ .vmem, ⟨2, _⟩ => ⟨S5120x128, .i8⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S5120x256, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2048x5120 : Shape := ⟨2, ![2048, 5120]⟩
abbrev S5120x1280 : Shape := ⟨2, ![5120, 1280]⟩
abbrev S40x2560 : Shape := ⟨2, ![40, 2560]⟩
abbrev S_ : Shape := ⟨0, ![]⟩
abbrev S40x1280 : Shape := ⟨2, ![40, 1280]⟩
abbrev S40x128x1280 : Shape := ⟨3, ![40, 128, 1280]⟩
abbrev S2048x1280 : Shape := ⟨2, ![2048, 1280]⟩
abbrev S2048x2560 : Shape := ⟨2, ![2048, 2560]⟩

abbrev nBuf : Space → Nat
  | .hbm => 40
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S5120x1280, .i8⟩
  | .hbm, ⟨2, _⟩ => ⟨S40x2560, .f32⟩
  | .hbm, ⟨3, _⟩ => ⟨S40x2560, .bf16⟩
  | .hbm, ⟨4, _⟩ => ⟨S5120x1280, .i32⟩
  | .hbm, ⟨5, _⟩ => ⟨S_, .i32⟩
  | .hbm, ⟨6, _⟩ => ⟨S5120x1280, .i32⟩
  | .hbm, ⟨7, _⟩ => ⟨S5120x1280, .i32⟩
  | .hbm, ⟨8, _⟩ => ⟨S_, .i32⟩
  | .hbm, ⟨9, _⟩ => ⟨S5120x1280, .i32⟩
  | .hbm, ⟨10, _⟩ => ⟨S5120x1280, .i1⟩
  | .hbm, ⟨11, _⟩ => ⟨S_, .i32⟩
  | .hbm, ⟨12, _⟩ => ⟨S5120x1280, .i32⟩
  | .hbm, ⟨13, _⟩ => ⟨S5120x1280, .i32⟩
  | .hbm, ⟨14, _⟩ => ⟨S5120x1280, .i32⟩
  | .hbm, ⟨15, _⟩ => ⟨S5120x1280, .bf16⟩
  | .hbm, ⟨16, _⟩ => ⟨S40x1280, .bf16⟩
  | .hbm, ⟨17, _⟩ => ⟨S40x128x1280, .bf16⟩
  | .hbm, ⟨18, _⟩ => ⟨S5120x1280, .bf16⟩
  | .hbm, ⟨19, _⟩ => ⟨S5120x1280, .bf16⟩
  | .hbm, ⟨20, _⟩ => ⟨S5120x1280, .i32⟩
  | .hbm, ⟨21, _⟩ => ⟨S_, .i32⟩
  | .hbm, ⟨22, _⟩ => ⟨S5120x1280, .i32⟩
  | .hbm, ⟨23, _⟩ => ⟨S5120x1280, .i32⟩
  | .hbm, ⟨24, _⟩ => ⟨S_, .i32⟩
  | .hbm, ⟨25, _⟩ => ⟨S5120x1280, .i32⟩
  | .hbm, ⟨26, _⟩ => ⟨S5120x1280, .i1⟩
  | .hbm, ⟨27, _⟩ => ⟨S_, .i32⟩
  | .hbm, ⟨28, _⟩ => ⟨S5120x1280, .i32⟩
  | .hbm, ⟨29, _⟩ => ⟨S5120x1280, .i32⟩
  | .hbm, ⟨30, _⟩ => ⟨S5120x1280, .i32⟩
  | .hbm, ⟨31, _⟩ => ⟨S5120x1280, .bf16⟩
  | .hbm, ⟨32, _⟩ => ⟨S40x1280, .bf16⟩
  | .hbm, ⟨33, _⟩ => ⟨S40x128x1280, .bf16⟩
  | .hbm, ⟨34, _⟩ => ⟨S5120x1280, .bf16⟩
  | .hbm, ⟨35, _⟩ => ⟨S5120x1280, .bf16⟩
  | .hbm, ⟨36, _⟩ => ⟨S2048x1280, .f32⟩
  | .hbm, ⟨37, _⟩ => ⟨S2048x1280, .f32⟩
  | .hbm, ⟨38, _⟩ => ⟨S2048x2560, .f32⟩
  | .hbm, ⟨39, _⟩ => ⟨S2048x2560, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== InProjZ.lean ====
abbrev S2048x2560 : Shape := ⟨2, ![2048, 2560]⟩
abbrev S1280x10576 : Shape := ⟨2, ![1280, 10576]⟩
abbrev S20x10576 : Shape := ⟨2, ![20, 10576]⟩
abbrev S2048x5120 : Shape := ⟨2, ![2048, 5120]⟩
abbrev S1280x512 : Shape := ⟨2, ![1280, 512]⟩
abbrev S20x512 : Shape := ⟨2, ![20, 512]⟩
abbrev S2048x512 : Shape := ⟨2, ![2048, 512]⟩
abbrev S2560x512 : Shape := ⟨2, ![2560, 512]⟩
abbrev S64x512 : Shape := ⟨2, ![64, 512]⟩
abbrev S128x512 : Shape := ⟨2, ![128, 512]⟩
abbrev S1x512 : Shape := ⟨2, ![1, 512]⟩
abbrev S256x2560 : Shape := ⟨2, ![256, 2560]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2560, .bf16⟩
  | .hbm, ⟨1, _⟩ => ⟨S1280x10576, .i8⟩
  | .hbm, ⟨2, _⟩ => ⟨S20x10576, .f32⟩
  | .hbm, ⟨3, _⟩ => ⟨S2048x5120, .f32⟩
  | .local _ .vmem, ⟨0, _⟩ => ⟨S2048x2560, .bf16⟩
  | .local _ .vmem, ⟨1, _⟩ => ⟨S1280x512, .i8⟩
  | .local _ .vmem, ⟨2, _⟩ => ⟨S1280x512, .i8⟩
  | .local _ .vmem, ⟨3, _⟩ => ⟨S20x512, .f32⟩
  | .local _ .vmem, ⟨4, _⟩ => ⟨S20x512, .f32⟩
  | .local _ .vmem, ⟨5, _⟩ => ⟨S2048x512, .f32⟩
  | .local _ .vmem, ⟨6, _⟩ => ⟨S2048x512, .f32⟩
  | .local _ .vmem, ⟨7, _⟩ => ⟨S2560x512, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ZRefIdeal.lean ====
abbrev S2048x2560 : Shape := ⟨2, ![2048, 2560]⟩
abbrev S1280x10576 : Shape := ⟨2, ![1280, 10576]⟩
abbrev S20x10576 : Shape := ⟨2, ![20, 10576]⟩
abbrev S20x64x10576 : Shape := ⟨3, ![20, 64, 10576]⟩
abbrev S_ : Shape := ⟨0, ![]⟩
abbrev S2048x1280 : Shape := ⟨2, ![2048, 1280]⟩
abbrev S2048x10576 : Shape := ⟨2, ![2048, 10576]⟩
abbrev S2048x5120 : Shape := ⟨2, ![2048, 5120]⟩

abbrev nBuf : Space → Nat
  | .hbm => 47
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S1280x10576, .i8⟩
  | .hbm, ⟨2, _⟩ => ⟨S20x10576, .f32⟩
  | .hbm, ⟨3, _⟩ => ⟨S20x10576, .bf16⟩
  | .hbm, ⟨4, _⟩ => ⟨S20x64x10576, .bf16⟩
  | .hbm, ⟨5, _⟩ => ⟨S1280x10576, .bf16⟩
  | .hbm, ⟨6, _⟩ => ⟨S1280x10576, .i32⟩
  | .hbm, ⟨7, _⟩ => ⟨S_, .i32⟩
  | .hbm, ⟨8, _⟩ => ⟨S1280x10576, .i32⟩
  | .hbm, ⟨9, _⟩ => ⟨S1280x10576, .i32⟩
  | .hbm, ⟨10, _⟩ => ⟨S_, .i32⟩
  | .hbm, ⟨11, _⟩ => ⟨S1280x10576, .i32⟩
  | .hbm, ⟨12, _⟩ => ⟨S1280x10576, .i1⟩
  | .hbm, ⟨13, _⟩ => ⟨S_, .i32⟩
  | .hbm, ⟨14, _⟩ => ⟨S1280x10576, .i32⟩
  | .hbm, ⟨15, _⟩ => ⟨S1280x10576, .i32⟩
  | .hbm, ⟨16, _⟩ => ⟨S1280x10576, .i32⟩
  | .hbm, ⟨17, _⟩ => ⟨S1280x10576, .bf16⟩
  | .hbm, ⟨18, _⟩ => ⟨S1280x10576, .bf16⟩
  | .hbm, ⟨19, _⟩ => ⟨S1280x10576, .i32⟩
  | .hbm, ⟨20, _⟩ => ⟨S_, .i32⟩
  | .hbm, ⟨21, _⟩ => ⟨S1280x10576, .i32⟩
  | .hbm, ⟨22, _⟩ => ⟨S1280x10576, .i32⟩
  | .hbm, ⟨23, _⟩ => ⟨S_, .i32⟩
  | .hbm, ⟨24, _⟩ => ⟨S1280x10576, .i32⟩
  | .hbm, ⟨25, _⟩ => ⟨S1280x10576, .i1⟩
  | .hbm, ⟨26, _⟩ => ⟨S_, .i32⟩
  | .hbm, ⟨27, _⟩ => ⟨S1280x10576, .i32⟩
  | .hbm, ⟨28, _⟩ => ⟨S1280x10576, .i32⟩
  | .hbm, ⟨29, _⟩ => ⟨S1280x10576, .i32⟩
  | .hbm, ⟨30, _⟩ => ⟨S1280x10576, .bf16⟩
  | .hbm, ⟨31, _⟩ => ⟨S1280x10576, .bf16⟩
  | .hbm, ⟨32, _⟩ => ⟨S2048x1280, .bf16⟩
  | .hbm, ⟨33, _⟩ => ⟨S2048x10576, .f32⟩
  | .hbm, ⟨34, _⟩ => ⟨S2048x1280, .bf16⟩
  | .hbm, ⟨35, _⟩ => ⟨S2048x10576, .f32⟩
  | .hbm, ⟨36, _⟩ => ⟨S2048x10576, .f32⟩
  | .hbm, ⟨37, _⟩ => ⟨S2048x5120, .f32⟩
  | .hbm, ⟨38, _⟩ => ⟨S2048x5120, .f32⟩
  | .hbm, ⟨39, _⟩ => ⟨S2048x5120, .f32⟩
  | .hbm, ⟨40, _⟩ => ⟨S_, .f32⟩
  | .hbm, ⟨41, _⟩ => ⟨S2048x5120, .f32⟩
  | .hbm, ⟨42, _⟩ => ⟨S2048x5120, .f32⟩
  | .hbm, ⟨43, _⟩ => ⟨S_, .f32⟩
  | .hbm, ⟨44, _⟩ => ⟨S2048x5120, .f32⟩
  | .hbm, ⟨45, _⟩ => ⟨S2048x5120, .f32⟩
  | .hbm, ⟨46, _⟩ => ⟨S2048x5120, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== InProjConv.lean ====
abbrev S2048x2560 : Shape := ⟨2, ![2048, 2560]⟩
abbrev S1280x10576 : Shape := ⟨2, ![1280, 10576]⟩
abbrev S20x10576 : Shape := ⟨2, ![20, 10576]⟩
abbrev S4x5376 : Shape := ⟨2, ![4, 5376]⟩
abbrev S5376 : Shape := ⟨1, ![5376]⟩
abbrev S1x5376 : Shape := ⟨2, ![1, 5376]⟩
abbrev S2048x5376 : Shape := ⟨2, ![2048, 5376]⟩
abbrev S2x3x5376 : Shape := ⟨3, ![2, 3, 5376]⟩
abbrev S2x5376 : Shape := ⟨2, ![2, 5376]⟩
abbrev S1280x256 : Shape := ⟨2, ![1280, 256]⟩
abbrev S20x256 : Shape := ⟨2, ![20, 256]⟩
abbrev S4x256 : Shape := ⟨2, ![4, 256]⟩
abbrev S1x256 : Shape := ⟨2, ![1, 256]⟩
abbrev S2048x256 : Shape := ⟨2, ![2048, 256]⟩
abbrev S2x3x256 : Shape := ⟨3, ![2, 3, 256]⟩
abbrev S2x256 : Shape := ⟨2, ![2, 256]⟩
abbrev S2560x256 : Shape := ⟨2, ![2560, 256]⟩
abbrev S2x1032x128 : Shape := ⟨3, ![2, 1032, 128]⟩
abbrev S64x256 : Shape := ⟨2, ![64, 256]⟩
abbrev S128x256 : Shape := ⟨2, ![128, 256]⟩
abbrev S8x128 : Shape := ⟨2, ![8, 128]⟩
abbrev S1x8x128 : Shape := ⟨3, ![1, 8, 128]⟩
abbrev S256x2560 : Shape := ⟨2, ![256, 2560]⟩
abbrev S256x256 : Shape := ⟨2, ![256, 256]⟩
abbrev S256x128 : Shape := ⟨2, ![256, 128]⟩
abbrev S1x256x128 : Shape := ⟨3, ![1, 256, 128]⟩
abbrev S1x128 : Shape := ⟨2, ![1, 128]⟩
abbrev S1x3x128 : Shape := ⟨3, ![1, 3, 128]⟩
abbrev S3x128 : Shape := ⟨2, ![3, 128]⟩
abbrev S128 : Shape := ⟨1, ![128]⟩

abbrev nBuf : Space → Nat
  | .hbm => 9
  | .vmem => 17
  | .smem => 0
  | _ => 0

abbrev bufTy : (tb : Table) → Fin (tcTables nBuf tb) → BufTy
  | .hbm, ⟨0, _⟩ => ⟨S2048x2560, .bf16⟩
  | .hbm, ⟨1, _⟩ => ⟨S1280x10576, .i8⟩
  | .hbm, ⟨2, _⟩ => ⟨S20x10576, .f32⟩
  | .hbm, ⟨3, _⟩ => ⟨S4x5376, .f32⟩
  | .hbm, ⟨4, _⟩ => ⟨S5376, .f32⟩
  | .hbm, ⟨5, _⟩ => ⟨S1x5376, .f32⟩
  | .hbm, ⟨6, _⟩ => ⟨S2048x5376, .f32⟩
  | .hbm, ⟨7, _⟩ => ⟨S2x3x5376, .i8⟩
  | .hbm, ⟨8, _⟩ => ⟨S2x5376, .f32⟩
  | .local _ .vmem, ⟨0, _⟩ => ⟨S2048x2560, .bf16⟩
  | .local _ .vmem, ⟨1, _⟩ => ⟨S1280x256, .i8⟩
  | .local _ .vmem, ⟨2, _⟩ => ⟨S1280x256, .i8⟩
  | .local _ .vmem, ⟨3, _⟩ => ⟨S20x256, .f32⟩
  | .local _ .vmem, ⟨4, _⟩ => ⟨S20x256, .f32⟩
  | .local _ .vmem, ⟨5, _⟩ => ⟨S4x256, .f32⟩
  | .local _ .vmem, ⟨6, _⟩ => ⟨S4x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S2x3x256, .i8⟩
  | .local _ .vmem, ⟨12, _⟩ => ⟨S2x3x256, .i8⟩
  | .local _ .vmem, ⟨13, _⟩ => ⟨S2x256, .f32⟩
  | .local _ .vmem, ⟨14, _⟩ => ⟨S2x256, .f32⟩
  | .local _ .vmem, ⟨15, _⟩ => ⟨S2560x256, .bf16⟩
  | .local _ .vmem, ⟨16, _⟩ => ⟨S2x1032x128, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x3x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S2048x2560 : Shape := ⟨2, ![2048, 2560]⟩
abbrev S1280x10576 : Shape := ⟨2, ![1280, 10576]⟩
abbrev S20x10576 : Shape := ⟨2, ![20, 10576]⟩
abbrev S4x5376 : Shape := ⟨2, ![4, 5376]⟩
abbrev S5376 : Shape := ⟨1, ![5376]⟩
abbrev S2x1024x2560 : Shape := ⟨3, ![2, 1024, 2560]⟩
abbrev S20x64x10576 : Shape := ⟨3, ![20, 64, 10576]⟩
abbrev S_ : Shape := ⟨0, ![]⟩
abbrev S2x1024x1280 : Shape := ⟨3, ![2, 1024, 1280]⟩
abbrev S2x1024x10576 : Shape := ⟨3, ![2, 1024, 10576]⟩
abbrev S2x1024x5376 : Shape := ⟨3, ![2, 1024, 5376]⟩
abbrev S2x3x5376 : Shape := ⟨3, ![2, 3, 5376]⟩
abbrev S2x5376 : Shape := ⟨2, ![2, 5376]⟩
abbrev S2x1x5376 : Shape := ⟨3, ![2, 1, 5376]⟩
abbrev S2x1027x5376 : Shape := ⟨3, ![2, 1027, 5376]⟩
abbrev S1x5376 : Shape := ⟨2, ![1, 5376]⟩
abbrev S1x1x5376 : Shape := ⟨3, ![1, 1, 5376]⟩
abbrev S2048x5376 : Shape := ⟨2, ![2048, 5376]⟩

abbrev nBuf : Space → Nat
  | .hbm => 115
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S1280x10576, .i8⟩
  | .hbm, ⟨2, _⟩ => ⟨S20x10576, .f32⟩
  | .hbm, ⟨3, _⟩ => ⟨S4x5376, .f32⟩
  | .hbm, ⟨4, _⟩ => ⟨S5376, .f32⟩
  | .hbm, ⟨5, _⟩ => ⟨S2x1024x2560, .bf16⟩
  | .hbm, ⟨6, _⟩ => ⟨S20x10576, .bf16⟩
  | .hbm, ⟨7, _⟩ => ⟨S20x64x10576, .bf16⟩
  | .hbm, ⟨8, _⟩ => ⟨S1280x10576, .bf16⟩
  | .hbm, ⟨9, _⟩ => ⟨S1280x10576, .i32⟩
  | .hbm, ⟨10, _⟩ => ⟨S_, .i32⟩
  | .hbm, ⟨11, _⟩ => ⟨S1280x10576, .i32⟩
  | .hbm, ⟨12, _⟩ => ⟨S1280x10576, .i32⟩
  | .hbm, ⟨13, _⟩ => ⟨S_, .i32⟩
  | .hbm, ⟨14, _⟩ => ⟨S1280x10576, .i32⟩
  | .hbm, ⟨15, _⟩ => ⟨S1280x10576, .i1⟩
  | .hbm, ⟨16, _⟩ => ⟨S_, .i32⟩
  | .hbm, ⟨17, _⟩ => ⟨S1280x10576, .i32⟩
  | .hbm, ⟨18, _⟩ => ⟨S1280x10576, .i32⟩
  | .hbm, ⟨19, _⟩ => ⟨S1280x10576, .i32⟩
  | .hbm, ⟨20, _⟩ => ⟨S1280x10576, .bf16⟩
  | .hbm, ⟨21, _⟩ => ⟨S1280x10576, .bf16⟩
  | .hbm, ⟨22, _⟩ => ⟨S1280x10576, .i32⟩
  | .hbm, ⟨23, _⟩ => ⟨S_, .i32⟩
  | .hbm, ⟨24, _⟩ => ⟨S1280x10576, .i32⟩
  | .hbm, ⟨25, _⟩ => ⟨S1280x10576, .i32⟩
  | .hbm, ⟨26, _⟩ => ⟨S_, .i32⟩
  | .hbm, ⟨27, _⟩ => ⟨S1280x10576, .i32⟩
  | .hbm, ⟨28, _⟩ => ⟨S1280x10576, .i1⟩
  | .hbm, ⟨29, _⟩ => ⟨S_, .i32⟩
  | .hbm, ⟨30, _⟩ => ⟨S1280x10576, .i32⟩
  | .hbm, ⟨31, _⟩ => ⟨S1280x10576, .i32⟩
  | .hbm, ⟨32, _⟩ => ⟨S1280x10576, .i32⟩
  | .hbm, ⟨33, _⟩ => ⟨S1280x10576, .bf16⟩
  | .hbm, ⟨34, _⟩ => ⟨S1280x10576, .bf16⟩
  | .hbm, ⟨35, _⟩ => ⟨S2x1024x1280, .bf16⟩
  | .hbm, ⟨36, _⟩ => ⟨S2x1024x10576, .f32⟩
  | .hbm, ⟨37, _⟩ => ⟨S2x1024x1280, .bf16⟩
  | .hbm, ⟨38, _⟩ => ⟨S2x1024x10576, .f32⟩
  | .hbm, ⟨39, _⟩ => ⟨S2x1024x10576, .f32⟩
  | .hbm, ⟨40, _⟩ => ⟨S2x1024x5376, .f32⟩
  | .hbm, ⟨41, _⟩ => ⟨S2x3x5376, .f32⟩
  | .hbm, ⟨42, _⟩ => ⟨S2x3x5376, .f32⟩
  | .hbm, ⟨43, _⟩ => ⟨S_, .f32⟩
  | .hbm, ⟨44, _⟩ => ⟨S2x5376, .f32⟩
  | .hbm, ⟨45, _⟩ => ⟨S_, .f32⟩
  | .hbm, ⟨46, _⟩ => ⟨S2x5376, .f32⟩
  | .hbm, ⟨47, _⟩ => ⟨S2x5376, .i1⟩
  | .hbm, ⟨48, _⟩ => ⟨S_, .f32⟩
  | .hbm, ⟨49, _⟩ => ⟨S2x5376, .f32⟩
  | .hbm, ⟨50, _⟩ => ⟨S2x5376, .f32⟩
  | .hbm, ⟨51, _⟩ => ⟨S_, .f32⟩
  | .hbm, ⟨52, _⟩ => ⟨S_, .f32⟩
  | .hbm, ⟨53, _⟩ => ⟨S2x5376, .f32⟩
  | .hbm, ⟨54, _⟩ => ⟨S2x5376, .f32⟩
  | .hbm, ⟨55, _⟩ => ⟨S2x1x5376, .f32⟩
  | .hbm, ⟨56, _⟩ => ⟨S2x3x5376, .f32⟩
  | .hbm, ⟨57, _⟩ => ⟨S2x3x5376, .f32⟩
  | .hbm, ⟨58, _⟩ => ⟨S2x3x5376, .f32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S2x3x5376, .f32⟩
  | .hbm, ⟨63, _⟩ => ⟨S2x3x5376, .f32⟩
  | .hbm, ⟨64, _⟩ => ⟨S_, .f32⟩
  | .hbm, ⟨65, _⟩ => ⟨S2x3x5376, .f32⟩
  | .hbm, ⟨66, _⟩ => ⟨S2x3x5376, .f32⟩
  | .hbm, ⟨67, _⟩ => ⟨S2x3x5376, .i32⟩
  | .hbm, ⟨68, _⟩ => ⟨S2x3x5376, .i8⟩
  | .hbm, ⟨69, _⟩ => ⟨S_, .i32⟩
  | .hbm, ⟨70, _⟩ => ⟨S_, .f32⟩
  | .hbm, ⟨71, _⟩ => ⟨S2x1027x5376, .f32⟩
  | .hbm, ⟨72, _⟩ => ⟨S1x5376, .f32⟩
  | .hbm, ⟨73, _⟩ => ⟨S5376, .f32⟩
  | .hbm, ⟨74, _⟩ => ⟨S2x1024x5376, .f32⟩
  | .hbm, ⟨75, _⟩ => ⟨S1x1x5376, .f32⟩
  | .hbm, ⟨76, _⟩ => ⟨S2x1024x5376, .f32⟩
  | .hbm, ⟨77, _⟩ => ⟨S2x1024x5376, .f32⟩
  | .hbm, ⟨78, _⟩ => ⟨S_, .f32⟩
  | .hbm, ⟨79, _⟩ => ⟨S2x1024x5376, .f32⟩
  | .hbm, ⟨80, _⟩ => ⟨S2x1024x5376, .f32⟩
  | .hbm, ⟨81, _⟩ => ⟨S1x5376, .f32⟩
  | .hbm, ⟨82, _⟩ => ⟨S5376, .f32⟩
  | .hbm, ⟨83, _⟩ => ⟨S2x1024x5376, .f32⟩
  | .hbm, ⟨84, _⟩ => ⟨S1x1x5376, .f32⟩
  | .hbm, ⟨85, _⟩ => ⟨S2x1024x5376, .f32⟩
  | .hbm, ⟨86, _⟩ => ⟨S2x1024x5376, .f32⟩
  | .hbm, ⟨87, _⟩ => ⟨S2x1024x5376, .f32⟩
  | .hbm, ⟨88, _⟩ => ⟨S1x5376, .f32⟩
  | .hbm, ⟨89, _⟩ => ⟨S5376, .f32⟩
  | .hbm, ⟨90, _⟩ => ⟨S2x1024x5376, .f32⟩
  | .hbm, ⟨91, _⟩ => ⟨S1x1x5376, .f32⟩
  | .hbm, ⟨92, _⟩ => ⟨S2x1024x5376, .f32⟩
  | .hbm, ⟨93, _⟩ => ⟨S2x1024x5376, .f32⟩
  | .hbm, ⟨94, _⟩ => ⟨S2x1024x5376, .f32⟩
  | .hbm, ⟨95, _⟩ => ⟨S1x5376, .f32⟩
  | .hbm, ⟨96, _⟩ => ⟨S5376, .f32⟩
  | .hbm, ⟨97, _⟩ => ⟨S2x1024x5376, .f32⟩
  | .hbm, ⟨98, _⟩ => ⟨S1x1x5376, .f32⟩
  | .hbm, ⟨99, _⟩ => ⟨S2x1024x5376, .f32⟩
  | .hbm, ⟨100, _⟩ => ⟨S2x1024x5376, .f32⟩
  | .hbm, ⟨101, _⟩ => ⟨S2x1024x5376, .f32⟩
  | .hbm, ⟨102, _⟩ => ⟨S1x1x5376, .f32⟩
  | .hbm, ⟨103, _⟩ => ⟨S2x1024x5376, .f32⟩
  | .hbm, ⟨104, _⟩ => ⟨S2x1024x5376, .f32⟩
  | .hbm, ⟨105, _⟩ => ⟨S2x1024x5376, .f32⟩
  | .hbm, ⟨106, _⟩ => ⟨S2x1024x5376, .f32⟩
  | .hbm, ⟨107, _⟩ => ⟨S_, .f32⟩
  | .hbm, ⟨108, _⟩ => ⟨S2x1024x5376, .f32⟩
  | .hbm, ⟨109, _⟩ => ⟨S2x1024x5376, .f32⟩
  | .hbm, ⟨110, _⟩ => ⟨S_, .f32⟩
  | .hbm, ⟨111, _⟩ => ⟨S2x1024x5376, .f32⟩
  | .hbm, ⟨112, _⟩ => ⟨S2x1024x5376, .f32⟩
  | .hbm, ⟨113, _⟩ => ⟨S2x1024x5376, .f32⟩
  | .hbm, ⟨114, _⟩ => ⟨S2048x5376, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_c_9 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_call5_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call6_v0 : Ref sig .tc := ⟨.hbm, 105, rfl⟩
abbrev main_call6_v1 : Ref sig .tc := ⟨.hbm, 106, rfl⟩
abbrev main_call6_cst : Ref sig .tc := ⟨.hbm, 107, rfl⟩
abbrev main_call6_v2 : Ref sig .tc := ⟨.hbm, 108, rfl⟩
abbrev main_call6_v3 : Ref sig .tc := ⟨.hbm, 109, rfl⟩
abbrev main_call6_cst_0 : Ref sig .tc := ⟨.hbm, 110, rfl⟩
abbrev main_call6_v4 : Ref sig .tc := ⟨.hbm, 111, rfl⟩
abbrev main_call6_v5 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== StateQuant.lean ====
abbrev S2x128x5120 : Shape := ⟨3, ![2, 128, 5120]⟩
abbrev S80x4 : Shape := ⟨2, ![80, 4]⟩
abbrev S2x80x64x128 : Shape := ⟨4, ![2, 80, 64, 128]⟩
abbrev S2x1x4 : Shape := ⟨3, ![2, 1, 4]⟩
abbrev S1x128x5120 : Shape := ⟨3, ![1, 128, 5120]⟩
abbrev S1x80x64x128 : Shape := ⟨4, ![1, 80, 64, 128]⟩
abbrev S1x1x4 : Shape := ⟨3, ![1, 1, 4]⟩
abbrev S5120x128 : Shape := ⟨2, ![5120, 128]⟩
abbrev S1x128x128 : Shape := ⟨3, ![1, 128, 128]⟩
abbrev S128x128 : Shape := ⟨2, ![128, 128]⟩
abbrev S64x128 : Shape := ⟨2, ![64, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x4 : Shape := ⟨2, ![1, 4]⟩
abbrev S1x1x64x128 : Shape := ⟨4, ![1, 1, 64, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x128x5120, .f32⟩
  | .hbm, ⟨1, _⟩ => ⟨S80x4, .f32⟩
  | .hbm, ⟨2, _⟩ => ⟨S2x80x64x128, .i8⟩
  | .hbm, ⟨3, _⟩ => ⟨S2x1x4, .f32⟩
  | .local _ .vmem, ⟨0, _⟩ => ⟨S1x128x5120, .f32⟩
  | .local _ .vmem, ⟨1, _⟩ => ⟨S1x128x5120, .f32⟩
  | .local _ .vmem, ⟨2, _⟩ => ⟨S80x4, .f32⟩
  | .local _ .vmem, ⟨3, _⟩ => ⟨S1x80x64x128, .i8⟩
  | .local _ .vmem, ⟨4, _⟩ => ⟨S1x80x64x128, .i8⟩
  | .local _ .vmem, ⟨5, _⟩ => ⟨S1x1x4, .f32⟩
  | .local _ .vmem, ⟨6, _⟩ => ⟨S1x1x4, .f32⟩
  | .local _ .vmem, ⟨7, _⟩ => ⟨S5120x128, .f32⟩
  | _, _ => ⟨S2x128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x80x64x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== StateRefIdeal.lean ====
abbrev S2x128x5120 : Shape := ⟨3, ![2, 128, 5120]⟩
abbrev S80x4 : Shape := ⟨2, ![80, 4]⟩
abbrev S2x5120x128 : Shape := ⟨3, ![2, 5120, 128]⟩
abbrev S2x80x64x128 : Shape := ⟨4, ![2, 80, 64, 128]⟩
abbrev S_ : Shape := ⟨0, ![]⟩
abbrev S2x80 : Shape := ⟨2, ![2, 80]⟩
abbrev S2x80x1 : Shape := ⟨3, ![2, 80, 1]⟩
abbrev S1x80x4 : Shape := ⟨3, ![1, 80, 4]⟩
abbrev S2x80x4 : Shape := ⟨3, ![2, 80, 4]⟩
abbrev S2x4 : Shape := ⟨2, ![2, 4]⟩
abbrev S2x1x4 : Shape := ⟨3, ![2, 1, 4]⟩
abbrev S2x80x1x1 : Shape := ⟨4, ![2, 80, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x128x5120, .f32⟩
  | .hbm, ⟨1, _⟩ => ⟨S80x4, .f32⟩
  | .hbm, ⟨2, _⟩ => ⟨S2x5120x128, .f32⟩
  | .hbm, ⟨3, _⟩ => ⟨S2x80x64x128, .f32⟩
  | .hbm, ⟨4, _⟩ => ⟨S2x80x64x128, .f32⟩
  | .hbm, ⟨5, _⟩ => ⟨S_, .f32⟩
  | .hbm, ⟨6, _⟩ => ⟨S2x80, .f32⟩
  | .hbm, ⟨7, _⟩ => ⟨S2x80x1, .f32⟩
  | .hbm, ⟨8, _⟩ => ⟨S1x80x4, .f32⟩
  | .hbm, ⟨9, _⟩ => ⟨S2x80x4, .f32⟩
  | .hbm, ⟨10, _⟩ => ⟨S2x80x4, .f32⟩
  | .hbm, ⟨11, _⟩ => ⟨S2x80x4, .f32⟩
  | .hbm, ⟨12, _⟩ => ⟨S_, .f32⟩
  | .hbm, ⟨13, _⟩ => ⟨S2x4, .f32⟩
  | .hbm, ⟨14, _⟩ => ⟨S_, .f32⟩
  | .hbm, ⟨15, _⟩ => ⟨S2x4, .f32⟩
  | .hbm, ⟨16, _⟩ => ⟨S2x4, .i1⟩
  | .hbm, ⟨17, _⟩ => ⟨S_, .f32⟩
  | .hbm, ⟨18, _⟩ => ⟨S2x4, .f32⟩
  | .hbm, ⟨19, _⟩ => ⟨S2x4, .f32⟩
  | .hbm, ⟨20, _⟩ => ⟨S_, .f32⟩
  | .hbm, ⟨21, _⟩ => ⟨S_, .f32⟩
  | .hbm, ⟨22, _⟩ => ⟨S2x4, .f32⟩
  | .hbm, ⟨23, _⟩ => ⟨S2x4, .f32⟩
  | .hbm, ⟨24, _⟩ => ⟨S1x80x4, .f32⟩
  | .hbm, ⟨25, _⟩ => ⟨S2x1x4, .f32⟩
  | .hbm, ⟨26, _⟩ => ⟨S2x80x4, .f32⟩
  | .hbm, ⟨27, _⟩ => ⟨S2x80x4, .f32⟩
  | .hbm, ⟨28, _⟩ => ⟨S2x80x4, .f32⟩
  | .hbm, ⟨29, _⟩ => ⟨S_, .f32⟩
  | .hbm, ⟨30, _⟩ => ⟨S2x80, .f32⟩
  | .hbm, ⟨31, _⟩ => ⟨S2x80x1x1, .f32⟩
  | .hbm, ⟨32, _⟩ => ⟨S2x80x64x128, .f32⟩
  | .hbm, ⟨33, _⟩ => ⟨S2x80x64x128, .f32⟩
  | .hbm, ⟨34, _⟩ => ⟨S2x80x64x128, .f32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S2x80x64x128, .f32⟩
  | .hbm, ⟨39, _⟩ => ⟨S2x80x64x128, .f32⟩
  | .hbm, ⟨40, _⟩ => ⟨S_, .f32⟩
  | .hbm, ⟨41, _⟩ => ⟨S2x80x64x128, .f32⟩
  | .hbm, ⟨42, _⟩ => ⟨S2x80x64x128, .f32⟩
  | .hbm, ⟨43, _⟩ => ⟨S2x80x64x128, .i32⟩
  | .hbm, ⟨44, _⟩ => ⟨S2x80x64x128, .i8⟩
  | .hbm, ⟨45, _⟩ => ⟨S2x1x4, .f32⟩
  | _, _ => ⟨S2x128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_c_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== NormRotate.lean ====
abbrev S2048x2560 : Shape := ⟨2, ![2048, 2560]⟩
abbrev S2560 : Shape := ⟨1, ![2560]⟩
abbrev S20x20 : Shape := ⟨2, ![20, 20]⟩
abbrev S256x256 : Shape := ⟨2, ![256, 256]⟩
abbrev S4x4 : Shape := ⟨2, ![4, 4]⟩
abbrev S_ : Shape := ⟨0, ![]⟩
abbrev S4x1x4x1 : Shape := ⟨4, ![4, 1, 4, 1]⟩
abbrev S1x20x1x20 : Shape := ⟨4, ![1, 20, 1, 20]⟩
abbrev S4x20x4x20 : Shape := ⟨4, ![4, 20, 4, 20]⟩
abbrev S80x80 : Shape := ⟨2, ![80, 80]⟩
abbrev S80x160 : Shape := ⟨2, ![80, 160]⟩
abbrev S1x2560 : Shape := ⟨2, ![1, 2560]⟩
abbrev S256x2560 : Shape := ⟨2, ![256, 2560]⟩
abbrev S5120x128 : Shape := ⟨2, ![5120, 128]⟩
abbrev S256 : Shape := ⟨1, ![256]⟩
abbrev S256x1 : Shape := ⟨2, ![256, 1]⟩
abbrev S1x256 : Shape := ⟨2, ![1, 256]⟩
abbrev S256x128 : Shape := ⟨2, ![256, 128]⟩
abbrev S160x128 : Shape := ⟨2, ![160, 128]⟩
abbrev S80x128 : Shape := ⟨2, ![80, 128]⟩
abbrev S160x256 : Shape := ⟨2, ![160, 256]⟩
abbrev S80x256 : Shape := ⟨2, ![80, 256]⟩

abbrev nBuf : Space → Nat
  | .hbm => 41
  | .vmem => 14
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .f32⟩
  | .hbm, ⟨2, _⟩ => ⟨S2560, .f32⟩
  | .hbm, ⟨3, _⟩ => ⟨S20x20, .f32⟩
  | .hbm, ⟨4, _⟩ => ⟨S256x256, .bf16⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x1x4x1, .f32⟩
  | .hbm, ⟨13, _⟩ => ⟨S_, .f32⟩
  | .hbm, ⟨14, _⟩ => ⟨S20x20, .f32⟩
  | .hbm, ⟨15, _⟩ => ⟨S20x20, .f32⟩
  | .hbm, ⟨16, _⟩ => ⟨S1x20x1x20, .f32⟩
  | .hbm, ⟨17, _⟩ => ⟨S4x20x4x20, .f32⟩
  | .hbm, ⟨18, _⟩ => ⟨S4x20x4x20, .f32⟩
  | .hbm, ⟨19, _⟩ => ⟨S4x20x4x20, .f32⟩
  | .hbm, ⟨20, _⟩ => ⟨S80x80, .f32⟩
  | .hbm, ⟨21, _⟩ => ⟨S80x80, .i32⟩
  | .hbm, ⟨22, _⟩ => ⟨S_, .i32⟩
  | .hbm, ⟨23, _⟩ => ⟨S80x80, .i32⟩
  | .hbm, ⟨24, _⟩ => ⟨S80x80, .i32⟩
  | .hbm, ⟨25, _⟩ => ⟨S80x80, .f32⟩
  | .hbm, ⟨26, _⟩ => ⟨S80x80, .f32⟩
  | .hbm, ⟨27, _⟩ => ⟨S80x80, .i32⟩
  | .hbm, ⟨28, _⟩ => ⟨S_, .i32⟩
  | .hbm, ⟨29, _⟩ => ⟨S80x80, .i32⟩
  | .hbm, ⟨30, _⟩ => ⟨S80x80, .i32⟩
  | .hbm, ⟨31, _⟩ => ⟨S80x80, .f32⟩
  | .hbm, ⟨32, _⟩ => ⟨S80x80, .bf16⟩
  | .hbm, ⟨33, _⟩ => ⟨S80x80, .bf16⟩
  | .hbm, ⟨34, _⟩ => ⟨S80x80, .f32⟩
  | .hbm, ⟨35, _⟩ => ⟨S80x80, .bf16⟩
  | .hbm, ⟨36, _⟩ => ⟨S80x160, .bf16⟩
  | .hbm, ⟨37, _⟩ => ⟨S80x160, .bf16⟩
  | .hbm, ⟨38, _⟩ => ⟨S1x2560, .f32⟩
  | .hbm, ⟨39, _⟩ => ⟨S2048x2560, .f32⟩
  | .hbm, ⟨40, _⟩ => ⟨S2048x2560, .bf16⟩
  | .local _ .vmem, ⟨0, _⟩ => ⟨S256x2560, .bf16⟩
  | .local _ .vmem, ⟨1, _⟩ => ⟨S256x2560, .bf16⟩
  | .local _ .vmem, ⟨2, _⟩ => ⟨S256x2560, .f32⟩
  | .local _ .vmem, ⟨3, _⟩ => ⟨S256x2560, .f32⟩
  | .local _ .vmem, ⟨4, _⟩ => ⟨S1x2560, .f32⟩
  | .local _ .vmem, ⟨5, _⟩ => ⟨S256x256, .bf16⟩
  | .local _ .vmem, ⟨6, _⟩ => ⟨S80x160, .bf16⟩
  | .local _ .vmem, ⟨7, _⟩ => ⟨S80x160, .bf16⟩
  | .local _ .vmem, ⟨8, _⟩ => ⟨S256x2560, .f32⟩
  | .local _ .vmem, ⟨9, _⟩ => ⟨S256x2560, .f32⟩
  | .local _ .vmem, ⟨10, _⟩ => ⟨S256x2560, .bf16⟩
  | .local _ .vmem, ⟨11, _⟩ => ⟨S256x2560, .bf16⟩
  | .local _ .vmem, ⟨12, _⟩ => ⟨S5120x128, .f32⟩
  | .local _ .vmem, ⟨13, _⟩ => ⟨S5120x128, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32 : BitVec 32 := 0#32
  let c32_i32 : BitVec 32 := 32#32
  let v363 : BitVec 32 := Scalar.addi c0_i32 c32_i32
  let c1_i32 : BitVec 32 := 1#32
  ⟨c0_i32, v363, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c160_i32 : BitVec 32 := 160#32
  let v424 : BitVec 32 := Scalar.muli arg11 c160_i32
  v424
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c160_i32 : BitVec 32 := 160#32
  let v424 : BitVec 32 := Scalar.muli arg11 c160_i32
  let v425 : BitVec 32 := v424
  let v426 : Index := Scalar.indexCast v425
  let c0_199 : Index := 0#32
  ![v426.toNat, 0]
def k0_off2 (k0_t1 : Fin k0_t1_loop.trips) (c0_i32_208 : BitVec 32) : Fin 2 → Nat :=
  let c0_i32 : BitVec 32 := 0#32
  let c1_i32 : BitVec 32 := 1#32
  let arg11 : BitVec 32 := Scf.iv c0_i32 c1_i32 k0_t1
  let c160_i32 : BitVec 32 := 160#32
  let v424 : BitVec 32 := Scalar.muli arg11 c160_i32
  let v425 : BitVec 32 := v424
  let v463 : BitVec 32 := Scalar.addi v425 c0_i32_208
  let v464 : Index := Scalar.indexCast v463
  let c0_209 : Index := 0#32
  ![v464.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResRef.lean ====
abbrev S2048x2560 : Shape := ⟨2, ![2048, 2560]⟩
abbrev S2560 : Shape := ⟨1, ![2560]⟩
abbrev S20x20 : Shape := ⟨2, ![20, 20]⟩
abbrev S256x256 : Shape := ⟨2, ![256, 256]⟩

abbrev nBuf : Space → Nat
  | .hbm => 7
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .f32⟩
  | .hbm, ⟨2, _⟩ => ⟨S2560, .f32⟩
  | .hbm, ⟨3, _⟩ => ⟨S20x20, .f32⟩
  | .hbm, ⟨4, _⟩ => ⟨S256x256, .bf16⟩
  | .hbm, ⟨5, _⟩ => ⟨S2048x2560, .f32⟩
  | .hbm, ⟨6, _⟩ => ⟨S2048x2560, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Rotate.lean ====
abbrev S2048x2560 : Shape := ⟨2, ![2048, 2560]⟩
abbrev S2560 : Shape := ⟨1, ![2560]⟩
abbrev S20x20 : Shape := ⟨2, ![20, 20]⟩
abbrev S256x256 : Shape := ⟨2, ![256, 256]⟩
abbrev S_ : Shape := ⟨0, ![]⟩
abbrev S4x4 : Shape := ⟨2, ![4, 4]⟩
abbrev S4x1x4x1 : Shape := ⟨4, ![4, 1, 4, 1]⟩
abbrev S1x20x1x20 : Shape := ⟨4, ![1, 20, 1, 20]⟩
abbrev S4x20x4x20 : Shape := ⟨4, ![4, 20, 4, 20]⟩
abbrev S80x80 : Shape := ⟨2, ![80, 80]⟩
abbrev S80x160 : Shape := ⟨2, ![80, 160]⟩
abbrev S1x2560 : Shape := ⟨2, ![1, 2560]⟩
abbrev S256x2560 : Shape := ⟨2, ![256, 2560]⟩
abbrev S5120x128 : Shape := ⟨2, ![5120, 128]⟩
abbrev S256 : Shape := ⟨1, ![256]⟩
abbrev S256x1 : Shape := ⟨2, ![256, 1]⟩
abbrev S1x256 : Shape := ⟨2, ![1, 256]⟩
abbrev S256x128 : Shape := ⟨2, ![256, 128]⟩
abbrev S160x128 : Shape := ⟨2, ![160, 128]⟩
abbrev S80x128 : Shape := ⟨2, ![80, 128]⟩
abbrev S160x256 : Shape := ⟨2, ![160, 256]⟩
abbrev S80x256 : Shape := ⟨2, ![80, 256]⟩

abbrev nBuf : Space → Nat
  | .hbm => 151
  | .vmem => 14
  | .smem => 0
  | _ => 0

abbrev hbmTy0_0 (i : Nat) : BufTy := match i % 128 with
  | 0 => ⟨S2048x2560, .bf16⟩
  | 1 => ⟨S2048x2560, .f32⟩
  | 2 => ⟨S2560, .f32⟩
  | 3 => ⟨S20x20, .f32⟩
  | 4 => ⟨S256x256, .i32⟩
  | 5 => ⟨S256x256, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S256x256, .i32⟩
  | 13 => ⟨S256x256, .i32⟩
  | 14 => ⟨S_, .i32⟩
  | 15 => ⟨S256x256, .i32⟩
  | 16 => ⟨S256x256, .i1⟩
  | 17 => ⟨S_, .i32⟩
  | 18 => ⟨S256x256, .i32⟩
  | 19 => ⟨S256x256, .i1⟩
  | 20 => ⟨S_, .i32⟩
  | 21 => ⟨S_, .i1⟩
  | 22 => ⟨S256x256, .i1⟩
  | 23 => ⟨S256x256, .i1⟩
  | 24 => ⟨S256x256, .i1⟩
  | 25 => ⟨S256x256, .i32⟩
  | 26 => ⟨S256x256, .i32⟩
  | 27 => ⟨S256x256, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S256x256, .i32⟩
  | 35 => ⟨S256x256, .i32⟩
  | 36 => ⟨S_, .i32⟩
  | 37 => ⟨S256x256, .i32⟩
  | 38 => ⟨S256x256, .i1⟩
  | 39 => ⟨S_, .i32⟩
  | 40 => ⟨S256x256, .i32⟩
  | 41 => ⟨S256x256, .i1⟩
  | 42 => ⟨S_, .i32⟩
  | 43 => ⟨S_, .i1⟩
  | 44 => ⟨S256x256, .i1⟩
  | 45 => ⟨S256x256, .i1⟩
  | 46 => ⟨S256x256, .i1⟩
  | 47 => ⟨S256x256, .i32⟩
  | 48 => ⟨S256x256, .i32⟩
  | 49 => ⟨S256x256, .i32⟩
  | 50 => ⟨S256x256, .i32⟩
  | 51 => ⟨S256x256, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S256x256, .i32⟩
  | 59 => ⟨S256x256, .i32⟩
  | 60 => ⟨S_, .i32⟩
  | 61 => ⟨S256x256, .i32⟩
  | 62 => ⟨S256x256, .i1⟩
  | 63 => ⟨S_, .i32⟩
  | 64 => ⟨S256x256, .i32⟩
  | 65 => ⟨S256x256, .i1⟩
  | 66 => ⟨S_, .i32⟩
  | 67 => ⟨S_, .i1⟩
  | 68 => ⟨S256x256, .i1⟩
  | 69 => ⟨S256x256, .i1⟩
  | 70 => ⟨S256x256, .i1⟩
  | 71 => ⟨S256x256, .i32⟩
  | 72 => ⟨S256x256, .i32⟩
  | 73 => ⟨S256x256, .i32⟩
  | 74 => ⟨S_, .i32⟩
  | 75 => ⟨S256x256, .i32⟩
  | 76 => ⟨S256x256, .i1⟩
  | 77 => ⟨S_, .f32⟩
  | 78 => ⟨S_, .f32⟩
  | 79 => ⟨S256x256, .f32⟩
  | 80 => ⟨S256x256, .f32⟩
  | 81 => ⟨S256x256, .f32⟩
  | 82 => ⟨S_, .i32⟩
  | 83 => ⟨S_, .i32⟩
  | 84 => ⟨S256x256, .i32⟩
  | 85 => ⟨S256x256, .i32⟩
  | 86 => ⟨S256x256, .i32⟩
  | 87 => ⟨S_, .i32⟩
  | 88 => ⟨S256x256, .i32⟩
  | 89 => ⟨S256x256, .i1⟩
  | 90 => ⟨S256x256, .i32⟩
  | 91 => ⟨S256x256, .i32⟩
  | 92 => ⟨S_, .i32⟩
  | 93 => ⟨S256x256, .i32⟩
  | 94 => ⟨S256x256, .i1⟩
  | 95 => ⟨S256x256, .i1⟩
  | 96 => ⟨S_, .i32⟩
  | 97 => ⟨S256x256, .i32⟩
  | 98 => ⟨S256x256, .i32⟩
  | 99 => ⟨S256x256, .i32⟩
  | 100 => ⟨S_, .i32⟩
  | 101 => ⟨S_, .i32⟩
  | 102 => ⟨S256x256, .i32⟩
  | 103 => ⟨S256x256, .i32⟩
  | 104 => ⟨S256x256, .i32⟩
  | 105 => ⟨S_, .i32⟩
  | 106 => ⟨S256x256, .i32⟩
  | 107 => ⟨S256x256, .i1⟩
  | 108 => ⟨S256x256, .i32⟩
  | 109 => ⟨S256x256, .i32⟩
  | 110 => ⟨S_, .i32⟩
  | 111 => ⟨S256x256, .i32⟩
  | 112 => ⟨S256x256, .i1⟩
  | 113 => ⟨S256x256, .i1⟩
  | 114 => ⟨S_, .i32⟩
  | 115 => ⟨S256x256, .i32⟩
  | 116 => ⟨S256x256, .i32⟩
  | 117 => ⟨S256x256, .i32⟩
  | 118 => ⟨S256x256, .i1⟩
  | 119 => ⟨S_, .f32⟩
  | 120 => ⟨S256x256, .f32⟩
  | 121 => ⟨S256x256, .f32⟩
  | 122 => ⟨S256x256, .bf16⟩
  | 123 => ⟨S4x4, .i32⟩
  | 124 => ⟨S4x4, .i32⟩
  | 125 => ⟨S_, .i32⟩
  | 126 => ⟨S4x4, .i32⟩
  | 127 => ⟨S4x4, .i32⟩
  | _ => ⟨S2048x2560, .bf16⟩

abbrev hbmTy0_1 (i : Nat) : BufTy := match i % 128 with
  | 0 => ⟨S4x4, .i1⟩
  | 1 => ⟨S4x4, .f32⟩
  | 2 => ⟨S4x1x4x1, .f32⟩
  | 3 => ⟨S_, .f32⟩
  | 4 => ⟨S20x20, .f32⟩
  | 5 => ⟨S20x20, .f32⟩
  | 6 => ⟨S1x20x1x20, .f32⟩
  | 7 => ⟨S4x20x4x20, .f32⟩
  | 8 => ⟨S4x20x4x20, .f32⟩
  | 9 => ⟨S4x20x4x20, .f32⟩
  | 10 => ⟨S80x80, .f32⟩
  | 11 => ⟨S80x80, .bf16⟩
  | 12 => ⟨S80x80, .f32⟩
  | 13 => ⟨S80x80, .f32⟩
  | 14 => ⟨S80x80, .bf16⟩
  | 15 => ⟨S80x80, .f32⟩
  | 16 => ⟨S80x80, .f32⟩
  | 17 => ⟨S80x80, .bf16⟩
  | 18 => ⟨S80x160, .bf16⟩
  | 19 => ⟨S80x160, .bf16⟩
  | 20 => ⟨S1x2560, .f32⟩
  | 21 => ⟨S2048x2560, .f32⟩
  | 22 => ⟨S2048x2560, .bf16⟩
  | _ => ⟨S2048x2560, .bf16⟩

abbrev hbmTy (i : Nat) : BufTy := match i / 128 with
  | 0 => hbmTy0_0 i
  | 1 => hbmTy0_1 i
  | _ => ⟨S2048x2560, .bf16⟩

abbrev bufTy : (tb : Table) → Fin (tcTables nBuf tb) → BufTy
  | .hbm, ⟨i, _⟩ => hbmTy i
  | .local _ .vmem, ⟨0, _⟩ => ⟨S256x2560, .bf16⟩
  | .local _ .vmem, ⟨1, _⟩ => ⟨S256x2560, .bf16⟩
  | .local _ .vmem, ⟨2, _⟩ => ⟨S256x2560, .f32⟩
  | .local _ .vmem, ⟨3, _⟩ => ⟨S256x2560, .f32⟩
  | .local _ .vmem, ⟨4, _⟩ => ⟨S1x2560, .f32⟩
  | .local _ .vmem, ⟨5, _⟩ => ⟨S256x256, .bf16⟩
  | .local _ .vmem, ⟨6, _⟩ => ⟨S80x160, .bf16⟩
  | .local _ .vmem, ⟨7, _⟩ => ⟨S80x160, .bf16⟩
  | .local _ .vmem, ⟨8, _⟩ => ⟨S256x2560, .f32⟩
  | .local _ .vmem, ⟨9, _⟩ => ⟨S256x2560, .f32⟩
  | .local _ .vmem, ⟨10, _⟩ => ⟨S256x2560, .bf16⟩
  | .local _ .vmem, ⟨11, _⟩ => ⟨S256x2560, .bf16⟩
  | .local _ .vmem, ⟨12, _⟩ => ⟨S5120x128, .f32⟩
  | .local _ .vmem, ⟨13, _⟩ => ⟨S5120x128, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v6 : Ref sig .tc := ⟨.hbm, 73, rfl⟩
abbrev main_c_2 : Ref sig .tc := ⟨.hbm, 74, rfl⟩
abbrev main_v7 : Ref sig .tc := ⟨.hbm, 75, rfl⟩
abbrev main_v8 : Ref sig .tc := ⟨.hbm, 76, rfl⟩
abbrev main_cst : Ref sig .tc := ⟨.hbm, 77, rfl⟩
abbrev main_cst_3 : Ref sig .tc := ⟨.hbm, 78, rfl⟩
abbrev main_call3_v0 : Ref sig .tc := ⟨.hbm, 79, rfl⟩
abbrev main_call3_v1 : Ref sig .tc := ⟨.hbm, 80, rfl⟩
abbrev main_v9 : Ref sig .tc := ⟨.hbm, 81, rfl⟩
abbrev main_c_4 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_c : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_0 : Ref sig .tc := ⟨.hbm, 96, rfl⟩
abbrev main_call4_v12 : Ref sig .tc := ⟨.hbm, 97, rfl⟩
abbrev main_call4_v13 : Ref sig .tc := ⟨.hbm, 98, rfl⟩
abbrev main_v10 : Ref sig .tc := ⟨.hbm, 99, rfl⟩
abbrev main_c_5 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_c : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_0 : Ref sig .tc := ⟨.hbm, 114, rfl⟩
abbrev main_call5_v12 : Ref sig .tc := ⟨.hbm, 115, rfl⟩
abbrev main_call5_v13 : Ref sig .tc := ⟨.hbm, 116, rfl⟩
abbrev main_v11 : Ref sig .tc := ⟨.hbm, 117, rfl⟩
abbrev main_v12 : Ref sig .tc := ⟨.hbm, 118, rfl⟩
abbrev main_cst_6 : Ref sig .tc := ⟨.hbm, 119, rfl⟩
abbrev main_call6_v0 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_c_7 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_cst_8 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39_0 : Ref sig .tc := ⟨.hbm, 149, rfl⟩
abbrev main_v39_1 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v313 : BitVec 32 := Scalar.addi c0_i32 c32_i32
  let c1_i32 : BitVec 32 := 1#32
  ⟨c0_i32, v313, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c160_i32 : BitVec 32 := 160#32
  let v374 : BitVec 32 := Scalar.muli arg11 c160_i32
  v374
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c160_i32 : BitVec 32 := 160#32
  let v374 : BitVec 32 := Scalar.muli arg11 c160_i32
  let v375 : BitVec 32 := v374
  let v376 : Index := Scalar.indexCast v375
  let c0_180 : Index := 0#32
  ![v376.toNat, 0]
def k0_off2 (k0_t1 : Fin k0_t1_loop.trips) (c0_i32_187 : BitVec 32) : Fin 2 → Nat :=
  let c0_i32 : BitVec 32 := 0#32
  let c1_i32 : BitVec 32 := 1#32
  let arg11 : BitVec 32 := Scf.iv c0_i32 c1_i32 k0_t1
  let c160_i32 : BitVec 32 := 160#32
  let v374 : BitVec 32 := Scalar.muli arg11 c160_i32
  let v375 : BitVec 32 := v374
  let v407 : BitVec 32 := Scalar.addi v375 c0_i32_187
  let v408 : Index := Scalar.indexCast v407
  let c0_188 : Index := 0#32
  ![v408.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RotateRefIdeal.lean ====
abbrev S2048x2560 : Shape := ⟨2, ![2048, 2560]⟩
abbrev S2560 : Shape := ⟨1, ![2560]⟩
abbrev S20x20 : Shape := ⟨2, ![20, 20]⟩
abbrev S_ : Shape := ⟨0, ![]⟩
abbrev S2048 : Shape := ⟨1, ![2048]⟩
abbrev S2048x1 : Shape := ⟨2, ![2048, 1]⟩
abbrev S1x2560 : Shape := ⟨2, ![1, 2560]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2048x20x128 : Shape := ⟨3, ![2048, 20, 128]⟩
abbrev S2048x128x20 : Shape := ⟨3, ![2048, 128, 20]⟩

abbrev nBuf : Space → Nat
  | .hbm => 69
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .f32⟩
  | .hbm, ⟨2, _⟩ => ⟨S2560, .f32⟩
  | .hbm, ⟨3, _⟩ => ⟨S20x20, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2560, .f32⟩
  | .hbm, ⟨18, _⟩ => ⟨S2048x2560, .f32⟩
  | .hbm, ⟨19, _⟩ => ⟨S1x2560, .f32⟩
  | .hbm, ⟨20, _⟩ => ⟨S2048x2560, .f32⟩
  | .hbm, ⟨21, _⟩ => ⟨S2048x2560, .f32⟩
  | .hbm, ⟨22, _⟩ => ⟨S128, .i32⟩
  | .hbm, ⟨23, _⟩ => ⟨S128x1, .i32⟩
  | .hbm, ⟨24, _⟩ => ⟨S1x128, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S128x128, .i1⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i1⟩
  | .hbm, ⟨54, _⟩ => ⟨S_, .f32⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S2048x20x128, .f32⟩
  | .hbm, ⟨64, _⟩ => ⟨S2048x20x128, .f32⟩
  | .hbm, ⟨65, _⟩ => ⟨S2048x128x20, .f32⟩
  | .hbm, ⟨66, _⟩ => ⟨S2048x20x128, .f32⟩
  | .hbm, ⟨67, _⟩ => ⟨S2048x2560, .f32⟩
  | .hbm, ⟨68, _⟩ => ⟨S2048x2560, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_v25 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩

abbrev nD : Nat := 1
abbrev τ : Topo := Topo.v7x

variable {F : FTy → Type} [FloatOps F]
-- ==== Proof.Nibbles.lean ====
/- The packed four-bit codes.

   A weight byte holds two signed four-bit codes, the low nibble and the high nibble. `nib b k` is the value of
   nibble `k` of byte `b` as an extended real. This module shows that each way the programs decode a nibble gives
   `nib`: the reference's (mask or shift, then subtract 16 from eight up), the in-projection kernels' (shift up
   and back down, two codes joined into one 32-bit word, read as two 16-bit rows) and the out-projection
   kernel's (four bytes read as one word, shifted and masked, read back as bytes, times one sixteenth). -/
module

public import Idealize.ShloMosaic.Lib.BitcastPair
public import Idealize.ShloMosaic.Lib.BitcastFour
public import Idealize.ShloMosaic.Lib.IdealHost
public import Idealize.ShloMosaic.Lib.ValueIdx
public import Idealize.ShloMosaic.Lib.Pipeline.Value
public import Idealize.ShloMosaic.PureOps.Ideal.Laws
public import Mathlib.Tactic.IntervalCases

@[expose] public section

noncomputable section

namespace Cert.W4

open Idealize.ShloMosaic Idealize.ShloMosaic.ValueIdx

/-- The value of nibble `k` (0 the low one, 1 the high one) of a byte, read as a signed four-bit number. -/
def nib (b : BitVec 8) (k : Nat) : EReal := (((b.extractLsb' (4 * k) 4).toInt : ℝ) : EReal)

/-! ## The reference's decoding -/

/-- Low nibble: mask, and subtract 16 when the masked value is eight or more. -/
theorem ref_lo (b : BitVec 8) :
    (Scalar.select (IntOp.cmpi .sge (IntOp.andi (b.setWidth 32) 15#32) 8#32)
      (IntOp.subi (IntOp.andi (b.setWidth 32) 15#32) 16#32) (IntOp.andi (b.setWidth 32) 15#32)).toInt
      = (b.extractLsb' 0 4).toInt := by
  revert b; decide +kernel

/-- High nibble: shift, and subtract 16 when the shifted value is eight or more. -/
theorem ref_hi (b : BitVec 8) :
    (Scalar.select (IntOp.cmpi .sge (IntOp.shrsi .host (b.setWidth 32) 4#32) 8#32)
      (IntOp.subi (IntOp.shrsi .host (b.setWidth 32) 4#32) 16#32) (IntOp.shrsi .host (b.setWidth 32) 4#32)).toInt
      = (b.extractLsb' 4 4).toInt := by
  revert b; decide +kernel

/-! ## The in-projection kernels' decoding -/

/-- The word made of one byte: the low nibble, sign extended, in the low half, and the high nibble in the high half. -/
def pair (b : BitVec 8) : BitVec 32 :=
  IntOp.ori
    (IntOp.andi (IntOp.shrsi .vector (IntOp.shli .vector (b.setWidth 32) 28#32) 28#32) 65535#32)
    (IntOp.shli .vector (IntOp.shrsi .vector (IntOp.shli .vector (b.setWidth 32) 24#32) 28#32) 16#32)

theorem pair_half (b : BitVec 8) (k : Fin 2) :
    ((pair b).extractLsb' (16 * k.val) 16).toInt = (b.extractLsb' (4 * k.val) 4).toInt := by
  revert b k; decide +kernel

variable {F : FTy → Type} [FloatOps F]

/-- One group of the dequantised weights as the in-projection kernels compute it: 64 rows of bytes make 128 rows
    of codes, each times its column's scale. -/
def deq (N : Nat) (hb : (⟨2, ![64, N]⟩ : Shape).Bitcasts 32 ⟨2, ![128, N]⟩ 16)
    (hbr : (⟨2, ![1, N]⟩ : Shape).Broadcasts ⟨2, ![128, N]⟩)
    (hsc : (⟨2, ![128, N]⟩ : Shape).ShapeCasts ⟨2, ![128, N]⟩)
    (w : Vec F ⟨2, ![64, N]⟩ .i8) (s : Vec F ⟨2, ![1, N]⟩ .f32) : FVec F ⟨2, ![128, N]⟩ .bf16 :=
  shapeCast _ (mulf
    (sitofp .bf16 (bitcast ⟨2, ![128, N]⟩ 16
      (ori (andi (shrsi (shli (extui 32 w (by decide)) (broadcast _ 28#32)) (broadcast _ 28#32)) (broadcast _ 65535#32))
        (shli (shrsi (shli (extui 32 w (by decide)) (broadcast _ 24#32)) (broadcast _ 28#32)) (broadcast _ 16#32))) hb))
    (broadcastTo ⟨2, ![128, N]⟩ (truncf .bf16 s (by decide)) hbr)) hsc

/-- A row broadcast down the rows, at an index, reads the row at the index's column. -/
theorem row_apply {α : Type} {M N : Nat} (hN : N ≠ 1) (v : (⟨2, ![1, N]⟩ : Shape).Idx → α)
    (hbr : (⟨2, ![1, N]⟩ : Shape).Broadcasts ⟨2, ![M, N]⟩) (r : Fin M) (c : Fin N) :
    broadcastTo ⟨2, ![M, N]⟩ v hbr (ix2 r c) = v (ix2 0 c) :=
  broadcastTo_apply v hbr (ix2 r c) (ix2 0 c) fun a => match a with
    | ⟨0, _⟩ => by show 0 = if (1 : Nat) = 1 then 0 else _; rw [if_pos rfl]
    | ⟨1, _⟩ => by show c.val = if N = 1 then 0 else c.val; rw [if_neg hN]

/-- The dequantised group at row `r`, column `c`: nibble `r mod 2` of the byte in row `r / 2`, times the scale. -/
theorem deq_apply {N : Nat} (hN : N ≠ 1) (hb) (hbr) (hsc) (w : Vec Ideal ⟨2, ![64, N]⟩ .i8) (s : Vec Ideal ⟨2, ![1, N]⟩ .f32)
    (r : Fin 128) (c : Fin N) (a : Fin 64) (ha : a.val = r.val / 2) :
    deq (F := Ideal) N hb hbr hsc w s (ix2 r c) = nib (w (ix2 a c)) (r.val % 2) * s (ix2 0 c) := by
  unfold deq
  rw [shapeCast_self, mulf_apply, sitofp_apply, bitcast_32_16]
  rw [row_apply hN]
  have e2 : ∀ hp, Shape.Bitcasts.srcIdx hb (ix2 r c) (Shape.row (⟨2, ![128, N]⟩ : Shape) (ix2 r c) / 2) hp = ix2 a c := by
    intro hp
    funext d
    match d with
    | ⟨0, _⟩ => exact Fin.ext ((hb.srcIdx_row _ _ _ ⟨0, Nat.zero_lt_two⟩ rfl).trans ha.symm)
    | ⟨1, _⟩ => exact Fin.ext (hb.srcIdx_other _ _ _ ⟨1, Nat.one_lt_two⟩ (by show ¬ 1 + 2 = 2; omega))
  rw [e2]
  have hr : Shape.row (⟨2, ![128, N]⟩ : Shape) (ix2 r c) = r.val := rfl
  rw [hr]
  have e3 := pair_half (w (ix2 a c)) ⟨r.val % 2, Nat.mod_lt _ (by decide)⟩
  show ((((pair (w (ix2 a c))).extractLsb' (16 * (r.val % 2)) 16).toInt : ℝ) : EReal) * _ = _
  rw [e3, truncf_apply]; rfl

/-! ## The out-projection kernel's decoding -/

/-- Sixteen times a four-bit code fits a signed byte. -/
theorem sixteen_lo (b : BitVec 8) : (b <<< 4).toInt = 16 * (b.extractLsb' 0 4).toInt := by revert b; decide +kernel
theorem sixteen_hi (b : BitVec 8) : (b &&& 240#8).toInt = 16 * (b.extractLsb' 4 4).toInt := by revert b; decide +kernel

/-- One sixteenth, as the kernel writes it. -/
theorem ofBits_sixteenth : Ideal.ofBits .bf16 0x3D80#16 = (((1 : ℝ) / 16 : ℝ) : EReal) := by
  simp [Ideal.ofBits, Ideal.ieee, -EReal.coe_mul]; norm_num

theorem sixteenth_mul (n : Int) : ((((16 * n : Int) : ℝ) : EReal)) * Ideal.ofBits .bf16 0x3D80#16 = ((n : ℝ) : EReal) := by
  rw [ofBits_sixteenth, ← EReal.coe_mul]
  congr 1; push_cast; ring

/-- The two masks: words moved up four bits and masked keep each byte's low nibble in its high bits, words masked
    keep the high nibble. `hi = false` is the first, `hi = true` the second. -/
def masked (hi : Bool) (w : IVec ⟨2, ![32, 128]⟩ 32) : IVec ⟨2, ![32, 128]⟩ 32 :=
  match hi with
  | false => andi (shli w (broadcast _ 4#32)) (broadcast _ 4042322160#32)
  | true => andi w (broadcast _ 4042322160#32)

/-- One group of the dequantised weights as the out-projection kernel computes it. -/
def odeq (hb : (⟨2, ![128, 128]⟩ : Shape).Bitcasts 8 ⟨2, ![32, 128]⟩ 32) (hb' : (⟨2, ![32, 128]⟩ : Shape).Bitcasts 32 ⟨2, ![128, 128]⟩ 8)
    (hbr : (⟨2, ![1, 128]⟩ : Shape).Broadcasts ⟨2, ![128, 128]⟩) (hsc : (⟨2, ![128, 128]⟩ : Shape).ShapeCasts ⟨2, ![128, 128]⟩)
    (hi : Bool) (w : Vec F ⟨2, ![128, 128]⟩ .i8) (s : Vec F ⟨2, ![1, 128]⟩ .f32) : FVec F ⟨2, ![128, 128]⟩ .bf16 :=
  shapeCast _ (mulf
    (mulf (sitofp .bf16 (bitcast ⟨2, ![128, 128]⟩ 8 (masked hi (bitcast ⟨2, ![32, 128]⟩ 32 w hb)) hb'))
      (broadcast _ (Scalar.ofBits .bf16 0x3D80#16)))
    (broadcastTo ⟨2, ![128, 128]⟩ (truncf .bf16 s (by decide)) hbr)) hsc

/-- A bit of the mask. -/
theorem mask_bit (i : Nat) (h : i < 32) : (4042322160#32 : BitVec 32).getLsbD i = decide (4 ≤ i % 8) := by
  interval_cases i <;> rfl

/-- Bytes read as words, masked and read back as bytes: each byte is moved up four bits, or masked. -/
theorem masked_bytes (hb) (hb') (hi : Bool) (w : Vec F ⟨2, ![128, 128]⟩ .i8) (r c : Fin 128) :
    bitcast ⟨2, ![128, 128]⟩ 8 (masked hi (bitcast ⟨2, ![32, 128]⟩ 32 w hb)) hb' (ix2 r c)
      = match hi with | false => (w (ix2 r c) : BitVec 8) <<< 4 | true => (w (ix2 r c) : BitVec 8) &&& 240#8 := by
  have e2 : ∀ (a : Fin 32) (p : Nat) (hp), p = a.val → Shape.Bitcasts.srcIdx hb' (ix2 r c) p hp = ix2 a c := by
    intro a p hp ha
    funext d
    match d with
    | ⟨0, _⟩ => exact Fin.ext ((hb'.srcIdx_row _ _ _ ⟨0, Nat.zero_lt_two⟩ rfl).trans ha)
    | ⟨1, _⟩ => exact Fin.ext (hb'.srcIdx_other _ _ _ ⟨1, Nat.one_lt_two⟩ (by show ¬ 1 + 2 = 2; omega))
  have hr : Shape.row (⟨2, ![128, 128]⟩ : Shape) (ix2 r c) = r.val := rfl
  apply BitVec.eq_of_getLsbD_eq
  intro i hi8
  rw [bitcast_getLsbD _ hb' (ix2 r c) i hi8 (by decide), e2 ⟨r.val / 4, by omega⟩ _ _ (by rw [hr]; show _ = r.val / 4; omega), hr]
  have hm : (r.val * 8 + i) % 32 < 32 := Nat.mod_lt _ (by decide)
  have hm8 : (r.val * 8 + i) % 32 % 8 = i := by omega
  have h4 : ((4#32 : BitVec 32).toNat) = 4 := rfl
  cases hi with
  | false =>
    show ((IntOp.andi (IntOp.shli .vector _ 4#32) 4042322160#32) : BitVec 32).getLsbD _ = _
    rw [show ∀ x : BitVec 32, IntOp.shli .vector x 4#32 = x <<< 4 from fun _ => rfl]
    simp only [IntOp.andi, BitVec.getLsbD_and, BitVec.getLsbD_shiftLeft, mask_bit _ hm, hm8, hm, hi8]
    by_cases h : 4 ≤ i
    · rw [bitcast_8_32_getLsbD_ix2 w hb _ c _ (by omega) r (by show r.val = 4 * (r.val / 4) + _; omega)]
      rw [show ((r.val * 8 + i) % 32 - 4) % 8 = i - 4 by omega]
      simp [h, show ¬ (r.val * 8 + i) % 32 < 4 by omega]
    · simp [h, show i < 4 by omega]
  | true =>
    show ((IntOp.andi _ 4042322160#32) : BitVec 32).getLsbD _ = _
    simp only [IntOp.andi, BitVec.getLsbD_and, mask_bit _ hm, hm8]
    rw [bitcast_8_32_getLsbD_ix2 w hb _ c _ hm r (by show r.val = 4 * (r.val / 4) + _; omega), hm8]
    have : (240#8 : BitVec 8).getLsbD i = decide (4 ≤ i) := by interval_cases i <;> rfl
    rw [this]

/-- The out-projection's dequantised group at an index. -/
theorem odeq_apply (hb) (hb') (hbr) (hsc) (hi : Bool) (w : Vec Ideal ⟨2, ![128, 128]⟩ .i8) (s : Vec Ideal ⟨2, ![1, 128]⟩ .f32) (r c : Fin 128) :
    odeq (F := Ideal) hb hb' hbr hsc hi w s (ix2 r c) = nib (w (ix2 r c)) hi.toNat * s (ix2 0 c) := by
  unfold odeq
  rw [shapeCast_self, mulf_apply, row_apply (by decide), mulf_apply, sitofp_apply, masked_bytes, truncf_apply]
  congr 1
  cases hi with
  | false =>
    show (((((w (ix2 r c) : BitVec 8) <<< 4).toInt : ℝ) : EReal)) * Ideal.ofBits .bf16 0x3D80#16 = _
    rw [sixteen_lo, sixteenth_mul]; rfl
  | true =>
    show (((((w (ix2 r c) : BitVec 8) &&& 240#8).toInt : ℝ) : EReal)) * Ideal.ofBits .bf16 0x3D80#16 = _
    rw [sixteen_hi, sixteenth_mul]; rfl

end Cert.W4

end
-- ==== Proof.Sums.lean ====
/- Two facts about the extended reals used by every product here: a sum over twice as many terms is the sum over
   the even places plus the sum over the odd places, and the sigmoid gate is one function however it is written.
   And two layout facts: a slice that takes every other column, read at an index, and a plain product. -/
module

public import Idealize.ShloMosaic.Lib.MatmulPlain
public import Idealize.ShloMosaic.Lib.IdealHost
public import Idealize.ShloMosaic.Lib.ValueIdx
public import Idealize.ShloMosaic.Lib.Pipeline.Value
public import Idealize.ShloMosaic.Lib.Pipeline.ValueKit.Tiles
public import Idealize.ShloMosaic.PureOps.Ideal.Laws

@[expose] public section

noncomputable section

namespace Cert.W4

open Idealize.ShloMosaic Idealize.ShloMosaic.ValueIdx
open scoped BigOperators

/-- The even places and the odd places of a range. -/
theorem sum_range_even_odd (n : Nat) (f : Nat → EReal) :
    ∑ k ∈ Finset.range (2 * n), f k = ∑ k ∈ Finset.range n, f (2 * k) + ∑ k ∈ Finset.range n, f (2 * k + 1) := by
  induction n with
  | zero => simp
  | succ n ih =>
    rw [show 2 * (n + 1) = 2 * n + 1 + 1 by ring, Finset.sum_range_succ, Finset.sum_range_succ, ih,
      Finset.sum_range_succ, Finset.sum_range_succ]
    abel

/-- The same over indices below a bound. -/
theorem sum_even_odd {n m : Nat} (hm : m = 2 * n) (f : Fin m → EReal) :
    ∑ k, f k = ∑ k : Fin n, f ⟨2 * k.val, by omega⟩ + ∑ k : Fin n, f ⟨2 * k.val + 1, by omega⟩ := by
  subst hm
  have h := sum_range_even_odd n fun k => if h : k < 2 * n then f ⟨k, h⟩ else 0
  rw [Finset.sum_range, Finset.sum_range, Finset.sum_range] at h
  refine (Finset.sum_congr rfl fun k _ => ?_).trans (h.trans (congrArg₂ _ (Finset.sum_congr rfl fun k _ => ?_) (Finset.sum_congr rfl fun k _ => ?_)))
  · rw [dif_pos k.isLt]
  · rw [dif_pos (by omega)]
  · rw [dif_pos (by omega)]

/-- The gate `z · σ(z)` as the host spells it is the kernel's. -/
theorem gate (z : EReal) :
    z * Ideal.div (Ideal.ofBits .f32 0x3F800000#32) (Ideal.ofBits .f32 0x3F800000#32 + Ideal.exp (-z)) = z * Ideal.logistic z := by
  rw [Ideal.ofBits_one_f32]; rfl

/-- Every other column of a matrix, from column `o`. -/
theorem slice2_apply {α : Type} {M N K o : Nat} (x : (⟨2, ![M, N]⟩ : Shape).Idx → α)
    (h : (⟨2, ![M, N]⟩ : Shape).SlicesBy ![0, o] ![1, 2] ⟨2, ![M, K]⟩) (r : Fin M) (k : Fin K) (hk : o + 2 * k.val < N) :
    Host.slice ⟨2, ![M, K]⟩ ![0, o] ![1, 2] x h (ix2 r k) = x (ix2 r ⟨o + 2 * k.val, hk⟩) := by
  unfold Host.slice
  refine congrArg x (funext fun a => ?_)
  match a with
  | ⟨0, _⟩ => exact Fin.ext (by show 0 + 1 * r.val = r.val; omega)
  | ⟨1, _⟩ => rfl

/-- Pieces laid over a buffer, every one holding the values of one function and together covering the buffer, leave
    that function. -/
theorem canon_of_bands {S : Shape} {e : EltTy} (G : S.Idx → Elt Ideal e) (n : Nat) (piece : (k : Nat) → k < n → View.Piece (Elt Ideal) S e)
    (L : List (View.Piece (Elt Ideal) S e)) (hL : L = List.ofFn fun k : Fin n => piece (n - 1 - k.val) (by omega))
    (hp : ∀ k hk (x : (piece k hk).1.shape.Idx), (piece k hk).2 x = G ((piece k hk).1.emb x))
    (hc : ∀ y : S.Idx, ∃ k hk, y ∈ (piece k hk).1.set) : View.canon L = G := by
  subst hL
  funext y
  refine View.canon_apply_of_pieces G _ (fun p h => ?_) y ?_
  · obtain ⟨k, rfl⟩ := (List.mem_ofFn' _ _).1 h
    exact hp _ _
  · obtain ⟨k, hk, h⟩ := hc y
    refine ⟨piece k hk, (List.mem_ofFn' _ _).2 ⟨⟨n - 1 - k, by omega⟩, ?_⟩, h⟩
    simp only [show n - 1 - (n - 1 - k) = k by omega]

/-- A load of a box of a matrix, at an index. -/
theorem ld2 {M N : Nat} {e : EltTy} {F : FTy → Type} (X : (⟨2, ![M, N]⟩ : Shape).Idx → Elt F e) {o p m n : Nat} (inb) (r : Fin m) (c : Fin n)
    (r' : Fin M) (c' : Fin N) (hr : r'.val = o + r.val) (hc : c'.val = p + c.val) :
    View.ld X (Rect.unit (s := ⟨2, ![M, N]⟩) ![o, p] ![m, n] inb) (ix2 r c) = X (ix2 r' c') :=
  View.ld_unit_apply_of X _ _ _ _ _ fun a => match a with
    | ⟨0, _⟩ => hr
    | ⟨1, _⟩ => hc

/-- A column-full band of rows holds an index of a matrix when it holds its row. -/
theorem band {M N : Nat} {o m : Nat} (y : (⟨2, ![M, N]⟩ : Shape).Idx) (h : o ≤ (y 0).val ∧ (y 0).val < o + m) :
    ∀ a : Fin 2, (![o, 0] : Fin 2 → Nat) a ≤ (y a).val ∧ (y a).val < (![o, 0] : Fin 2 → Nat) a + (![m, N] : Fin 2 → Nat) a :=
  fun a => match a with
    | ⟨0, _⟩ => h
    | ⟨1, _⟩ => ⟨Nat.zero_le _, (Nat.zero_add N).symm ▸ (y 1).isLt⟩

end Cert.W4

end
-- ==== Proof.Proj.lean ====
/- The in-projection as mathematics: the dequantised weight and the product of the tokens with it. Packed row `a`
   holds the codes of rows `2 a` and `2 a + 1`; a scale serves 128 rows of one column. -/
module

public import proofs.«01_k».proof.Proof.Nibbles
public import proofs.«01_k».proof.Proof.Sums

@[expose] public section

noncomputable section

namespace Cert.W4

open Idealize.ShloMosaic Idealize.ShloMosaic.ValueIdx
open scoped BigOperators

/-- The dequantised weight in row `k`, column `c`. -/
def weight {N : Nat} (w : (⟨2, ![1280, N]⟩ : Shape).Idx → BitVec 8) (s : (⟨2, ![20, N]⟩ : Shape).Idx → EReal) (k : Fin 2560) (c : Fin N) : EReal :=
  nib (w (ix2 ⟨k.val / 2, by omega⟩ c)) (k.val % 2) * s (ix2 ⟨k.val / 128, by omega⟩ c)

/-- Token `i`'s product with weight column `c`. -/
def proj {M N : Nat} (h : (⟨2, ![M, 2560]⟩ : Shape).Idx → EReal) (w : (⟨2, ![1280, N]⟩ : Shape).Idx → BitVec 8)
    (s : (⟨2, ![20, N]⟩ : Shape).Idx → EReal) (i : Fin M) (c : Fin N) : EReal :=
  ∑ k : Fin 2560, h (ix2 i k) * weight w s k c

/-- Two projections agree when their rows and columns do. -/
theorem proj_congr {M N M' N' : Nat} {h : (⟨2, ![M, 2560]⟩ : Shape).Idx → EReal} {h' : (⟨2, ![M', 2560]⟩ : Shape).Idx → EReal}
    {w : (⟨2, ![1280, N]⟩ : Shape).Idx → BitVec 8} {w' : (⟨2, ![1280, N']⟩ : Shape).Idx → BitVec 8}
    {s : (⟨2, ![20, N]⟩ : Shape).Idx → EReal} {s' : (⟨2, ![20, N']⟩ : Shape).Idx → EReal} {i : Fin M} {i' : Fin M'} {c : Fin N} {c' : Fin N'}
    (hh : ∀ k, h (ix2 i k) = h' (ix2 i' k)) (hw : ∀ a, w (ix2 a c) = w' (ix2 a c')) (hs : ∀ g, s (ix2 g c) = s' (ix2 g c')) :
    proj h w s i c = proj h' w' s' i' c' := by
  unfold proj weight
  simp only [hh, hw, hs]

/-- The product split by nibble: the even rows meet the low codes, the odd rows the high codes. -/
theorem proj_split {M N : Nat} (h : (⟨2, ![M, 2560]⟩ : Shape).Idx → EReal) (w : (⟨2, ![1280, N]⟩ : Shape).Idx → BitVec 8)
    (s : (⟨2, ![20, N]⟩ : Shape).Idx → EReal) (i : Fin M) (c : Fin N) :
    proj h w s i c
      = ∑ k : Fin 1280, h (ix2 i ⟨0 + 2 * k.val, by omega⟩) * (nib (w (ix2 k c)) 0 * s (ix2 ⟨k.val / 64, by omega⟩ c))
      + ∑ k : Fin 1280, h (ix2 i ⟨1 + 2 * k.val, by omega⟩) * (nib (w (ix2 k c)) 1 * s (ix2 ⟨k.val / 64, by omega⟩ c)) := by
  unfold proj
  rw [sum_even_odd (n := 1280) rfl]
  refine congrArg₂ _ (Finset.sum_congr rfl fun k _ => ?_) (Finset.sum_congr rfl fun k _ => ?_)
  · unfold weight
    simp only [show 2 * k.val / 2 = k.val by omega, show 2 * k.val % 2 = 0 by omega, show 2 * k.val / 128 = k.val / 64 by omega, Nat.zero_add]
  · unfold weight
    simp only [show (2 * k.val + 1) / 2 = k.val by omega, show (2 * k.val + 1) % 2 = 1 by omega,
      show (2 * k.val + 1) / 128 = k.val / 64 by omega, Nat.add_comm 1]

end Cert.W4

end
-- ==== Proof.ZBlock.lean ====
/- The gate-half in-projection kernel, one grid point: what the point leaves in its output block, as a function of
   the block of tokens, the block of packed weights and the block of scales it reads. The kernel dequantises its
   weight columns into a scratch buffer, twenty groups of 128 rows, then multiplies eight strips of 256 tokens by
   the whole buffer. Here the buffer is read as one function `W` and the block as `z · σ(z)` of one product. -/
module

public import proofs.«01_k».proof.Proof.Gen.InProjZIdeal.Value
public import proofs.«01_k».proof.Proof.Nibbles
public import proofs.«01_k».proof.Proof.Proj
public import Idealize.ShloMosaic.Lib.Pipeline.ValueKit.Tiles

@[expose] public section

set_option maxRecDepth 16384

noncomputable section

namespace Cert.ZBlock

open Cert.InProjZIdeal Cert.InProjZIdeal.Gen Idealize.ShloMosaic Idealize.ShloMosaic.TcCoe Idealize.SL Idealize.SL.Sem
open Idealize.ShloMosaic.ValueIdx Cert.W4
open scoped BigOperators

section Any
variable {F : FTy → Type} [FloatOps F]

/-- One group of dequantised weights at this kernel's width. -/
abbrev grp (w : Vec F S64x512 .i8) (s : Vec F S1x512 .f32) : FVec F S128x512 .bf16 :=
  deq 512 bitcasts_S64x512_w32_S128x512_w16 broadcasts_S1x512_S128x512 shapeCasts_S128x512_S128x512 w s

/-- Group `k` of the scratch buffer, at rows `128 k` and on, from packed rows `64 k` and on and scale row `k`. -/
abbrev group (x1 : Vec F S1280x512 .i8) (x2 : Vec F S20x512 .f32) (k : Nat) (hk : k < 20) : View.Piece (Elt F) S2560x512 .bf16 :=
  ⟨Rect.unit ![128 * k, 0] ![128, 512] (fun a => match a with
      | ⟨0, _⟩ => by show 128 * k + 128 ≤ 2560; omega
      | ⟨1, _⟩ => by show 0 + 512 ≤ 512; omega),
    grp (View.ld x1 (Rect.unit ![64 * k, 0] ![64, 512] (fun a => match a with
      | ⟨0, _⟩ => by show 64 * k + 64 ≤ 1280; omega
      | ⟨1, _⟩ => by show 0 + 512 ≤ 512; omega)))
      (View.ld x2 (Rect.unit ![k, 0] ![1, 512] (fun a => match a with
      | ⟨0, _⟩ => by show k + 1 ≤ 20; omega
      | ⟨1, _⟩ => by show 0 + 512 ≤ 512; omega)))⟩

/-- The scratch buffer's stores, last first. -/
abbrev stores (x1 : Vec F S1280x512 .i8) (x2 : Vec F S20x512 .f32) : List (View.Piece (Elt F) S2560x512 .bf16) :=
  [group x1 x2 19 (by omega), group x1 x2 18 (by omega), group x1 x2 17 (by omega), group x1 x2 16 (by omega), group x1 x2 15 (by omega), group x1 x2 14 (by omega), group x1 x2 13 (by omega), group x1 x2 12 (by omega), group x1 x2 11 (by omega), group x1 x2 10 (by omega), group x1 x2 9 (by omega), group x1 x2 8 (by omega), group x1 x2 7 (by omega), group x1 x2 6 (by omega), group x1 x2 5 (by omega), group x1 x2 4 (by omega), group x1 x2 3 (by omega), group x1 x2 2 (by omega), group x1 x2 1 (by omega), group x1 x2 0 (by omega)]

/-- One strip of the output: `z · σ(z)` of the product of 256 tokens with the buffer. -/
abbrev strip (h : Vec F S256x2560 .bf16) (W : Vec F S2560x512 .bf16) : FVec F S256x512 .f32 :=
  mulf (matmul dot_S256x2560_S2560x512_S256x512_1_0_0_1_n_n none h W (constant S256x512 .f32 0x00000000#32))
    (logistic (matmul dot_S256x2560_S2560x512_S256x512_1_0_0_1_n_n none h W (constant S256x512 .f32 0x00000000#32)))

/-- Strip `k` of the output block, tokens `256 k` and on. -/
abbrev part (x0 : Vec F S2048x2560 .bf16) (W : Vec F S2560x512 .bf16) (k : Nat) (hk : k < 8) : View.Piece (Elt F) S2048x512 .f32 :=
  ⟨Rect.unit ![256 * k, 0] ![256, 512] (fun a => match a with
      | ⟨0, _⟩ => by show 256 * k + 256 ≤ 2048; omega
      | ⟨1, _⟩ => by show 0 + 512 ≤ 512; omega),
    strip (View.ld x0 (Rect.unit ![256 * k, 0] ![256, 2560] (fun a => match a with
      | ⟨0, _⟩ => by show 256 * k + 256 ≤ 2048; omega
      | ⟨1, _⟩ => by show 0 + 2560 ≤ 2560; omega))) W⟩

/-- A load of the whole scratch buffer reads what the stores leave. -/
theorem load_all (v : View sig .tc .vmem S2560x512 .bf16) (L L' : List (View.Piece (Elt F) S2560x512 .bf16)) (h : L = L')
    (inb) : v.readCov L (Rect.unit ![0, 0] ![2560, 512] inb).toLoadRect = View.canon L' := by
  rw [View.readCov_eq_canon', h]
  exact View.ld_unit_zero (S := S2560x512) (off := ![0, 0]) (by funext a; fin_cases a <;> rfl) inb _

set_option maxHeartbeats 2000000 in
/-- The output block is the eight strips, last first, over the buffer the stores leave. -/
theorem out_eq (c : Dev nD) (i : grid0.Coords) (arg1 : Memref sig .tc .vmem S2048x2560 .bf16) (harg1 : arg1.IsWhole) (arg2 : Memref sig .tc .vmem S1280x512 .i8) (harg2 : arg2.IsWhole) (arg3 : Memref sig .tc .vmem S20x512 .f32) (harg3 : arg3.IsWhole) (arg4 : Memref sig .tc .vmem S2048x512 .f32) (harg4 : arg4.IsWhole) (arg5 : Memref sig .tc .vmem S2560x512 .bf16) (harg5 : arg5.IsWhole)
    (x0 : Vec F S2048x2560 .bf16) (x1 : Vec F S1280x512 .i8) (x2 : Vec F S20x512 .f32) :
    out0_A_3 c i arg1 harg1 arg2 harg2 arg3 harg3 arg4 harg4 arg5 harg5 x0 x1 x2
      = View.canon [part x0 (View.canon (stores x1 x2)) 7 (by omega), part x0 (View.canon (stores x1 x2)) 6 (by omega), part x0 (View.canon (stores x1 x2)) 5 (by omega), part x0 (View.canon (stores x1 x2)) 4 (by omega), part x0 (View.canon (stores x1 x2)) 3 (by omega), part x0 (View.canon (stores x1 x2)) 2 (by omega), part x0 (View.canon (stores x1 x2)) 1 (by omega), part x0 (View.canon (stores x1 x2)) 0 (by omega)] := by
  unfold out0_A_3
  rw [View.read_writes_junk_eq_canon]
  unfold kernelRun0_A
  dsimp only
  sl_unfold_words
  simp only [View.readAt_eq_ld, harg1.read_unread, harg2.read_unread, harg3.read_unread]
  rw [load_all arg5.view _ (stores x1 x2) ?_]
  · refine congrArg View.canon ?_
    repeat (first | refine congrArg₂ List.cons ?_ ?_ | rfl)
  · repeat (first | refine congrArg₂ List.cons ?_ ?_ | rfl)
end Any

/-- The scratch buffer holds the dequantised weights. -/
theorem stores_eq (x1 : Vec Ideal S1280x512 .i8) (x2 : Vec Ideal S20x512 .f32) :
    View.canon (stores x1 x2) = fun y : S2560x512.Idx => weight (N := 512) x1 x2 (y 0) (y 1) := by
  refine canon_of_bands (S := S2560x512) (e := .bf16) (fun y => weight (N := 512) x1 x2 (y 0) (y 1)) 20 (group x1 x2) _ rfl (fun k hk x => ?_) (fun y => ?_)
  · obtain ⟨r, c, rfl⟩ : ∃ r c, x = ix2 (n0 := 128) (n1 := 512) r c := ⟨_, _, eq_ix2 x⟩
    refine (deq_apply (by decide) _ _ _ _ _ r c ⟨r.val / 2, by omega⟩ rfl).trans ?_
    have e0 : (((group x1 x2 k hk).1.emb (ix2 r c) 0 : Fin 2560) : Nat) = 128 * k + r.val := by show 128 * k + 1 * r.val = _; omega
    have e1 : ((group x1 x2 k hk).1.emb (ix2 r c) 1 : Fin 512) = c := Fin.ext (by show 0 + 1 * c.val = _; omega)
    unfold weight
    rw [e1]
    refine congrArg₂ _ ?_ ?_
    · refine congrArg₂ nib ?_ (by omega)
      exact ld2 _ _ _ _ _ _ (by show _ / 2 = 64 * k + r.val / 2; omega) (Nat.zero_add _).symm
    · exact ld2 _ _ _ _ _ _ (by show _ / 128 = k + 0; omega) (Nat.zero_add _).symm
  · have h0 : (y 0).val < 2560 := (y 0).isLt
    refine ⟨(y 0).val / 128, by omega, by rw [Rect.mem_set_unit]; exact band y (by omega)⟩

/-- The output block, at token `i` and column `c`: the gate of the token's product with the column. -/
theorem out_apply (c : Dev nD) (i : grid0.Coords) (arg1 : Memref sig .tc .vmem S2048x2560 .bf16) (harg1 : arg1.IsWhole) (arg2 : Memref sig .tc .vmem S1280x512 .i8) (harg2 : arg2.IsWhole) (arg3 : Memref sig .tc .vmem S20x512 .f32) (harg3 : arg3.IsWhole) (arg4 : Memref sig .tc .vmem S2048x512 .f32) (harg4 : arg4.IsWhole) (arg5 : Memref sig .tc .vmem S2560x512 .bf16) (harg5 : arg5.IsWhole)
    (x0 : Vec Ideal S2048x2560 .bf16) (x1 : Vec Ideal S1280x512 .i8) (x2 : Vec Ideal S20x512 .f32) :
    out0_A_3 c i arg1 harg1 arg2 harg2 arg3 harg3 arg4 harg4 arg5 harg5 x0 x1 x2
      = fun y : S2048x512.Idx => proj (M := 2048) (N := 512) x0 x1 x2 (y 0) (y 1) * Ideal.logistic (proj (M := 2048) (N := 512) x0 x1 x2 (y 0) (y 1)) := by
  rw [out_eq, stores_eq]
  refine canon_of_bands (S := S2048x512) (e := .f32) _ 8 (part x0 _) _ rfl (fun k hk x => ?_) (fun y => ?_)
  · obtain ⟨r, q, rfl⟩ : ∃ r q, x = ix2 (n0 := 256) (n1 := 512) r q := ⟨_, _, eq_ix2 x⟩
    have e0 : (((part x0 (fun y : S2560x512.Idx => weight (N := 512) x1 x2 (y 0) (y 1)) k hk).1.emb (ix2 r q) 0 : Fin 2048) : Nat) = 256 * k + r.val := by show 256 * k + 1 * r.val = _; omega
    have e1 : ((part x0 (fun y : S2560x512.Idx => weight (N := 512) x1 x2 (y 0) (y 1)) k hk).1.emb (ix2 r q) 1 : Fin 512) = q := Fin.ext (by show 0 + 1 * q.val = _; omega)
    rw [e1]
    have hm : ∀ z : EReal, z = proj (M := 2048) (N := 512) x0 x1 x2 ((part x0 (fun y : S2560x512.Idx => weight (N := 512) x1 x2 (y 0) (y 1)) k hk).1.emb (ix2 r q) 0) q →
       z * Ideal.logistic z = _ := fun z hz => by rw [hz]
    refine hm _ ?_
    refine (Ideal.matmul_plain_apply none _ _ _ r q).trans ?_
    rw [show (constant (F := Ideal) S256x512 .f32 0x00000000#32) (ix2 r q) = 0 from Ideal.ofBits_zero_f32, zero_add]
    unfold proj
    refine Finset.sum_congr rfl fun j _ => congrArg₂ _ ?_ rfl
    exact ld2 _ _ _ _ _ _ e0 (Nat.zero_add _).symm
  · have h0 : (y 0).val < 2048 := (y 0).isLt
    refine ⟨(y 0).val / 256, by omega, by rw [Rect.mem_set_unit]; exact band y (by omega)⟩

end Cert.ZBlock

end
-- ==== Proof.ZRef.lean ====
/- The gate-half reference, read at an index: the token's product with the weight column, times its own sigmoid. -/
module

public import proofs.«01_k».proof.Proof.Gen.ZRefIdeal.Read
public import proofs.«01_k».proof.Proof.Proj

@[expose] public section

noncomputable section

namespace Cert.ZRefValue

open Cert.ZRefIdeal Cert.ZRefIdeal.Read Idealize.ShloMosaic Idealize.ShloMosaic.ValueIdx Cert.W4
open scoped BigOperators

/-- The scale of packed row `k`, column `c`: scale row `k / 64`. -/
theorem scale_apply (x2 : Vec Ideal S20x10576 .f32) (k : Fin 1280) (c : Fin 10576) :
    val_main_v2 (F := Ideal) x2 (ix2 k c) = x2 (ix2 ⟨k.val / 64, by omega⟩ c) := by
  rw [val_main_v2_apply, val_main_v1_apply, val_main_v0_apply]
  refine congrArg x2 (funext fun a => Fin.ext ?_)
  match a with
  | ⟨0, _⟩ => show (k.val * 10576 + c.val) / 676864 = k.val / 64; omega
  | ⟨1, _⟩ => show (k.val * 10576 + c.val) % 10576 = c.val; omega

/-- The low codes, dequantised. -/
theorem lo_apply (x1 : Vec Ideal S1280x10576 .i8) (x2 : Vec Ideal S20x10576 .f32) (k : Fin 1280) (c : Fin 10576) :
    val_main_v12 (F := Ideal) x1 x2 (ix2 k c) = nib (x1 (ix2 k c)) 0 * x2 (ix2 ⟨k.val / 64, by omega⟩ c) := by
  rw [val_main_v12_apply, scale_apply]
  exact congrArg (· * x2 (ix2 ⟨k.val / 64, by omega⟩ c)) (congrArg (fun n : Int => ((n : ℝ) : EReal)) (ref_lo (x1 (ix2 k c))))

/-- The high codes, dequantised. -/
theorem hi_apply (x1 : Vec Ideal S1280x10576 .i8) (x2 : Vec Ideal S20x10576 .f32) (k : Fin 1280) (c : Fin 10576) :
    val_main_v22 (F := Ideal) x1 x2 (ix2 k c) = nib (x1 (ix2 k c)) 1 * x2 (ix2 ⟨k.val / 64, by omega⟩ c) := by
  rw [val_main_v22_apply, scale_apply]
  exact congrArg (· * x2 (ix2 ⟨k.val / 64, by omega⟩ c)) (congrArg (fun n : Int => ((n : ℝ) : EReal)) (ref_hi (x1 (ix2 k c))))

/-- The whole projection: the sum of the two products is the one product with the dequantised weight. -/
theorem proj_apply (x0 : Vec Ideal S2048x2560 .bf16) (x1 : Vec Ideal S1280x10576 .i8) (x2 : Vec Ideal S20x10576 .f32) (i : Fin 2048) (c : Fin 10576) :
    val_main_v27 (F := Ideal) x0 x1 x2 (ix2 i c) = proj (M := 2048) (N := 10576) x0 x1 x2 i c := by
  rw [val_main_v27_apply, val_main_v24_apply, val_main_v26_apply, proj_split]
  refine congrArg₂ _ (Finset.sum_congr rfl fun k _ => ?_) (Finset.sum_congr rfl fun k _ => ?_)
  · rw [show ridx_main_v24 (ix2 i c) k = ix2 k c from eq_ix2 _, lo_apply, show lidx_main_v24 (ix2 i c) k = ix2 i k from eq_ix2 _]
    exact congrArg (· * _) (slice2_apply (o := 0) x0 _ i k (by omega))
  · rw [show ridx_main_v26 (ix2 i c) k = ix2 k c from eq_ix2 _, hi_apply, show lidx_main_v26 (ix2 i c) k = ix2 i k from eq_ix2 _]
    exact congrArg (· * _) (slice2_apply (o := 1) x0 _ i k (by omega))

/-- The result at token `i`, column `c`. -/
theorem res_apply (x0 : Vec Ideal S2048x2560 .bf16) (x1 : Vec Ideal S1280x10576 .i8) (x2 : Vec Ideal S20x10576 .f32) (i : Fin 2048) (c : Fin 5120) :
    val_main_v29 (F := Ideal) x0 x1 x2 (ix2 i c)
      = proj (M := 2048) (N := 10576) x0 x1 x2 i ⟨c.val, by omega⟩ * Ideal.logistic (proj (M := 2048) (N := 10576) x0 x1 x2 i ⟨c.val, by omega⟩) := by
  rw [val_main_v29_apply]
  have h : val_main_v28 (F := Ideal) x0 x1 x2 (ix2 i c) = proj (M := 2048) (N := 10576) x0 x1 x2 i ⟨c.val, by omega⟩ :=
    (val_main_v28_apply x0 x1 x2 _).trans (by rw [show idx_main_v28 (ix2 i c) = ix2 i ⟨c.val, by omega⟩ from eq_ix2 _, proj_apply])
  rw [← h]
  exact gate _

end Cert.ZRefValue

end
-- ==== Proof.ZValue.lean ====
/- The gate-half in-projection: the kernel's result array is the reference's, at every index. -/
module

public import proofs.«01_k».proof.Proof.ZBlock
public import proofs.«01_k».proof.Proof.ZRef
public import proofs.«01_k».proof.Defs
public import Idealize.ShloMosaic.Lib.Pipeline.ValueKit.Geometry

@[expose] public section

noncomputable section

namespace Cert.ZValue

open Cert.InProjZIdeal Cert.InProjZIdeal.Gen Idealize.ShloMosaic Idealize.ShloMosaic.TcCoe Idealize.SL.Sem
open Idealize.ShloMosaic.ValueIdx Cert.W4

variable (m : (ℓ : Loc nD τ sig) → Buf (Elt Ideal) ℓ)

/-- Where each window's block lies at grid point `t`. -/
theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel

/-- The tokens' block is the whole array. -/
theorem tokens (c : Dev nD) (t : Fin cfg0.N) (i : Fin 2048) (k : Fin 2560) :
    iblk m c 0 t (ix2 i k) = m ((c : Thread nD τ).loc main_arg0) (ix2 i k) := by
  unfold iblk
  refine congrArg (m ((c : Thread nD τ).loc main_arg0)) (funext fun a => Fin.ext ?_)
  blk_simp
  match a with
  | ⟨0, _⟩ => show win0_0.index t 0 * 2048 + i.val = i.val; rw [(index0 t).1]; omega
  | ⟨1, _⟩ => show win0_0.index t 1 * 2560 + k.val = k.val; rw [(index0 t).2]; omega

/-- The weights' block is the columns `512 t` and on. -/
theorem weights (c : Dev nD) (t : Fin cfg0.N) (a : Fin 1280) (q : Fin 512) (q' : Fin 10576) (hq : q'.val = 512 * t.val + q.val) :
    X0_1 m c t (ix2 a q) = m ((c : Thread nD τ).loc main_arg1) (ix2 a q') := by
  unfold X0_1 Pipeline.Window.fill
  rw [dif_pos (moved0_1 t _)]
  unfold iblk
  refine congrArg (m ((c : Thread nD τ).loc main_arg1)) (funext fun b => Fin.ext ?_)
  blk_simp
  match b with
  | ⟨0, _⟩ => show win0_1.index t 0 * 1280 + a.val = a.val; rw [(index1 t).1]; omega
  | ⟨1, _⟩ => show win0_1.index t 1 * 512 + q.val = q'.val; rw [(index1 t).2]; omega

/-- The scales' block is the columns `512 t` and on. -/
theorem scales (c : Dev nD) (t : Fin cfg0.N) (g : Fin 20) (q : Fin 512) (q' : Fin 10576) (hq : q'.val = 512 * t.val + q.val) :
    X0_2 m c t (ix2 g q) = m ((c : Thread nD τ).loc main_arg2) (ix2 g q') := by
  unfold X0_2 Pipeline.Window.fill
  rw [dif_pos (moved0_2 t _)]
  unfold iblk
  refine congrArg (m ((c : Thread nD τ).loc main_arg2)) (funext fun b => Fin.ext ?_)
  blk_simp
  match b with
  | ⟨0, _⟩ => show win0_2.index t 0 * 20 + g.val = g.val; rw [(index2 t).1]; omega
  | ⟨1, _⟩ => show win0_2.index t 1 * 512 + q.val = q'.val; rw [(index2 t).2]; omega

/-- The result array after the kernel is the reference's result on the same arguments. -/
theorem result (c : Dev nD) :
    (dats m 0 c).arrAt 3 cfg0.N = Cert.ZRefIdeal.Read.val_main_v29 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [ZBlock.out_apply]
  obtain ⟨i, q, rfl⟩ : ∃ i q, y = ix2 (n0 := 2048) (n1 := 512) i q := ⟨_, _, eq_ix2 y⟩
  have ht : t.val < 10 := t.isLt
  have hi : ((cfg0.win 3).blk t).view.emb (ix2 i q) = ix2 (n0 := 2048) (n1 := 5120) i ⟨512 * t.val + q.val, by omega⟩ := by
    refine funext fun b => Fin.ext ?_
    blk_simp
    match b with
    | ⟨0, _⟩ => show win0_3.index t 0 * 2048 + i.val = i.val; rw [(index3 t).1]; omega
    | ⟨1, _⟩ => show win0_3.index t 1 * 512 + q.val = 512 * t.val + q.val; rw [(index3 t).2]; omega
  have h := proj_congr (h := iblk m c 0 t) (w := X0_1 m c t) (s := X0_2 m c t) (i := i) (c := q) (i' := i) (c' := ⟨512 * t.val + q.val, by omega⟩)
    (fun k => tokens m c t i k) (fun a => weights m c t a q _ rfl) (fun g => scales m c t g q _ rfl)
  refine Eq.trans ?_ (congrArg _ hi.symm)
  rw [ZRefValue.res_apply]
  exact congrArg₂ _ h (congrArg Ideal.logistic h)

/-- The claim: on memories that agree on the arguments, the kernel and the reference end with the same result. -/
theorem algebraic : Cert.algebraic_InProjZIdeal_ZRefIdeal := by
  intro m g m' g' _ hagree
  refine ⟨fun c => (dats m 0 c).arrAt 3 cfg0.N, Cert.InProjZIdeal.Value.run_blocks m g, ?_⟩
  refine (θ_run _ _ _).mono (fun r h c => ⟨(h c).1.trans ?_, (h c).2⟩) (Cert.ZRefIdeal.Value.run m' g')
  rw [Cert.ZRefIdeal.Read.val_main_v29_eq, (hagree c).1, (hagree c).2.1, (hagree c).2.2]
  exact (result m c).symm

end Cert.ZValue

end
-- ==== Proof.OutProj.lean ====
/- The out-projection as one function of the tokens, the packed weights and the scales. A weight byte's low nibble is
   the code of a column of the left half of the result, its high nibble the code of the same column of the right half;
   128 rows share a scale. -/
module

public import proofs.«01_k».proof.Proof.Nibbles
public import proofs.«01_k».proof.Proof.Sums

@[expose] public section

noncomputable section

namespace Cert.W4

open Idealize.ShloMosaic Idealize.ShloMosaic.ValueIdx
open scoped BigOperators

/-- The dequantised weight at row `k`: the code of packed column `c`, the scale of column `d`. -/
def oweight {N S : Nat} (w : Vec Ideal ⟨2, ![5120, N]⟩ .i8) (s : Vec Ideal ⟨2, ![40, S]⟩ .f32) (hi : Bool) (k : Fin 5120) (c : Fin N) (d : Fin S) : EReal :=
  nib (w (ix2 k c)) hi.toNat * s (ix2 ⟨k.val / 128, by omega⟩ d)

/-- The product of token `i` with a dequantised weight column. -/
def oproj {M N S : Nat} (h : Vec Ideal ⟨2, ![M, 5120]⟩ .bf16) (w : Vec Ideal ⟨2, ![5120, N]⟩ .i8) (s : Vec Ideal ⟨2, ![40, S]⟩ .f32)
    (hi : Bool) (i : Fin M) (c : Fin N) (d : Fin S) : EReal :=
  ∑ k : Fin 5120, h (ix2 i k) * oweight w s hi k c d

/-- Products of equal tokens, weights and scales are equal. -/
theorem oproj_congr {M N S M' N' S' : Nat} {h : Vec Ideal ⟨2, ![M, 5120]⟩ .bf16} {w : Vec Ideal ⟨2, ![5120, N]⟩ .i8} {s : Vec Ideal ⟨2, ![40, S]⟩ .f32}
    {h' : Vec Ideal ⟨2, ![M', 5120]⟩ .bf16} {w' : Vec Ideal ⟨2, ![5120, N']⟩ .i8} {s' : Vec Ideal ⟨2, ![40, S']⟩ .f32} {hi : Bool}
    {i : Fin M} {c : Fin N} {d : Fin S} {i' : Fin M'} {c' : Fin N'} {d' : Fin S'}
    (hh : ∀ k, h (ix2 i k) = h' (ix2 i' k)) (hw : ∀ k, w (ix2 k c) = w' (ix2 k c')) (hs : ∀ g, s (ix2 g d) = s' (ix2 g d')) :
    oproj h w s hi i c d = oproj h' w' s' hi i' c' d' := by
  unfold oproj oweight
  exact Finset.sum_congr rfl fun k _ => by rw [hh, hw, hs]

end Cert.W4

end
-- ==== Proof.OutBlock.lean ====
/- The out-projection kernel, one grid point: what the point leaves in its two output blocks, as functions of the
   block of tokens, the block of packed weights and the two blocks of scales it reads. The kernel dequantises forty
   groups of 128 weight rows into a scratch buffer, the low codes in the left 128 columns and the high codes in the
   right 128, then multiplies eight strips of 256 tokens by the whole buffer and splits each product in two. -/
module

public import proofs.«01_k».proof.Proof.Gen.OutProjIdeal.Frame
public import proofs.«01_k».proof.Proof.Nibbles
public import proofs.«01_k».proof.Proof.OutProj
public import Idealize.ShloMosaic.Lib.Pipeline.ValueKit.Tiles

@[expose] public section

set_option maxRecDepth 16384

noncomputable section

namespace Cert.OutBlock

open Cert.OutProjIdeal Cert.OutProjIdeal.Gen Idealize.ShloMosaic Idealize.ShloMosaic.TcCoe Idealize.SL Idealize.SL.Sem
open Idealize.ShloMosaic.ValueIdx Cert.W4
open scoped BigOperators

section Any
variable {F : FTy → Type} [FloatOps F]

/-- The scales of the low codes or of the high codes. -/
abbrev pick {α : Type} (hi : Bool) (a b : α) : α := match hi with | false => a | true => b

/-- One group of dequantised weights, of the low codes or of the high codes. -/
abbrev grp (hi : Bool) (w : Vec F S128x128 .i8) (s : Vec F S1x128 .f32) : FVec F S128x128 .bf16 :=
  odeq bitcasts_S128x128_w8_S32x128_w32 bitcasts_S32x128_w32_S128x128_w8 broadcasts_S1x128_S128x128 shapeCasts_S128x128_S128x128 hi w s

/-- Group `k` of the scratch buffer, at rows `128 k` and on, low codes from column 0 and high codes from column 128. -/
abbrev group (x1 : Vec F S5120x128 .i8) (x2 x3 : Vec F S40x128 .f32) (hi : Bool) (k : Nat) (hk : k < 40) : View.Piece (Elt F) S5120x256 .bf16 :=
  ⟨Rect.unit ![128 * k, 128 * hi.toNat] ![128, 128] (fun a => match a with
      | ⟨0, _⟩ => by show 128 * k + 128 ≤ 5120; omega
      | ⟨1, _⟩ => by show 128 * hi.toNat + 128 ≤ 256; have := hi.toNat_le; omega),
    grp hi (View.ld x1 (Rect.unit ![128 * k, 0] ![128, 128] (fun a => match a with
      | ⟨0, _⟩ => by show 128 * k + 128 ≤ 5120; omega
      | ⟨1, _⟩ => by show 0 + 128 ≤ 128; omega)))
      (View.ld (pick hi x2 x3) (Rect.unit ![k, 0] ![1, 128] (fun a => match a with
      | ⟨0, _⟩ => by show k + 1 ≤ 40; omega
      | ⟨1, _⟩ => by show 0 + 128 ≤ 128; omega)))⟩

/-- The scratch buffer's stores, last first. -/
abbrev stores (x1 : Vec F S5120x128 .i8) (x2 x3 : Vec F S40x128 .f32) : List (View.Piece (Elt F) S5120x256 .bf16) :=
  [group x1 x2 x3 true 39 (by omega), group x1 x2 x3 false 39 (by omega), group x1 x2 x3 true 38 (by omega), group x1 x2 x3 false 38 (by omega), group x1 x2 x3 true 37 (by omega), group x1 x2 x3 false 37 (by omega), group x1 x2 x3 true 36 (by omega), group x1 x2 x3 false 36 (by omega), group x1 x2 x3 true 35 (by omega), group x1 x2 x3 false 35 (by omega), group x1 x2 x3 true 34 (by omega), group x1 x2 x3 false 34 (by omega), group x1 x2 x3 true 33 (by omega), group x1 x2 x3 false 33 (by omega), group x1 x2 x3 true 32 (by omega), group x1 x2 x3 false 32 (by omega), group x1 x2 x3 true 31 (by omega), group x1 x2 x3 false 31 (by omega), group x1 x2 x3 true 30 (by omega), group x1 x2 x3 false 30 (by omega), group x1 x2 x3 true 29 (by omega), group x1 x2 x3 false 29 (by omega), group x1 x2 x3 true 28 (by omega), group x1 x2 x3 false 28 (by omega), group x1 x2 x3 true 27 (by omega), group x1 x2 x3 false 27 (by omega), group x1 x2 x3 true 26 (by omega), group x1 x2 x3 false 26 (by omega), group x1 x2 x3 true 25 (by omega), group x1 x2 x3 false 25 (by omega), group x1 x2 x3 true 24 (by omega), group x1 x2 x3 false 24 (by omega), group x1 x2 x3 true 23 (by omega), group x1 x2 x3 false 23 (by omega), group x1 x2 x3 true 22 (by omega), group x1 x2 x3 false 22 (by omega), group x1 x2 x3 true 21 (by omega), group x1 x2 x3 false 21 (by omega), group x1 x2 x3 true 20 (by omega), group x1 x2 x3 false 20 (by omega), group x1 x2 x3 true 19 (by omega), group x1 x2 x3 false 19 (by omega), group x1 x2 x3 true 18 (by omega), group x1 x2 x3 false 18 (by omega), group x1 x2 x3 true 17 (by omega), group x1 x2 x3 false 17 (by omega), group x1 x2 x3 true 16 (by omega), group x1 x2 x3 false 16 (by omega), group x1 x2 x3 true 15 (by omega), group x1 x2 x3 false 15 (by omega), group x1 x2 x3 true 14 (by omega), group x1 x2 x3 false 14 (by omega), group x1 x2 x3 true 13 (by omega), group x1 x2 x3 false 13 (by omega), group x1 x2 x3 true 12 (by omega), group x1 x2 x3 false 12 (by omega), group x1 x2 x3 true 11 (by omega), group x1 x2 x3 false 11 (by omega), group x1 x2 x3 true 10 (by omega), group x1 x2 x3 false 10 (by omega), group x1 x2 x3 true 9 (by omega), group x1 x2 x3 false 9 (by omega), group x1 x2 x3 true 8 (by omega), group x1 x2 x3 false 8 (by omega), group x1 x2 x3 true 7 (by omega), group x1 x2 x3 false 7 (by omega), group x1 x2 x3 true 6 (by omega), group x1 x2 x3 false 6 (by omega), group x1 x2 x3 true 5 (by omega), group x1 x2 x3 false 5 (by omega), group x1 x2 x3 true 4 (by omega), group x1 x2 x3 false 4 (by omega), group x1 x2 x3 true 3 (by omega), group x1 x2 x3 false 3 (by omega), group x1 x2 x3 true 2 (by omega), group x1 x2 x3 false 2 (by omega), group x1 x2 x3 true 1 (by omega), group x1 x2 x3 false 1 (by omega), group x1 x2 x3 true 0 (by omega), group x1 x2 x3 false 0 (by omega)]

/-- One strip of the product: 256 tokens with the whole buffer, rounded, the left or the right 128 columns. -/
abbrev strip (h : Vec F S256x5120 .bf16) (W : Vec F S5120x256 .bf16) (hi : Bool) : FVec F S256x128 .bf16 :=
  match hi with
  | false => extractStridedSlice S256x128 ![0, 0] (truncf .bf16 (matmul dot_S256x5120_S5120x256_S256x256_1_0_0_1_n_n none h W (constant S256x256 .f32 0x00000000#32)) bitsLt_bf16_f32) slices_S256x256_o0_0_S256x128
  | true => extractStridedSlice S256x128 ![0, 128] (truncf .bf16 (matmul dot_S256x5120_S5120x256_S256x256_1_0_0_1_n_n none h W (constant S256x256 .f32 0x00000000#32)) bitsLt_bf16_f32) slices_S256x256_o0_128_S256x128

/-- Strip `k` of an output block, tokens `256 k` and on. -/
abbrev part (x0 : Vec F S2048x5120 .bf16) (W : Vec F S5120x256 .bf16) (hi : Bool) (k : Nat) (hk : k < 8) : View.Piece (Elt F) S2048x128 .bf16 :=
  ⟨Rect.unit ![256 * k, 0] ![256, 128] (fun a => match a with
      | ⟨0, _⟩ => by show 256 * k + 256 ≤ 2048; omega
      | ⟨1, _⟩ => by show 0 + 128 ≤ 128; omega),
    strip (View.ld x0 (Rect.unit ![256 * k, 0] ![256, 5120] (fun a => match a with
      | ⟨0, _⟩ => by show 256 * k + 256 ≤ 2048; omega
      | ⟨1, _⟩ => by show 0 + 5120 ≤ 5120; omega))) W hi⟩

/-- A load of the whole scratch buffer reads what the stores leave. -/
theorem load_all (v : View sig .tc .vmem S5120x256 .bf16) (L L' : List (View.Piece (Elt F) S5120x256 .bf16)) (h : L = L')
    (inb) : v.readCov L (Rect.unit ![0, 0] ![5120, 256] inb).toLoadRect = View.canon L' := by
  rw [View.readCov_eq_canon', h]
  exact View.ld_unit_zero (S := S5120x256) (off := ![0, 0]) (by funext a; fin_cases a <;> rfl) inb _

set_option maxHeartbeats 4000000 in
/-- Output 4's block is its eight strips, last first, over the buffer the stores leave. -/
theorem out_eq4 (c : Dev nD) (i : grid0.Coords) (arg1 : Memref sig .tc .vmem S2048x5120 .bf16) (harg1 : arg1.IsWhole) (arg2 : Memref sig .tc .vmem S5120x128 .i8) (harg2 : arg2.IsWhole) (arg3 : Memref sig .tc .vmem S40x128 .f32) (harg3 : arg3.IsWhole) (arg4 : Memref sig .tc .vmem S40x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S5120x256 .bf16) (harg7 : arg7.IsWhole)
    (x0 : Vec F S2048x5120 .bf16) (x1 : Vec F S5120x128 .i8) (x2 x3 : Vec F S40x128 .f32) :
    out0_A_4 c i arg1 harg1 arg2 harg2 arg3 harg3 arg4 harg4 arg5 harg5 arg6 harg6 arg7 harg7 x0 x1 x2 x3
      = View.canon [part x0 (View.canon (stores x1 x2 x3)) false 7 (by omega), part x0 (View.canon (stores x1 x2 x3)) false 6 (by omega), part x0 (View.canon (stores x1 x2 x3)) false 5 (by omega), part x0 (View.canon (stores x1 x2 x3)) false 4 (by omega), part x0 (View.canon (stores x1 x2 x3)) false 3 (by omega), part x0 (View.canon (stores x1 x2 x3)) false 2 (by omega), part x0 (View.canon (stores x1 x2 x3)) false 1 (by omega), part x0 (View.canon (stores x1 x2 x3)) false 0 (by omega)] := by
  unfold out0_A_4
  rw [View.read_writes_junk_eq_canon]
  unfold kernelRun0_A
  dsimp only
  sl_unfold_words
  simp only [View.readAt_eq_ld, harg1.read_unread, harg2.read_unread, harg3.read_unread, harg4.read_unread]
  rw [load_all arg7.view _ (stores x1 x2 x3) ?_]
  · refine congrArg View.canon ?_
    repeat (first | refine congrArg₂ List.cons ?_ ?_ | rfl)
  · repeat (first | refine congrArg₂ List.cons ?_ ?_ | rfl)

set_option maxHeartbeats 4000000 in
/-- Output 5's block is its eight strips, last first, over the buffer the stores leave. -/
theorem out_eq5 (c : Dev nD) (i : grid0.Coords) (arg1 : Memref sig .tc .vmem S2048x5120 .bf16) (harg1 : arg1.IsWhole) (arg2 : Memref sig .tc .vmem S5120x128 .i8) (harg2 : arg2.IsWhole) (arg3 : Memref sig .tc .vmem S40x128 .f32) (harg3 : arg3.IsWhole) (arg4 : Memref sig .tc .vmem S40x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S5120x256 .bf16) (harg7 : arg7.IsWhole)
    (x0 : Vec F S2048x5120 .bf16) (x1 : Vec F S5120x128 .i8) (x2 x3 : Vec F S40x128 .f32) :
    out0_A_5 c i arg1 harg1 arg2 harg2 arg3 harg3 arg4 harg4 arg5 harg5 arg6 harg6 arg7 harg7 x0 x1 x2 x3
      = View.canon [part x0 (View.canon (stores x1 x2 x3)) true 7 (by omega), part x0 (View.canon (stores x1 x2 x3)) true 6 (by omega), part x0 (View.canon (stores x1 x2 x3)) true 5 (by omega), part x0 (View.canon (stores x1 x2 x3)) true 4 (by omega), part x0 (View.canon (stores x1 x2 x3)) true 3 (by omega), part x0 (View.canon (stores x1 x2 x3)) true 2 (by omega), part x0 (View.canon (stores x1 x2 x3)) true 1 (by omega), part x0 (View.canon (stores x1 x2 x3)) true 0 (by omega)] := by
  unfold out0_A_5
  rw [View.read_writes_junk_eq_canon]
  unfold kernelRun0_A
  dsimp only
  sl_unfold_words
  simp only [View.readAt_eq_ld, harg1.read_unread, harg2.read_unread, harg3.read_unread, harg4.read_unread]
  rw [load_all arg7.view _ (stores x1 x2 x3) ?_]
  · refine congrArg View.canon ?_
    repeat (first | refine congrArg₂ List.cons ?_ ?_ | rfl)
  · repeat (first | refine congrArg₂ List.cons ?_ ?_ | rfl)

end Any

/-- What the scratch buffer holds: the dequantised low codes on the left, the high codes on the right. -/
def bufAt (x1 : Vec Ideal S5120x128 .i8) (x2 x3 : Vec Ideal S40x128 .f32) (k : Fin 5120) (q : Fin 256) : EReal :=
  if h : q.val < 128 then oweight (N := 128) (S := 128) x1 x2 false k ⟨q.val, h⟩ ⟨q.val, h⟩
  else oweight (N := 128) (S := 128) x1 x3 true k ⟨q.val - 128, by omega⟩ ⟨q.val - 128, by omega⟩

/-- The same, as contents of the buffer. -/
def buffer (x1 : Vec Ideal S5120x128 .i8) (x2 x3 : Vec Ideal S40x128 .f32) : S5120x256.Idx → EReal :=
  fun y => bufAt x1 x2 x3 (y 0) (y 1)

/-- The buffer's column for output `hi`, column `q`. -/
theorem bufAt_lo (x1 : Vec Ideal S5120x128 .i8) (x2 x3 : Vec Ideal S40x128 .f32) (k : Fin 5120) (q : Fin 128) (q' : Fin 256)
    (hq : q'.val = q.val) : bufAt x1 x2 x3 k q' = oweight (N := 128) (S := 128) x1 x2 false k q q := by
  obtain ⟨q, h⟩ := q
  subst hq
  exact dif_pos h

theorem bufAt_hi (x1 : Vec Ideal S5120x128 .i8) (x2 x3 : Vec Ideal S40x128 .f32) (k : Fin 5120) (q : Fin 128) (q' : Fin 256)
    (hq : q'.val = 128 + q.val) : bufAt x1 x2 x3 k q' = oweight (N := 128) (S := 128) x1 x3 true k q q := by
  have e : q = ⟨q'.val - 128, by omega⟩ := Fin.ext (by show q.val = q'.val - 128; omega)
  rw [e]
  exact dif_neg (by omega)

/-- Both at once. -/
theorem bufAt_eq (x1 : Vec Ideal S5120x128 .i8) (x2 x3 : Vec Ideal S40x128 .f32) (hi : Bool) (k : Fin 5120) (q : Fin 128) (q' : Fin 256)
    (hq : q'.val = 128 * hi.toNat + q.val) :
    bufAt x1 x2 x3 k q' = oweight (N := 128) (S := 128) x1 (pick hi x2 x3) hi k q q :=
  match hi, hq with
  | false, hq => bufAt_lo x1 x2 x3 k q q' (hq.trans (Nat.zero_add _))
  | true, hq => bufAt_hi x1 x2 x3 k q q' hq

/-- Every group holds the buffer's values. -/
theorem group_apply (x1 : Vec Ideal S5120x128 .i8) (x2 x3 : Vec Ideal S40x128 .f32) (hi : Bool) (k : Nat) (hk : k < 40)
    (x : (group x1 x2 x3 hi k hk).1.shape.Idx) :
    (group x1 x2 x3 hi k hk).2 x = buffer x1 x2 x3 ((group x1 x2 x3 hi k hk).1.emb x) := by
  obtain ⟨r, c, rfl⟩ : ∃ r c, x = ix2 (n0 := 128) (n1 := 128) r c := ⟨_, _, eq_ix2 x⟩
  refine (odeq_apply _ _ _ _ hi _ _ r c).trans ?_
  have e0 : (((group x1 x2 x3 hi k hk).1.emb (ix2 r c) 0 : Fin 5120) : Nat) = 128 * k + r.val := by show 128 * k + 1 * r.val = _; omega
  have e1 : (((group x1 x2 x3 hi k hk).1.emb (ix2 r c) 1 : Fin 256) : Nat) = 128 * hi.toNat + c.val := by show 128 * hi.toNat + 1 * c.val = _; omega
  refine Eq.trans ?_ (bufAt_eq x1 x2 x3 hi ((group x1 x2 x3 hi k hk).1.emb (ix2 r c) 0) c ((group x1 x2 x3 hi k hk).1.emb (ix2 r c) 1) e1).symm
  unfold oweight
  refine congrArg₂ _ (congrArg (nib · hi.toNat) ?_) ?_
  · exact ld2 _ _ _ _ _ _ e0 (Nat.zero_add _).symm
  · exact ld2 (pick hi x2 x3) _ _ _ _ _ (show (((group x1 x2 x3 hi k hk).1.emb (ix2 r c) 0 : Fin 5120) : Nat) / 128 = k + 0 by omega) (Nat.zero_add _).symm

/-- The scratch buffer holds the dequantised weights. -/
theorem stores_eq (x1 : Vec Ideal S5120x128 .i8) (x2 x3 : Vec Ideal S40x128 .f32) :
    View.canon (stores x1 x2 x3) = buffer x1 x2 x3 := by
  refine canon_of_bands (S := S5120x256) (e := .bf16) (buffer x1 x2 x3) 80 (fun p hp => group x1 x2 x3 (p % 2 == 1) (p / 2) (by omega)) _ rfl
    (fun p hp x => group_apply x1 x2 x3 _ _ _ x) (fun y => ?_)
  have h0 : (y 0).val < 5120 := (y 0).isLt
  have h1 : (y 1).val < 256 := (y 1).isLt
  refine ⟨2 * ((y 0).val / 128) + (y 1).val / 128, by omega, ?_⟩
  rw [Rect.mem_set_unit]
  have hp : (2 * ((y 0).val / 128) + (y 1).val / 128) / 2 = (y 0).val / 128 := by omega
  have hb : 128 * ((2 * ((y 0).val / 128) + (y 1).val / 128) % 2 == 1).toNat = 128 * ((y 1).val / 128) := by
    rcases (by omega : (y 1).val / 128 = 0 ∨ (y 1).val / 128 = 1) with h | h
    · rw [h, show (2 * ((y 0).val / 128) + 0) % 2 = 0 by omega]; rfl
    · rw [h, show (2 * ((y 0).val / 128) + 1) % 2 = 1 by omega]; rfl
  intro a
  match a with
  | ⟨0, _⟩ => show 128 * (_ / 2) ≤ (y 0).val ∧ (y 0).val < 128 * (_ / 2) + 128; rw [hp]; omega
  | ⟨1, _⟩ => show 128 * Bool.toNat _ ≤ (y 1).val ∧ (y 1).val < 128 * Bool.toNat _ + 128; rw [hb]; omega

/-- A strip at an index: the token's product with one column of the buffer. -/
theorem strip_apply (h : Vec Ideal S256x5120 .bf16) (W : Vec Ideal S5120x256 .bf16) (hi : Bool) (r : Fin 256) (q : Fin 128) (q' : Fin 256)
    (hq : q'.val = 128 * hi.toNat + q.val) :
    strip h W hi (ix2 r q) = ∑ k : Fin 5120, h (ix2 r k) * W (ix2 k q') := by
  have hm : ∀ q' : Fin 256, matmul (F := Ideal) dot_S256x5120_S5120x256_S256x256_1_0_0_1_n_n none h W (constant S256x256 .f32 0x00000000#32) (ix2 r q')
      = ∑ k : Fin 5120, h (ix2 r k) * W (ix2 k q') := fun q' => by
    refine (Ideal.matmul_plain_apply none _ _ _ r q').trans ?_
    rw [show (constant (F := Ideal) S256x256 .f32 0x00000000#32) (ix2 r q') = 0 from Ideal.ofBits_zero_f32, zero_add]
  rw [← hm]
  exact match hi, hq with
  | false, hq => extractStridedSlice_apply _ _ _ _ (ix2 r q') (fun a => match a with
      | ⟨0, _⟩ => (Nat.zero_add _).symm
      | ⟨1, _⟩ => hq)
  | true, hq => extractStridedSlice_apply _ _ _ _ (ix2 r q') (fun a => match a with
      | ⟨0, _⟩ => (Nat.zero_add _).symm
      | ⟨1, _⟩ => hq)

/-- An output block, its strips over the dequantised weights. -/
theorem parts_eq (x0 : Vec Ideal S2048x5120 .bf16) (x1 : Vec Ideal S5120x128 .i8) (x2 x3 : Vec Ideal S40x128 .f32) (hi : Bool) :
    View.canon [part x0 (buffer x1 x2 x3) hi 7 (by omega), part x0 (buffer x1 x2 x3) hi 6 (by omega), part x0 (buffer x1 x2 x3) hi 5 (by omega), part x0 (buffer x1 x2 x3) hi 4 (by omega), part x0 (buffer x1 x2 x3) hi 3 (by omega), part x0 (buffer x1 x2 x3) hi 2 (by omega), part x0 (buffer x1 x2 x3) hi 1 (by omega), part x0 (buffer x1 x2 x3) hi 0 (by omega)]
      = fun y : S2048x128.Idx => oproj x0 x1 (pick hi x2 x3) hi (y 0) (y 1) (y 1) := by
  refine canon_of_bands (S := S2048x128) (e := .bf16) _ 8 (part x0 (buffer x1 x2 x3) hi) _ rfl (fun k hk x => ?_) (fun y => ?_)
  · obtain ⟨r, q, rfl⟩ : ∃ r q, x = ix2 (n0 := 256) (n1 := 128) r q := ⟨_, _, eq_ix2 x⟩
    have e0 : (((part x0 (buffer x1 x2 x3) hi k hk).1.emb (ix2 r q) 0 : Fin 2048) : Nat) = 256 * k + r.val := by show 256 * k + 1 * r.val = _; omega
    have e1 : ((part x0 (buffer x1 x2 x3) hi k hk).1.emb (ix2 r q) 1 : Fin 128) = q := Fin.ext (by show 0 + 1 * q.val = _; omega)
    rw [e1]
    refine (strip_apply _ _ hi r q ⟨128 * hi.toNat + q.val, by have := hi.toNat_le; omega⟩ rfl).trans ?_
    unfold oproj
    refine Finset.sum_congr rfl fun j _ => congrArg₂ _ ?_ (bufAt_eq x1 x2 x3 hi j q _ rfl)
    exact ld2 _ _ _ _ _ _ e0 (Nat.zero_add _).symm
  · have h0 : (y 0).val < 2048 := (y 0).isLt
    refine ⟨(y 0).val / 256, by omega, by rw [Rect.mem_set_unit]; exact band y (by omega)⟩

/-- Output 4's block, at token `i` and column `c`. -/
theorem out_apply4 (c : Dev nD) (i : grid0.Coords) (arg1 : Memref sig .tc .vmem S2048x5120 .bf16) (harg1 : arg1.IsWhole) (arg2 : Memref sig .tc .vmem S5120x128 .i8) (harg2 : arg2.IsWhole) (arg3 : Memref sig .tc .vmem S40x128 .f32) (harg3 : arg3.IsWhole) (arg4 : Memref sig .tc .vmem S40x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S5120x256 .bf16) (harg7 : arg7.IsWhole)
    (x0 : Vec Ideal S2048x5120 .bf16) (x1 : Vec Ideal S5120x128 .i8) (x2 x3 : Vec Ideal S40x128 .f32) :
    out0_A_4 c i arg1 harg1 arg2 harg2 arg3 harg3 arg4 harg4 arg5 harg5 arg6 harg6 arg7 harg7 x0 x1 x2 x3
      = fun y : S2048x128.Idx => oproj x0 x1 x2 false (y 0) (y 1) (y 1) := by
  rw [out_eq4, stores_eq, parts_eq]

/-- Output 5's block, at token `i` and column `c`. -/
theorem out_apply5 (c : Dev nD) (i : grid0.Coords) (arg1 : Memref sig .tc .vmem S2048x5120 .bf16) (harg1 : arg1.IsWhole) (arg2 : Memref sig .tc .vmem S5120x128 .i8) (harg2 : arg2.IsWhole) (arg3 : Memref sig .tc .vmem S40x128 .f32) (harg3 : arg3.IsWhole) (arg4 : Memref sig .tc .vmem S40x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S5120x256 .bf16) (harg7 : arg7.IsWhole)
    (x0 : Vec Ideal S2048x5120 .bf16) (x1 : Vec Ideal S5120x128 .i8) (x2 x3 : Vec Ideal S40x128 .f32) :
    out0_A_5 c i arg1 harg1 arg2 harg2 arg3 harg3 arg4 harg4 arg5 harg5 arg6 harg6 arg7 harg7 x0 x1 x2 x3
      = fun y : S2048x128.Idx => oproj x0 x1 x3 true (y 0) (y 1) (y 1) := by
  rw [out_eq5, stores_eq, parts_eq]

end Cert.OutBlock

end
-- ==== Proof.OutRef.lean ====
/- The out-projection reference, read at an index: the token's product with the weight column, the left half of the
   columns from the low codes and the right half from the high codes. -/
module

public import proofs.«01_k».proof.Proof.Gen.OutRefIdeal.Read
public import proofs.«01_k».proof.Proof.OutProj

@[expose] public section

noncomputable section

namespace Cert.OutRefValue

open Cert.OutRefIdeal Cert.OutRefIdeal.Gen Cert.OutRefIdeal.Read Idealize.ShloMosaic Idealize.ShloMosaic.ValueIdx Cert.W4
open scoped BigOperators

/-- The scale of row `k`, left column `c`: scale row `k / 128`. -/
theorem scale_lo (x2 : Vec Ideal S40x2560 .f32) (k : Fin 5120) (c : Fin 1280) :
    val_main_v12 (F := Ideal) x2 (ix2 k c) = x2 (ix2 ⟨k.val / 128, by omega⟩ ⟨c.val, by omega⟩) := by
  rw [val_main_v12_apply, val_main_v11_apply, val_main_v10_apply]
  refine congrArg x2 (funext fun a => Fin.ext ?_)
  match a with
  | ⟨0, _⟩ => show (k.val * 1280 + c.val) / 163840 = k.val / 128; omega
  | ⟨1, _⟩ => show (k.val * 1280 + c.val) % 1280 = c.val; omega

/-- The scale of row `k`, right column `c`. -/
theorem scale_hi (x2 : Vec Ideal S40x2560 .f32) (k : Fin 5120) (c : Fin 1280) :
    val_main_v25 (F := Ideal) x2 (ix2 k c) = x2 (ix2 ⟨k.val / 128, by omega⟩ ⟨1280 + c.val, by omega⟩) := by
  rw [val_main_v25_apply, val_main_v24_apply, val_main_v23_apply]
  refine congrArg x2 (funext fun a => Fin.ext ?_)
  match a with
  | ⟨0, _⟩ => show (k.val * 1280 + c.val) / 163840 = k.val / 128; omega
  | ⟨1, _⟩ => show 1280 + (k.val * 1280 + c.val) % 1280 = 1280 + c.val; omega

/-- The low codes, dequantised. -/
theorem lo_apply (x1 : Vec Ideal S5120x1280 .i8) (x2 : Vec Ideal S40x2560 .f32) (k : Fin 5120) (c : Fin 1280) :
    val_main_v13 (F := Ideal) x1 x2 (ix2 k c) = oweight (N := 1280) (S := 2560) x1 x2 false k c ⟨c.val, by omega⟩ := by
  rw [val_main_v13_apply, scale_lo]
  exact congrArg (· * x2 (ix2 ⟨k.val / 128, by omega⟩ ⟨c.val, by omega⟩)) (congrArg (fun n : Int => ((n : ℝ) : EReal)) (ref_lo (x1 (ix2 k c))))

/-- The high codes, dequantised. -/
theorem hi_apply (x1 : Vec Ideal S5120x1280 .i8) (x2 : Vec Ideal S40x2560 .f32) (k : Fin 5120) (c : Fin 1280) :
    val_main_v26 (F := Ideal) x1 x2 (ix2 k c) = oweight (N := 1280) (S := 2560) x1 x2 true k c ⟨1280 + c.val, by omega⟩ := by
  rw [val_main_v26_apply, scale_hi]
  exact congrArg (· * x2 (ix2 ⟨k.val / 128, by omega⟩ ⟨1280 + c.val, by omega⟩)) (congrArg (fun n : Int => ((n : ℝ) : EReal)) (ref_hi (x1 (ix2 k c))))

/-- The left half of the result. -/
theorem left_apply (x0 : Vec Ideal S2048x5120 .bf16) (x1 : Vec Ideal S5120x1280 .i8) (x2 : Vec Ideal S40x2560 .f32) (i : Fin 2048) (c : Fin 1280) :
    val_main_v27 (F := Ideal) x0 x1 x2 (ix2 i c) = oproj (M := 2048) (N := 1280) (S := 2560) x0 x1 x2 false i c ⟨c.val, by omega⟩ := by
  rw [val_main_v27_apply]
  refine Finset.sum_congr rfl fun k _ => ?_
  rw [show ridx_main_v27 (ix2 i c) k = ix2 k c from eq_ix2 _, lo_apply, show lidx_main_v27 (ix2 i c) k = ix2 i k from eq_ix2 _]

/-- The right half of the result. -/
theorem right_apply (x0 : Vec Ideal S2048x5120 .bf16) (x1 : Vec Ideal S5120x1280 .i8) (x2 : Vec Ideal S40x2560 .f32) (i : Fin 2048) (c : Fin 1280) :
    val_main_v28 (F := Ideal) x0 x1 x2 (ix2 i c) = oproj (M := 2048) (N := 1280) (S := 2560) x0 x1 x2 true i c ⟨1280 + c.val, by omega⟩ := by
  rw [val_main_v28_apply]
  refine Finset.sum_congr rfl fun k _ => ?_
  rw [show ridx_main_v28 (ix2 i c) k = ix2 k c from eq_ix2 _, hi_apply, show lidx_main_v28 (ix2 i c) k = ix2 i k from eq_ix2 _]

/-- The result is its two halves side by side; over the reals the rounding is the identity. -/
theorem res_eq (x0 : Vec Ideal S2048x5120 .bf16) (x1 : Vec Ideal S5120x1280 .i8) (x2 : Vec Ideal S40x2560 .f32) :
    val_main_v30 (F := Ideal) x0 x1 x2
      = concatenate (α := EReal) S2048x2560 1 [⟨S2048x1280, val_main_v27 (F := Ideal) x0 x1 x2⟩, ⟨S2048x1280, val_main_v28 (F := Ideal) x0 x1 x2⟩] concatenates_S2048x1280_S2048x1280_S2048x2560_d1 := rfl

end Cert.OutRefValue

end
-- ==== Proof.OutValue.lean ====
/- The out-projection: the kernel's result array is the reference's, at every index. -/
module

public import proofs.«01_k».proof.Proof.OutBlock
public import proofs.«01_k».proof.Proof.OutRef
public import proofs.«01_k».proof.Proof.Gen.OutRefIdeal.Run
public import proofs.«01_k».proof.Defs
public import Idealize.ShloMosaic.Lib.Pipeline.ValueKit.Geometry

@[expose] public section

set_option maxRecDepth 16384

noncomputable section

namespace Cert.OutValue

open Cert.OutProjIdeal Cert.OutProjIdeal.Gen Idealize.ShloMosaic Idealize.ShloMosaic.TcCoe Idealize.SL.Sem
open Idealize.ShloMosaic.ValueIdx Cert.W4

variable (m : (ℓ : Loc nD τ sig) → Buf (Elt Ideal) ℓ)

/-- Where each window's block lies at grid point `t`. -/
theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val + 10 := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel

/-- The tokens' block is the whole array. -/
theorem tokens (c : Dev nD) (t : Fin cfg0.N) (i : Fin 2048) (k : Fin 5120) :
    iblk m c 0 t (ix2 i k) = m ((c : Thread nD τ).loc main_arg0) (ix2 i k) := by
  unfold iblk
  refine congrArg (m ((c : Thread nD τ).loc main_arg0)) (funext fun a => Fin.ext ?_)
  blk_simp
  match a with
  | ⟨0, _⟩ => show win0_0.index t 0 * 2048 + i.val = i.val; rw [(index0 t).1]; omega
  | ⟨1, _⟩ => show win0_0.index t 1 * 5120 + k.val = k.val; rw [(index0 t).2]; omega

/-- The weights' block is the columns `128 t` and on. -/
theorem weights (c : Dev nD) (t : Fin cfg0.N) (a : Fin 5120) (q : Fin 128) (q' : Fin 1280) (hq : q'.val = 128 * t.val + q.val) :
    iblk m c 1 t (ix2 a q) = m ((c : Thread nD τ).loc main_arg1) (ix2 a q') := by
  unfold iblk
  refine congrArg (m ((c : Thread nD τ).loc main_arg1)) (funext fun b => Fin.ext ?_)
  blk_simp
  match b with
  | ⟨0, _⟩ => show win0_1.index t 0 * 5120 + a.val = a.val; rw [(index1 t).1]; omega
  | ⟨1, _⟩ => show win0_1.index t 1 * 128 + q.val = q'.val; rw [(index1 t).2]; omega

/-- The low codes' scales are the columns `128 t` and on. -/
theorem scales_lo (c : Dev nD) (t : Fin cfg0.N) (g : Fin 40) (q : Fin 128) (q' : Fin 2560) (hq : q'.val = 128 * t.val + q.val) :
    iblk m c 2 t (ix2 g q) = m ((c : Thread nD τ).loc main_arg2) (ix2 g q') := by
  unfold iblk
  refine congrArg (m ((c : Thread nD τ).loc main_arg2)) (funext fun b => Fin.ext ?_)
  blk_simp
  match b with
  | ⟨0, _⟩ => show win0_2.index t 0 * 40 + g.val = g.val; rw [(index2 t).1]; omega
  | ⟨1, _⟩ => show win0_2.index t 1 * 128 + q.val = q'.val; rw [(index2 t).2]; omega

/-- The high codes' scales are the columns `1280 + 128 t` and on. -/
theorem scales_hi (c : Dev nD) (t : Fin cfg0.N) (g : Fin 40) (q : Fin 128) (q' : Fin 2560) (hq : q'.val = 1280 + (128 * t.val + q.val)) :
    iblk m c 3 t (ix2 g q) = m ((c : Thread nD τ).loc main_arg2) (ix2 g q') := by
  unfold iblk
  refine congrArg (m ((c : Thread nD τ).loc main_arg2)) (funext fun b => Fin.ext ?_)
  blk_simp
  match b with
  | ⟨0, _⟩ => show win0_3.index t 0 * 40 + g.val = g.val; rw [(index3 t).1]; omega
  | ⟨1, _⟩ => show win0_3.index t 1 * 128 + q.val = q'.val; rw [(index3 t).2]; omega

/-- The left half after the kernel is the reference's. -/
theorem left (c : Dev nD) :
    (dats m 0 c).arrAt 4 cfg0.N = Cert.OutRefIdeal.Read.val_main_v27 (F := Ideal) (m ((c : Thread nD τ).loc main_arg0))
      (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  rw [OutBlock.out_apply4]
  obtain ⟨i, q, rfl⟩ : ∃ i q, y = ix2 (n0 := 2048) (n1 := 128) i q := ⟨_, _, eq_ix2 y⟩
  have ht : t.val < 10 := t.isLt
  have hi : ((cfg0.win 4).blk t).view.emb (ix2 i q) = ix2 (n0 := 2048) (n1 := 1280) i ⟨128 * t.val + q.val, by omega⟩ := by
    refine funext fun b => Fin.ext ?_
    blk_simp
    match b with
    | ⟨0, _⟩ => show win0_4.index t 0 * 2048 + i.val = i.val; rw [(index4 t).1]; omega
    | ⟨1, _⟩ => show win0_4.index t 1 * 128 + q.val = 128 * t.val + q.val; rw [(index4 t).2]; omega
  refine Eq.trans ?_ (congrArg _ hi.symm)
  rw [OutRefValue.left_apply]
  exact oproj_congr (h := iblk m c 0 t) (w := iblk m c 1 t) (s := iblk m c 2 t)
    (fun k => tokens m c t i k) (fun k => weights m c t k q _ rfl) (fun g => scales_lo m c t g q _ rfl)

/-- The right half after the kernel is the reference's. -/
theorem right (c : Dev nD) :
    (dats m 0 c).arrAt 5 cfg0.N = Cert.OutRefIdeal.Read.val_main_v28 (F := Ideal) (m ((c : Thread nD τ).loc main_arg0))
      (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  rw [OutBlock.out_apply5]
  obtain ⟨i, q, rfl⟩ : ∃ i q, y = ix2 (n0 := 2048) (n1 := 128) i q := ⟨_, _, eq_ix2 y⟩
  have ht : t.val < 10 := t.isLt
  have hi : ((cfg0.win 5).blk t).view.emb (ix2 i q) = ix2 (n0 := 2048) (n1 := 1280) i ⟨128 * t.val + q.val, by omega⟩ := by
    refine funext fun b => Fin.ext ?_
    blk_simp
    match b with
    | ⟨0, _⟩ => show win0_5.index t 0 * 2048 + i.val = i.val; rw [(index5 t).1]; omega
    | ⟨1, _⟩ => show win0_5.index t 1 * 128 + q.val = 128 * t.val + q.val; rw [(index5 t).2]; omega
  refine Eq.trans ?_ (congrArg _ hi.symm)
  rw [OutRefValue.right_apply]
  exact oproj_congr (h := iblk m c 0 t) (w := iblk m c 1 t) (s := iblk m c 3 t)
    (fun k => tokens m c t i k) (fun k => weights m c t k q _ rfl) (fun g => scales_hi m c t g q _ rfl)

/-- The joined result after the host's concatenation is the reference's. -/
theorem result (c : Dev nD) :
    Pipeline.afterTail₀ cfgs (dats m) 0 (V0 m) [hostOps1] c main_v1
      = Cert.OutRefIdeal.Read.val_main_v30 (F := Ideal) (m ((c : Thread nD τ).loc main_arg0))
          (m ((c : Thread nD τ).loc main_arg1)) (m ((c : Thread nD τ).loc main_arg2)) := by
  have h4 : Pipeline.withArrays (cfgs 0).spec c (V0 m c) (fun w => (dats m 0 c).arrAt w (cfgs 0).N) (Proc.devRef .tc main_v0_0) = (dats m 0 c).arrAt 4 cfg0.N :=
    (dats m 0 c).withArrays_arrAt sharedIn0 (V0 m c) (fun w => A_eq m c w) 4
  have h5 : Pipeline.withArrays (cfgs 0).spec c (V0 m c) (fun w => (dats m 0 c).arrAt w (cfgs 0).N) (Proc.devRef .tc main_v0_1) = (dats m 0 c).arrAt 5 cfg0.N :=
    (dats m 0 c).withArrays_arrAt sharedIn0 (V0 m c) (fun w => A_eq m c w) 5
  rw [OutRefValue.res_eq, ← left m c, ← right m c, ← h4, ← h5]
  unfold Pipeline.afterTail₀
  simp only [List.flatten_cons, List.flatten_nil, List.append_nil, StableHlo.after_cons, StableHlo.after_nil]
  rw [StableHlo.binary_result]

/-- The claim: on memories that agree on the arguments, the kernel and the reference end with the same result. -/
theorem algebraic : Cert.algebraic_OutProjIdeal_OutRefIdeal := by
  intro m g m' g' _ hagree
  refine ⟨fun c => Pipeline.afterTail₀ cfgs (dats m) 0 (V0 m) [hostOps1] c main_v1, ?_, ?_⟩
  · refine (θ_run _ _ _).mono (fun r h c => ⟨(h c).2 main_v1 (by decide), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m g)
  · refine (θ_run _ _ _).mono (fun r h c => ⟨(h c).1.trans ?_, (h c).2⟩) (Cert.OutRefIdeal.Value.run m' g')
    rw [Cert.OutRefIdeal.Read.val_main_v30_eq, (hagree c).1, (hagree c).2.1, (hagree c).2.2]
    exact (result m c).symm

end Cert.OutValue

end
-- ==== Proof.Conv.lean ====
/- The convolution half as mathematics: a causal convolution of four taps down the tokens of one batch, gated by its
   own sigmoid, and the 8-bit codes and scale of the last three tokens. A column of the projection is a function `v`
   of the token row; batch `b` owns the rows `1024 b` and on. -/
module

public import proofs.«01_k».proof.Proof.Proj

@[expose] public section

noncomputable section

namespace Cert.W4

open Idealize.ShloMosaic Idealize.ShloMosaic.ValueIdx
open scoped BigOperators

/-- Batch `b` of a column with three zeros put in front, at place `n`. -/
def padded (v : Fin 2048 → EReal) (b n : Nat) : EReal :=
  if h : 3 ≤ n ∧ 1024 * b + (n - 3) < 2048 then v ⟨1024 * b + (n - 3), h.2⟩ else 0

/-- The convolution at token `t` of batch `b`: the bias plus four taps on the padded column. -/
def conv (v : Fin 2048 → EReal) (w : Fin 4 → EReal) (c : EReal) (b t : Nat) : EReal :=
  c + ((((Ideal.ofBits .f32 0x00000000#32 + w 0 * padded v b t) + w 1 * padded v b (t + 1)) + w 2 * padded v b (t + 2)) + w 3 * padded v b (t + 3))

/-- The convolution times its sigmoid. -/
def gated (v : Fin 2048 → EReal) (w : Fin 4 → EReal) (c : EReal) (b t : Nat) : EReal :=
  conv v w c b t * Ideal.logistic (conv v w c b t)

/-- The largest magnitude among three values. -/
def amax (u : Fin 3 → EReal) : EReal := (Finset.univ : Finset (Fin 3)).fold max (Ideal.ofBits .f32 0xFF800000#32) fun r => max (u r) (-(u r))

/-- The scale of three values: their largest magnitude over 127, or one if it is zero. -/
def qscale (u : Fin 3 → EReal) : EReal :=
  Scalar.select (Ideal.cmp .oeq (amax u) (Ideal.ofBits .f32 0x00000000#32)) (Ideal.ofBits .f32 0x3F800000#32)
    (Ideal.div (amax u) (Ideal.ofBits .f32 0x42FE0000#32))

/-- A value over its scale, rounded to the nearest whole number and cut off at ±127. -/
def qround (u : Fin 3 → EReal) (r : Fin 3) : EReal :=
  min (Scalar.sitofp (F := Ideal) .f32 127#32) (max (Scalar.sitofp (F := Ideal) .f32 4294967169#32)
    (Ideal.liftRound Ideal.roundHalfEven (Ideal.div (u r) (qscale u))))

/-- The 8-bit code. -/
def qcode (u : Fin 3 → EReal) (r : Fin 3) : BitVec 8 := Ideal.fptosi 8 (qround u r)

/-- The last three tokens of batch `b`. -/
def last3 (v : Fin 2048 → EReal) (b : Nat) (r : Fin 3) : EReal := padded v b (1024 + r.val)

/-- A value between −127 and 127 turned into an 8-bit integer is the same value turned into a 32-bit one and cut. -/
theorem narrow (x : EReal) :
    (Ideal.fptosi 32 (min (Scalar.sitofp (F := Ideal) .f32 127#32) (max (Scalar.sitofp (F := Ideal) .f32 4294967169#32) x))).setWidth 8
      = Ideal.fptosi 8 (min (Scalar.sitofp (F := Ideal) .f32 127#32) (max (Scalar.sitofp (F := Ideal) .f32 4294967169#32) x)) := by
  have hp : (Scalar.sitofp (F := Ideal) .f32 127#32 : EReal) = ((127 : ℝ) : EReal) := by
    show ((((127#32 : BitVec 32).toInt : ℝ)) : EReal) = _
    rw [show (127#32 : BitVec 32).toInt = 127 by decide]; norm_num
  have hn : (Scalar.sitofp (F := Ideal) .f32 4294967169#32 : EReal) = ((-127 : ℝ) : EReal) := by
    show ((((4294967169#32 : BitVec 32).toInt : ℝ)) : EReal) = _
    rw [show (4294967169#32 : BitVec 32).toInt = -127 by decide]; norm_num
  rw [hp, hn]
  obtain ⟨y, hy, h1, h2⟩ : ∃ y : ℝ, min ((127 : ℝ) : EReal) (max ((-127 : ℝ) : EReal) x) = (y : EReal) ∧ -127 ≤ y ∧ y ≤ 127 := by
    induction x with
    | bot => exact ⟨-127, by rw [max_eq_left bot_le, min_eq_right (EReal.coe_le_coe_iff.2 (by norm_num))], by norm_num, by norm_num⟩
    | top => exact ⟨127, by rw [max_eq_right le_top, min_eq_left le_top], by norm_num, by norm_num⟩
    | coe r =>
      refine ⟨min 127 (max (-127) r), ?_, ?_, min_le_left _ _⟩
      · exact ((EReal.coe_strictMono.monotone.map_min).trans (congrArg _ (EReal.coe_strictMono.monotone.map_max))).symm
      · exact le_min (by norm_num) (le_max_left _ _)
  rw [hy]
  unfold Ideal.fptosi
  have hi : ∀ n : Int, n = (if 0 ≤ y then ⌊y⌋ else ⌈y⌉) → -127 ≤ n ∧ n ≤ 127 := by
    rintro n rfl
    split_ifs with h
    · exact ⟨le_trans (by norm_num) (Int.floor_nonneg.2 h), Int.floor_le_iff.2 (by push_cast; linarith)⟩
    · exact ⟨Int.le_ceil_iff.2 (by push_cast; linarith), Int.ceil_le.2 (by push_cast; linarith)⟩
  obtain ⟨l, u⟩ := hi _ rfl
  have ht : ∀ lo hi : Int, lo ≤ -128 → 127 ≤ hi → Ideal.toIntClamped lo hi (y : EReal) = if 0 ≤ y then ⌊y⌋ else ⌈y⌉ := by
    intro lo hi h h'
    show max lo (min hi _) = _
    rw [min_eq_right (by omega), max_eq_right (by omega)]
  rw [ht _ _ (by norm_num) (by norm_num), ht _ _ (by norm_num) (by norm_num)]
  generalize (if 0 ≤ y then ⌊y⌋ else ⌈y⌉) = n at l u
  interval_cases n <;> rfl

end Cert.W4

end
-- ==== Proof.ConvTaps.lean ====
/- The convolution kernel's three vector expressions, read at an index: a strip of the projection, a strip of the
   gated convolution, and the scale and codes of the last three tokens. -/
module

public import proofs.«01_k».proof.Proof.Gen.InProjConvIdeal.Value
public import proofs.«01_k».proof.Proof.Conv
public import Idealize.ShloMosaic.Lib.ValueLayout

@[expose] public section

set_option maxRecDepth 16384

noncomputable section

namespace Cert.ConvTaps

open Cert.InProjConvIdeal Cert.InProjConvIdeal.Gen Idealize.ShloMosaic
open Idealize.ShloMosaic.ValueIdx Cert.W4
open scoped BigOperators

section Any
variable {F : FTy → Type} [FloatOps F]

/-- The product of 256 tokens with the weights, its columns `o` to `o + 127`. -/
abbrev strip (o : Nat) (hs : S256x256.Slices ![0, o] S256x128) (h : Vec F S256x2560 .bf16) (W : Vec F S2560x256 .bf16) : FVec F S1x256x128 .f32 :=
  shapeCast S1x256x128 (extractStridedSlice S256x128 ![0, o]
    (matmul dot_S256x2560_S2560x256_S256x256_1_0_0_1_n_n none h W (constant S256x256 .f32 0x00000000#32)) hs) shapeCasts_S256x128_S1x256x128

/-- One tap: a row of weights times 256 rows of the padded column. -/
abbrev tap (w : Vec F S1x128 .f32) (p : Vec F S1x256x128 .f32) : FVec F S256x128 .f32 :=
  mulf (broadcastTo S256x128 w broadcasts_S1x128_S256x128) (shapeCast S256x128 p shapeCasts_S1x256x128_S256x128)

/-- The bias plus the four taps. -/
abbrev taps (cb w0 : Vec F S1x128 .f32) (p0 : Vec F S1x256x128 .f32) (w1 : Vec F S1x128 .f32) (p1 : Vec F S1x256x128 .f32)
    (w2 : Vec F S1x128 .f32) (p2 : Vec F S1x256x128 .f32) (w3 : Vec F S1x128 .f32) (p3 : Vec F S1x256x128 .f32) : FVec F S256x128 .f32 :=
  addf (broadcastTo S256x128 (shapeCast S1x128 cb shapeCasts_S1x128_S1x128) broadcasts_S1x128_S256x128)
    (addf (addf (addf (addf (broadcast S256x128 (Scalar.ofBits .f32 0x00000000#32)) (tap w0 p0)) (tap w1 p1)) (tap w2 p2)) (tap w3 p3))

/-- The taps times their sigmoid. -/
abbrev gatedTaps (cb w0 : Vec F S1x128 .f32) (p0 : Vec F S1x256x128 .f32) (w1 : Vec F S1x128 .f32) (p1 : Vec F S1x256x128 .f32)
    (w2 : Vec F S1x128 .f32) (p2 : Vec F S1x256x128 .f32) (w3 : Vec F S1x128 .f32) (p3 : Vec F S1x256x128 .f32) : FVec F S256x128 .f32 :=
  mulf (taps cb w0 p0 w1 p1 w2 p2 w3 p3) (logistic (taps cb w0 p0 w1 p1 w2 p2 w3 p3))

/-- Three rows' largest magnitudes, column by column. -/
abbrev mags (p : Vec F S1x3x128 .f32) : FVec F S1x128 .f32 :=
  shapeCast S1x128 (multiReduction .maximumf [0] S128 (absf (shapeCast S3x128 p shapeCasts_S1x3x128_S3x128)) 0xFF800000#32 reduces_S3x128_S128 (.inl rfl) rfl)
    shapeCasts_S128_S1x128

/-- Their scales. -/
abbrev scales (p : Vec F S1x3x128 .f32) : FVec F S1x128 .f32 :=
  select (cmpf .oeq (mags p) (broadcast S1x128 (Scalar.ofBits .f32 0x00000000#32))) (broadcast S1x128 (Scalar.ofBits .f32 0x3F800000#32))
    (divf (mags p) (broadcast S1x128 (Scalar.ofBits .f32 0x42FE0000#32)))

/-- Their codes. -/
abbrev codes (p : Vec F S1x3x128 .f32) : IVec S1x3x128 8 :=
  shapeCast S1x3x128 (fptosi 8 (minimumf (broadcast S3x128 (Scalar.sitofp .f32 127#32)) (maximumf (broadcast S3x128 (Scalar.sitofp .f32 4294967169#32))
    (roundeven (divf (shapeCast S3x128 p shapeCasts_S1x3x128_S3x128) (broadcastTo S3x128 (scales p) broadcasts_S1x128_S3x128)))))) shapeCasts_S3x128_S1x3x128
end Any

/-- A strip at an index is an entry of the projection. -/
theorem strip_apply (x0 : Vec Ideal S2048x2560 .bf16) (x1 : Vec Ideal S1280x256 .i8) (x2 : Vec Ideal S20x256 .f32)
    (o : Nat) (hs) (h : Vec Ideal S256x2560 .bf16) (W : Vec Ideal S2560x256 .bf16) (r : Fin 256) (q : Fin 128) (i : Fin 2048) (c : Fin 256)
    (hh : ∀ k : Fin 2560, h (ix2 r k) = x0 (ix2 i k)) (hW : W = fun y : S2560x256.Idx => weight (N := 256) x1 x2 (y 0) (y 1)) (hc : c.val = o + q.val) :
    strip (F := Ideal) o hs h W (ix3 0 r q) = proj (M := 2048) (N := 256) x0 x1 x2 i c := by
  unfold strip
  rw [shapeCast_ab_1ab_apply]
  rw [extractStridedSlice_apply ![0, o] _ hs (ix2 r q) (ix2 (n0 := 256) (n1 := 256) r c) (fun a => match a with
    | ⟨0, _⟩ => (Nat.zero_add _).symm
    | ⟨1, _⟩ => hc)]
  refine (Ideal.matmul_plain_apply none _ _ _ r c).trans ?_
  rw [show (constant (F := Ideal) S256x256 .f32 0x00000000#32) (ix2 r c) = 0 from Ideal.ofBits_zero_f32, zero_add, hW]
  unfold proj
  exact Finset.sum_congr rfl fun j _ => congrArg₂ _ (hh j) rfl

/-- A tap at an index. -/
theorem tap_apply (w : Vec Ideal S1x128 .f32) (p : Vec Ideal S1x256x128 .f32) (r : Fin 256) (q : Fin 128) :
    tap (F := Ideal) w p (ix2 r q) = w (ix2 0 q) * p (ix3 0 r q) := by
  unfold tap
  rw [mulf_apply, row_apply (by decide), shapeCast_1ab_ab_apply]

/-- The gated taps at an index: the gated convolution at the token the four loads are about. -/
theorem gatedTaps_apply (v : Fin 2048 → EReal) (w : Fin 4 → EReal) (cc : EReal) (b t : Nat)
    (cb w0 : Vec Ideal S1x128 .f32) (p0 : Vec Ideal S1x256x128 .f32) (w1 : Vec Ideal S1x128 .f32) (p1 : Vec Ideal S1x256x128 .f32)
    (w2 : Vec Ideal S1x128 .f32) (p2 : Vec Ideal S1x256x128 .f32) (w3 : Vec Ideal S1x128 .f32) (p3 : Vec Ideal S1x256x128 .f32) (r : Fin 256) (q : Fin 128)
    (hc : cb (ix2 0 q) = cc) (h0 : w0 (ix2 0 q) = w 0) (h1 : w1 (ix2 0 q) = w 1) (h2 : w2 (ix2 0 q) = w 2) (h3 : w3 (ix2 0 q) = w 3)
    (g0 : p0 (ix3 0 r q) = padded v b t) (g1 : p1 (ix3 0 r q) = padded v b (t + 1)) (g2 : p2 (ix3 0 r q) = padded v b (t + 2)) (g3 : p3 (ix3 0 r q) = padded v b (t + 3)) :
    gatedTaps (F := Ideal) cb w0 p0 w1 p1 w2 p2 w3 p3 (ix2 r q) = gated v w cc b t := by
  have e : taps (F := Ideal) cb w0 p0 w1 p1 w2 p2 w3 p3 (ix2 r q) = conv v w cc b t := by
    unfold taps conv
    rw [addf_apply, row_apply (by decide), shapeCast_self, addf_apply, addf_apply, addf_apply, addf_apply, tap_apply, tap_apply, tap_apply, tap_apply,
      hc, h0, h1, h2, h3, g0, g1, g2, g3]
    rfl
  unfold gated
  rw [← e]
  rfl

/-- The largest magnitudes at a column. -/
theorem mags_apply (p : Vec Ideal S1x3x128 .f32) (q : Fin 128) (u : Fin 3 → EReal) (hu : ∀ r, p (ix3 0 r q) = u r) :
    mags (F := Ideal) p (ix2 0 q) = amax u := by
  have key : ∀ r : Fin 3, max (shapeCast S3x128 p shapeCasts_S1x3x128_S3x128 (ix2 r q)) (-(shapeCast S3x128 p shapeCasts_S1x3x128_S3x128 (ix2 r q)))
      = max (u r) (-(u r)) := fun r => by rw [shapeCast_1ab_ab_apply, hu]
  unfold mags
  rw [shapeCast_a_1a_apply]
  refine (Ideal.multiReduction_maximumf_single _ _ reduces_S3x128_S128 _ _ _).trans ?_
  unfold amax
  refine Finset.fold_congr fun r _ => ?_
  have hl : reduces_S3x128_S128.lift (ix1 q) r = ix2 (n0 := 3) (n1 := 128) r q := by
    funext a; fin_cases a <;> rfl
  show max (shapeCast S3x128 p shapeCasts_S1x3x128_S3x128 (reduces_S3x128_S128.lift (ix1 q) r)) (-(shapeCast S3x128 p shapeCasts_S1x3x128_S3x128 (reduces_S3x128_S128.lift (ix1 q) r))) = _
  rw [hl]
  exact key r

/-- The scales at a column. -/
theorem scales_apply (p : Vec Ideal S1x3x128 .f32) (q : Fin 128) (u : Fin 3 → EReal) (hu : ∀ r, p (ix3 0 r q) = u r) :
    scales (F := Ideal) p (ix2 0 q) = qscale u := by
  unfold qscale
  rw [← mags_apply p q u hu]
  rfl

/-- The codes at a row and column. -/
theorem codes_apply (p : Vec Ideal S1x3x128 .f32) (r : Fin 3) (q : Fin 128) (u : Fin 3 → EReal) (hu : ∀ r, p (ix3 0 r q) = u r) :
    codes (F := Ideal) p (ix3 0 r q) = qcode u r := by
  unfold codes qcode qround
  rw [shapeCast_ab_1ab_apply, ← scales_apply p q u hu, ← hu, ← shapeCast_1ab_ab_apply p shapeCasts_S1x3x128_S3x128 r q,
    ← row_apply (M := 3) (N := 128) (by decide) (scales (F := Ideal) p) broadcasts_S1x128_S3x128 r q]
  rfl

end Cert.ConvTaps

end
-- ==== Proof.ConvRows.lean ====
/- The convolution kernel's two scratch buffers at one grid point. The first holds the dequantised weights, as in the
   gate-half kernel. The second holds, for two halves of 128 columns, eight rows of zeros and then one batch's 1024
   rows of the projection, filled strip by strip while earlier rows are read back: `Holds` says how far each half is
   filled, and each store moves one half forward. -/
module

public import proofs.«01_k».proof.Proof.ConvTaps
public import Idealize.ShloMosaic.Lib.Pipeline.ValueKit.Tiles

@[expose] public section

set_option maxRecDepth 16384

noncomputable section

namespace Cert.ConvRows

open Cert.InProjConvIdeal Cert.InProjConvIdeal.Gen Idealize.ShloMosaic Idealize.ShloMosaic.TcCoe Idealize.SL Idealize.SL.Sem
open Idealize.ShloMosaic.ValueIdx Cert.W4 Cert.ConvTaps
open scoped BigOperators

section Any
variable {F : FTy → Type} [FloatOps F]

/-- One group of dequantised weights at this kernel's width. -/
abbrev grp (w : Vec F S64x256 .i8) (s : Vec F S1x256 .f32) : FVec F S128x256 .bf16 :=
  deq 256 bitcasts_S64x256_w32_S128x256_w16 broadcasts_S1x256_S128x256 shapeCasts_S128x256_S128x256 w s

/-- Group `k` of the weight buffer, at rows `128 k` and on, from packed rows `64 k` and on and scale row `k`. -/
abbrev group (x1 : Vec F S1280x256 .i8) (x2 : Vec F S20x256 .f32) (k : Nat) (hk : k < 20) : View.Piece (Elt F) S2560x256 .bf16 :=
  ⟨Rect.unit ![128 * k, 0] ![128, 256] (fun a => match a with
      | ⟨0, _⟩ => by show 128 * k + 128 ≤ 2560; omega
      | ⟨1, _⟩ => by show 0 + 256 ≤ 256; omega),
    grp (View.ld x1 (Rect.unit ![64 * k, 0] ![64, 256] (fun a => match a with
      | ⟨0, _⟩ => by show 64 * k + 64 ≤ 1280; omega
      | ⟨1, _⟩ => by show 0 + 256 ≤ 256; omega)))
      (View.ld x2 (Rect.unit ![k, 0] ![1, 256] (fun a => match a with
      | ⟨0, _⟩ => by show k + 1 ≤ 20; omega
      | ⟨1, _⟩ => by show 0 + 256 ≤ 256; omega)))⟩

/-- The weight buffer's stores, last first. -/
abbrev stores (x1 : Vec F S1280x256 .i8) (x2 : Vec F S20x256 .f32) : List (View.Piece (Elt F) S2560x256 .bf16) :=
  [group x1 x2 19 (by omega), group x1 x2 18 (by omega), group x1 x2 17 (by omega), group x1 x2 16 (by omega), group x1 x2 15 (by omega), group x1 x2 14 (by omega), group x1 x2 13 (by omega), group x1 x2 12 (by omega), group x1 x2 11 (by omega), group x1 x2 10 (by omega), group x1 x2 9 (by omega), group x1 x2 8 (by omega), group x1 x2 7 (by omega), group x1 x2 6 (by omega), group x1 x2 5 (by omega), group x1 x2 4 (by omega), group x1 x2 3 (by omega), group x1 x2 2 (by omega), group x1 x2 1 (by omega), group x1 x2 0 (by omega)]

set_option maxHeartbeats 2000000 in
/-- The weight buffer, loaded whole, is what the stores leave. -/
theorem buffer_stores (c : Dev nD) (arg2 : Memref sig .tc .vmem S1280x256 .i8) (harg2 : arg2.IsWhole) (arg3 : Memref sig .tc .vmem S20x256 .f32) (harg3 : arg3.IsWhole)
    (arg9 : Memref sig .tc .vmem S2560x256 .bf16) (x1 : Vec F S1280x256 .i8) (x2 : Vec F S20x256 .f32) :
    kernelRun0_A.sl.v489 c arg2 harg2 arg3 harg3 arg9 x1 x2 = View.canon (stores x1 x2) := by
  unfold kernelRun0_A.sl.v489
  rw [View.readCov_eq_canon']
  refine (View.ld_unit_zero (S := S2560x256) (off := ![0, 0]) (by funext a; fin_cases a <;> rfl) _ _).trans ?_
  refine congrArg View.canon ?_
  sl_unfold_words
  simp only [View.readAt_eq_ld, harg2.read_unread, harg3.read_unread]
  repeat (first | refine congrArg₂ List.cons ?_ ?_ | rfl)
end Any

/-- The weight buffer holds the dequantised weights. -/
theorem buffer_eq (c : Dev nD) (arg2 : Memref sig .tc .vmem S1280x256 .i8) (harg2 : arg2.IsWhole) (arg3 : Memref sig .tc .vmem S20x256 .f32) (harg3 : arg3.IsWhole)
    (arg9 : Memref sig .tc .vmem S2560x256 .bf16) (x1 : Vec Ideal S1280x256 .i8) (x2 : Vec Ideal S20x256 .f32) :
    kernelRun0_A.sl.v489 c arg2 harg2 arg3 harg3 arg9 x1 x2 = fun y : S2560x256.Idx => weight (N := 256) x1 x2 (y 0) (y 1) := by
  rw [buffer_stores]
  refine canon_of_bands (S := S2560x256) (e := .bf16) (fun y => weight (N := 256) x1 x2 (y 0) (y 1)) 20 (group x1 x2) _ rfl (fun k hk x => ?_) (fun y => ?_)
  · obtain ⟨r, c, rfl⟩ : ∃ r c, x = ix2 (n0 := 128) (n1 := 256) r c := ⟨_, _, eq_ix2 x⟩
    refine (deq_apply (by decide) _ _ _ _ _ r c ⟨r.val / 2, by omega⟩ rfl).trans ?_
    have e0 : (((group x1 x2 k hk).1.emb (ix2 r c) 0 : Fin 2560) : Nat) = 128 * k + r.val := by show 128 * k + 1 * r.val = _; omega
    have e1 : ((group x1 x2 k hk).1.emb (ix2 r c) 1 : Fin 256) = c := Fin.ext (by show 0 + 1 * c.val = _; omega)
    unfold weight
    rw [e1]
    refine congrArg₂ _ ?_ ?_
    · refine congrArg₂ nib ?_ (by omega)
      exact ld2 _ _ _ _ _ _ (by show _ / 2 = 64 * k + r.val / 2; omega) (Nat.zero_add _).symm
    · exact ld2 _ _ _ _ _ _ (by show _ / 128 = k + 0; omega) (Nat.zero_add _).symm
  · have h0 : (y 0).val < 2560 := (y 0).isLt
    refine ⟨(y 0).val / 128, by omega, by rw [Rect.mem_set_unit]; exact band y (by omega)⟩

/-! ## The row buffer -/

/-- A buffer of stores. -/
abbrev Stores := List (View.Piece (Elt Ideal) S2x1032x128 .f32)

/-- The values a batch's rows take in the row buffer: half `k`, row `n`, column `q` holds column `128 k + q` of the
    batch's padded projection at place `n - 5`. -/
def rows (V : Fin 2048 → Fin 256 → EReal) (b : Nat) (k : Fin 2) (n : Fin 1032) (q : Fin 128) : EReal :=
  padded (fun t => V t ⟨128 * k.val + q.val, by omega⟩) b (n.val - 5)

/-- The limit of half `k`. -/
abbrev lim (l0 l1 : Nat) (k : Fin 2) : Nat := if k = 0 then l0 else l1

/-- The stores leave batch `b`'s rows below `l0` in the first half and below `l1` in the second. -/
def Holds (V : Fin 2048 → Fin 256 → EReal) (b l0 l1 : Nat) (L : Stores) : Prop :=
  ∀ (k : Fin 2) (n : Fin 1032) (q : Fin 128), n.val < lim l0 l1 k → View.canon L (ix3 k n q) = rows V b k n q

theorem Holds.zero (V : Fin 2048 → Fin 256 → EReal) (b : Nat) (L : Stores) : Holds V b 0 0 L :=
  fun k n q h => absurd h (by unfold lim; split_ifs <;> omega)

/-- The box of `h` rows from row `o` of half `k`. -/
theorem mem_box {k o h : Nat} {inb} (k' : Fin 2) (n : Fin 1032) (q : Fin 128) :
    ix3 k' n q ∈ (Rect.unit (s := S2x1032x128) ![k, o, 0] ![1, h, 128] inb).set ↔ k'.val = k ∧ o ≤ n.val ∧ n.val < o + h := by
  rw [Rect.mem_set_unit]
  constructor
  · intro H
    have h0 : k ≤ k'.val ∧ k'.val < k + 1 := H 0
    have h1 : o ≤ n.val ∧ n.val < o + h := H 1
    exact ⟨by omega, h1⟩
  · rintro ⟨h0, h1⟩ a
    match a with
    | ⟨0, _⟩ => show k ≤ k'.val ∧ k'.val < k + 1; omega
    | ⟨1, _⟩ => exact h1
    | ⟨2, _⟩ => show 0 ≤ q.val ∧ q.val < 0 + 128; omega

/-- An index of the box in the buffer. -/
theorem box_emb {k o h : Nat} {inb} (k' : Fin 2) (n : Fin 1032) (r : Fin h) (q : Fin 128) (hk : k'.val = k) (hn : n.val = o + r.val) :
    (Rect.unit (s := S2x1032x128) ![k, o, 0] ![1, h, 128] inb).emb (ix3 (0 : Fin 1) r q) = ix3 k' n q := by
  refine funext fun a => Fin.ext ?_
  match a with
  | ⟨0, _⟩ => show k + 1 * 0 = k'.val; omega
  | ⟨1, _⟩ => show o + 1 * r.val = n.val; omega
  | ⟨2, _⟩ => show 0 + 1 * q.val = q.val; omega

/-- A store of `h` rows from row `o` of half `k`, at or below the half's limit, moves the limit to `o + h`. -/
theorem Holds.cons {V : Fin 2048 → Fin 256 → EReal} {b l0 l1 : Nat} {L : Stores} (hL : Holds V b l0 l1 L) (k o h : Nat) (inb)
    (w : (⟨3, ![1, h, 128]⟩ : Shape).Idx → EReal) (m0 m1 : Nat)
    (ho : ∀ k' : Fin 2, k'.val = k → o ≤ lim l0 l1 k' ∧ lim m0 m1 k' ≤ o + h) (hm : ∀ k' : Fin 2, k'.val ≠ k → lim m0 m1 k' ≤ lim l0 l1 k')
    (hw : ∀ (k' : Fin 2) (n : Fin 1032) (r : Fin h) (q : Fin 128), k'.val = k → n.val = o + r.val → w (ix3 0 r q) = rows V b k' n q) :
    Holds V b m0 m1 (⟨Rect.unit (s := S2x1032x128) ![k, o, 0] ![1, h, 128] inb, w⟩ :: L) := by
  intro k' n q hn
  by_cases hy : k'.val = k ∧ (o ≤ n.val ∧ n.val < o + h)
  · obtain ⟨hk, h1, h2⟩ := hy
    have e := box_emb (inb := inb) k' n ⟨n.val - o, by omega⟩ q hk (by show _ = o + (n.val - o); omega)
    rw [← hw k' n ⟨n.val - o, by omega⟩ q hk (by show _ = o + (n.val - o); omega), ← e]
    exact View.canon_cons_emb _ _ _ _
  · have hy' : ix3 k' n q ∉ (Rect.unit (s := S2x1032x128) ![k, o, 0] ![1, h, 128] inb).set := fun h' => hy ((mem_box k' n q).1 h')
    refine (View.canon_cons_of_not_mem _ _ hy').trans (hL k' n q ?_)
    by_cases hk : k'.val = k
    · have := ho k' hk; omega
    · have := hm k' hk; omega

/-- A load of `h` rows from row `o` of half `k`, below the limit, reads the batch's rows. -/
theorem Holds.load {V : Fin 2048 → Fin 256 → EReal} {b l0 l1 : Nat} {L : Stores} (hL : Holds V b l0 l1 L)
    (v : View sig .tc .vmem S2x1032x128 .f32) (k o h : Nat) (inb) (k' : Fin 2) (r : Fin h) (q : Fin 128) (n : Fin 1032)
    (hk : k'.val = k) (hn : n.val = o + r.val) (hl : n.val < lim l0 l1 k') :
    v.readCov L (Rect.unit (s := S2x1032x128) ![k, o, 0] ![1, h, 128] inb).toLoadRect (ix3 0 r q) = rows V b k' n q := by
  rw [View.readCov_eq_canon', ← hL k' n q hl]
  exact congrArg (View.canon L) (box_emb k' n r q hk hn)

/-- The eight rows of zeros at the top of half `k`. -/
theorem Holds.zeros {V : Fin 2048 → Fin 256 → EReal} {b l0 l1 : Nat} {L : Stores} (hL : Holds V b l0 l1 L) (k : Nat) (inb)
    (w : (⟨3, ![1, 8, 128]⟩ : Shape).Idx → EReal) (hw : ∀ x, w x = Ideal.ofBits .f32 0x00000000#32) (m0 m1 : Nat)
    (ho : ∀ k' : Fin 2, k'.val = k → lim m0 m1 k' ≤ 8) (hm : ∀ k' : Fin 2, k'.val ≠ k → lim m0 m1 k' ≤ lim l0 l1 k') :
    Holds V b m0 m1 (⟨Rect.unit (s := S2x1032x128) ![k, 0, 0] ![1, 8, 128] inb, w⟩ :: L) := by
  refine hL.cons k 0 8 inb w m0 m1 (fun k' h => ⟨Nat.zero_le _, by have := ho k' h; omega⟩) hm fun k' n r q _ hn => ?_
  rw [hw, Ideal.ofBits_zero_f32]
  unfold rows padded
  rw [dif_neg (by omega)]

/-- The strip of tokens `256 m` and on of batch `b`, stored in half `k`. -/
theorem Holds.strip {x0 : Vec Ideal S2048x2560 .bf16} {x1 : Vec Ideal S1280x256 .i8} {x2 : Vec Ideal S20x256 .f32} {b l0 l1 : Nat} {L : Stores}
    (hL : Holds (proj (M := 2048) (N := 256) x0 x1 x2) b l0 l1 L) (arg1 : Memref sig .tc .vmem S2048x2560 .bf16) (harg1 : arg1.IsWhole)
    (W : Vec Ideal S2560x256 .bf16) (hW : W = fun y : S2560x256.Idx => weight (N := 256) x1 x2 (y 0) (y 1))
    (k m : Nat) (hs) (inb) (inb') (m0 m1 : Nat)
    (ho : ∀ k' : Fin 2, k'.val = k → 8 + 256 * m ≤ lim l0 l1 k' ∧ lim m0 m1 k' ≤ 8 + 256 * m + 256) (hm : ∀ k' : Fin 2, k'.val ≠ k → lim m0 m1 k' ≤ lim l0 l1 k')
    (hb : 1024 * b + 256 * m + 256 ≤ 2048 := by omega) :
    Holds (proj (M := 2048) (N := 256) x0 x1 x2) b m0 m1 (⟨Rect.unit (s := S2x1032x128) ![k, 8 + 256 * m, 0] ![1, 256, 128] inb,
      ConvTaps.strip (F := Ideal) (128 * k) hs (View.readAt (Elt Ideal) arg1.view (Rect.unit (s := S2048x2560) ![1024 * b + 256 * m, 0] ![256, 2560] inb').toLoadRect (harg1.unread x0)) W⟩ :: L) := by
  refine hL.cons k (8 + 256 * m) 256 inb _ m0 m1 ho hm fun k' n r q hk hn => ?_
  rw [strip_apply x0 x1 x2 (128 * k) hs _ W r q ⟨1024 * b + (n.val - 5 - 3), by omega⟩ ⟨128 * k'.val + q.val, by omega⟩ (fun j => ?_) hW (by show 128 * k'.val + q.val = _; rw [hk])]
  · unfold rows padded
    rw [dif_pos (by omega)]
  · rw [View.readAt_eq_ld, harg1.read_unread]
    exact ld2 _ _ _ _ _ _ (by show 1024 * b + (n.val - 5 - 3) = 1024 * b + 256 * m + r.val; omega) (Nat.zero_add _).symm

/-! ## The stores of this kernel -/

section Words
variable (c : Dev nD) (arg1 : Memref sig .tc .vmem S2048x2560 .bf16) (harg1 : arg1.IsWhole) (arg2 : Memref sig .tc .vmem S1280x256 .i8) (harg2 : arg2.IsWhole)
  (arg3 : Memref sig .tc .vmem S20x256 .f32) (harg3 : arg3.IsWhole) (arg9 : Memref sig .tc .vmem S2560x256 .bf16)
  (x0 : Vec Ideal S2048x2560 .bf16) (x1 : Vec Ideal S1280x256 .i8) (x2 : Vec Ideal S20x256 .f32)

/-- The projection at this grid point. -/
abbrev V := proj (M := 2048) (N := 256) x0 x1 x2

/-- Batch 0, strip by strip and half by half. -/
theorem holds3 : Holds (V x0 x1 x2) 0 264 8 (kernelRun0_A.sl.HS1_3 c arg1 harg1 arg2 harg2 arg3 harg3 arg9 x0 x1 x2) := by
  unfold kernelRun0_A.sl.HS1_3
  exact (((Holds.zero (V x0 x1 x2) 0 []).zeros 0 inb_S2x1032x128_S1x8x128_0_0_0 _ (fun _ => rfl) 8 0 (by decide) (by decide)).zeros 1 inb_S2x1032x128_S1x8x128_1_0_0 _ (fun _ => rfl) 8 8 (by decide) (by decide)).strip arg1 harg1 _ (buffer_eq c arg2 harg2 arg3 harg3 arg9 x1 x2) 0 0 slices_S256x256_o0_0_S256x128 _ _ 264 8 (by decide) (by decide)

theorem holds4 : Holds (V x0 x1 x2) 0 264 264 (kernelRun0_A.sl.HS1_4 c arg1 harg1 arg2 harg2 arg3 harg3 arg9 x0 x1 x2) := by
  unfold kernelRun0_A.sl.HS1_4
  exact (holds3 c arg1 harg1 arg2 harg2 arg3 harg3 arg9 x0 x1 x2).strip arg1 harg1 _ (buffer_eq c arg2 harg2 arg3 harg3 arg9 x1 x2) 1 0 slices_S256x256_o0_128_S256x128 _ _ 264 264 (by decide) (by decide)

theorem holds5 : Holds (V x0 x1 x2) 0 520 264 (kernelRun0_A.sl.HS1_5 c arg1 harg1 arg2 harg2 arg3 harg3 arg9 x0 x1 x2) := by
  unfold kernelRun0_A.sl.HS1_5
  exact (holds4 c arg1 harg1 arg2 harg2 arg3 harg3 arg9 x0 x1 x2).strip arg1 harg1 _ (buffer_eq c arg2 harg2 arg3 harg3 arg9 x1 x2) 0 1 slices_S256x256_o0_0_S256x128 _ _ 520 264 (by decide) (by decide)

theorem holds6 : Holds (V x0 x1 x2) 0 520 520 (kernelRun0_A.sl.HS1_6 c arg1 harg1 arg2 harg2 arg3 harg3 arg9 x0 x1 x2) := by
  unfold kernelRun0_A.sl.HS1_6
  exact (holds5 c arg1 harg1 arg2 harg2 arg3 harg3 arg9 x0 x1 x2).strip arg1 harg1 _ (buffer_eq c arg2 harg2 arg3 harg3 arg9 x1 x2) 1 1 slices_S256x256_o0_128_S256x128 _ _ 520 520 (by decide) (by decide)

theorem holds7 : Holds (V x0 x1 x2) 0 776 520 (kernelRun0_A.sl.HS1_7 c arg1 harg1 arg2 harg2 arg3 harg3 arg9 x0 x1 x2) := by
  unfold kernelRun0_A.sl.HS1_7
  exact (holds6 c arg1 harg1 arg2 harg2 arg3 harg3 arg9 x0 x1 x2).strip arg1 harg1 _ (buffer_eq c arg2 harg2 arg3 harg3 arg9 x1 x2) 0 2 slices_S256x256_o0_0_S256x128 _ _ 776 520 (by decide) (by decide)

theorem holds8 : Holds (V x0 x1 x2) 0 776 776 (kernelRun0_A.sl.HS1_8 c arg1 harg1 arg2 harg2 arg3 harg3 arg9 x0 x1 x2) := by
  unfold kernelRun0_A.sl.HS1_8
  exact (holds7 c arg1 harg1 arg2 harg2 arg3 harg3 arg9 x0 x1 x2).strip arg1 harg1 _ (buffer_eq c arg2 harg2 arg3 harg3 arg9 x1 x2) 1 2 slices_S256x256_o0_128_S256x128 _ _ 776 776 (by decide) (by decide)

theorem holds9 : Holds (V x0 x1 x2) 0 1032 776 (kernelRun0_A.sl.HS1_9 c arg1 harg1 arg2 harg2 arg3 harg3 arg9 x0 x1 x2) := by
  unfold kernelRun0_A.sl.HS1_9
  exact (holds8 c arg1 harg1 arg2 harg2 arg3 harg3 arg9 x0 x1 x2).strip arg1 harg1 _ (buffer_eq c arg2 harg2 arg3 harg3 arg9 x1 x2) 0 3 slices_S256x256_o0_0_S256x128 _ _ 1032 776 (by decide) (by decide)

theorem holds10 : Holds (V x0 x1 x2) 0 1032 1032 (kernelRun0_A.sl.HS1_10 c arg1 harg1 arg2 harg2 arg3 harg3 arg9 x0 x1 x2) := by
  unfold kernelRun0_A.sl.HS1_10
  exact (holds9 c arg1 harg1 arg2 harg2 arg3 harg3 arg9 x0 x1 x2).strip arg1 harg1 _ (buffer_eq c arg2 harg2 arg3 harg3 arg9 x1 x2) 1 3 slices_S256x256_o0_128_S256x128 _ _ 1032 1032 (by decide) (by decide)

/-- Batch 1, strip by strip and half by half. -/
theorem holds13 : Holds (V x0 x1 x2) 1 264 8 (kernelRun0_A.sl.HS1_13 c arg1 harg1 arg2 harg2 arg3 harg3 arg9 x0 x1 x2) := by
  unfold kernelRun0_A.sl.HS1_13
  exact (((Holds.zero (V x0 x1 x2) 1 (kernelRun0_A.sl.HS1_10 c arg1 harg1 arg2 harg2 arg3 harg3 arg9 x0 x1 x2)).zeros 0 inb_S2x1032x128_S1x8x128_0_0_0 _ (fun _ => rfl) 8 0 (by decide) (by decide)).zeros 1 inb_S2x1032x128_S1x8x128_1_0_0 _ (fun _ => rfl) 8 8 (by decide) (by decide)).strip arg1 harg1 _ (buffer_eq c arg2 harg2 arg3 harg3 arg9 x1 x2) 0 0 slices_S256x256_o0_0_S256x128 _ _ 264 8 (by decide) (by decide)

theorem holds14 : Holds (V x0 x1 x2) 1 264 264 (kernelRun0_A.sl.HS1_14 c arg1 harg1 arg2 harg2 arg3 harg3 arg9 x0 x1 x2) := by
  unfold kernelRun0_A.sl.HS1_14
  exact (holds13 c arg1 harg1 arg2 harg2 arg3 harg3 arg9 x0 x1 x2).strip arg1 harg1 _ (buffer_eq c arg2 harg2 arg3 harg3 arg9 x1 x2) 1 0 slices_S256x256_o0_128_S256x128 _ _ 264 264 (by decide) (by decide)

theorem holds15 : Holds (V x0 x1 x2) 1 520 264 (kernelRun0_A.sl.HS1_15 c arg1 harg1 arg2 harg2 arg3 harg3 arg9 x0 x1 x2) := by
  unfold kernelRun0_A.sl.HS1_15
  exact (holds14 c arg1 harg1 arg2 harg2 arg3 harg3 arg9 x0 x1 x2).strip arg1 harg1 _ (buffer_eq c arg2 harg2 arg3 harg3 arg9 x1 x2) 0 1 slices_S256x256_o0_0_S256x128 _ _ 520 264 (by decide) (by decide)

theorem holds16 : Holds (V x0 x1 x2) 1 520 520 (kernelRun0_A.sl.HS1_16 c arg1 harg1 arg2 harg2 arg3 harg3 arg9 x0 x1 x2) := by
  unfold kernelRun0_A.sl.HS1_16
  exact (holds15 c arg1 harg1 arg2 harg2 arg3 harg3 arg9 x0 x1 x2).strip arg1 harg1 _ (buffer_eq c arg2 harg2 arg3 harg3 arg9 x1 x2) 1 1 slices_S256x256_o0_128_S256x128 _ _ 520 520 (by decide) (by decide)

theorem holds17 : Holds (V x0 x1 x2) 1 776 520 (kernelRun0_A.sl.HS1_17 c arg1 harg1 arg2 harg2 arg3 harg3 arg9 x0 x1 x2) := by
  unfold kernelRun0_A.sl.HS1_17
  exact (holds16 c arg1 harg1 arg2 harg2 arg3 harg3 arg9 x0 x1 x2).strip arg1 harg1 _ (buffer_eq c arg2 harg2 arg3 harg3 arg9 x1 x2) 0 2 slices_S256x256_o0_0_S256x128 _ _ 776 520 (by decide) (by decide)

theorem holds18 : Holds (V x0 x1 x2) 1 776 776 (kernelRun0_A.sl.HS1_18 c arg1 harg1 arg2 harg2 arg3 harg3 arg9 x0 x1 x2) := by
  unfold kernelRun0_A.sl.HS1_18
  exact (holds17 c arg1 harg1 arg2 harg2 arg3 harg3 arg9 x0 x1 x2).strip arg1 harg1 _ (buffer_eq c arg2 harg2 arg3 harg3 arg9 x1 x2) 1 2 slices_S256x256_o0_128_S256x128 _ _ 776 776 (by decide) (by decide)

theorem holds19 : Holds (V x0 x1 x2) 1 1032 776 (kernelRun0_A.sl.HS1_19 c arg1 harg1 arg2 harg2 arg3 harg3 arg9 x0 x1 x2) := by
  unfold kernelRun0_A.sl.HS1_19
  exact (holds18 c arg1 harg1 arg2 harg2 arg3 harg3 arg9 x0 x1 x2).strip arg1 harg1 _ (buffer_eq c arg2 harg2 arg3 harg3 arg9 x1 x2) 0 3 slices_S256x256_o0_0_S256x128 _ _ 1032 776 (by decide) (by decide)

theorem holds20 : Holds (V x0 x1 x2) 1 1032 1032 (kernelRun0_A.sl.HS1_20 c arg1 harg1 arg2 harg2 arg3 harg3 arg9 x0 x1 x2) := by
  unfold kernelRun0_A.sl.HS1_20
  exact (holds19 c arg1 harg1 arg2 harg2 arg3 harg3 arg9 x0 x1 x2).strip arg1 harg1 _ (buffer_eq c arg2 harg2 arg3 harg3 arg9 x1 x2) 1 3 slices_S256x256_o0_128_S256x128 _ _ 1032 1032 (by decide) (by decide)

end Words

end Cert.ConvRows

end
-- ==== Proof.ConvBlock.lean ====
/- The convolution kernel, one grid point: what the point leaves in its three output blocks, as functions of the
   blocks it reads. -/
module

public import proofs.«01_k».proof.Proof.ConvRows

@[expose] public section

set_option maxRecDepth 16384

noncomputable section

namespace Cert.ConvBlock

open Cert.InProjConvIdeal Cert.InProjConvIdeal.Gen Idealize.ShloMosaic Idealize.ShloMosaic.TcCoe Idealize.SL Idealize.SL.Sem
open Idealize.ShloMosaic.ValueIdx Cert.W4 Cert.ConvTaps Cert.ConvRows
open scoped BigOperators

section Parts
variable {x0 : Vec Ideal S2048x2560 .bf16} {x1 : Vec Ideal S1280x256 .i8} {x2 : Vec Ideal S20x256 .f32} {b l0 l1 : Nat} {L : Stores}

/-- The gated convolution at row `i`, column `c` of the block. -/
def act (x0 : Vec Ideal S2048x2560 .bf16) (x1 : Vec Ideal S1280x256 .i8) (x2 : Vec Ideal S20x256 .f32) (x3 : Vec Ideal S4x256 .f32)
    (x4 : Vec Ideal S1x256 .f32) (i : Fin 2048) (c : Fin 256) : EReal :=
  gated (fun t => V x0 x1 x2 t c) (fun n => x3 (ix2 n c)) (x4 (ix2 0 c)) (i.val / 1024) (i.val % 1024)

/-- The strip of tokens `256 m` and on of batch `b`, half `k`: the kernel's expression on its loads is the gated
    convolution at the strip's place. -/
theorem part5 (hL : Holds (V x0 x1 x2) b l0 l1 L) (arg4 : Memref sig .tc .vmem S4x256 .f32) (harg4 : arg4.IsWhole) (x3 : Vec Ideal S4x256 .f32)
    (arg5 : Memref sig .tc .vmem S1x256 .f32) (harg5 : arg5.IsWhole) (x4 : Vec Ideal S1x256 .f32) (arg10 : Memref sig .tc .vmem S2x1032x128 .f32)
    (k m : Nat) (inb ic i0 i1 i2 i3 j0 j1 j2 j3) (hl : ∀ k' : Fin 2, k'.val = k → 8 + 256 * m + 256 ≤ lim l0 l1 k') (hk : k < 2 := by decide) (hb : b < 2 := by decide) (hm : m < 4 := by decide)
    (x : (Rect.unit (s := S2048x256) ![1024 * b + 256 * m, 128 * k] ![256, 128] inb).shape.Idx) :
    gatedTaps (F := Ideal) (View.readAt (Elt Ideal) arg5.view (Rect.unit (s := S1x256) ![0, 128 * k] ![1, 128] ic).toLoadRect (harg5.unread x4))
      (View.readAt (Elt Ideal) arg4.view (Rect.unit (s := S4x256) ![0, 128 * k] ![1, 128] i0).toLoadRect (harg4.unread x3))
      (arg10.view.readCov L (Rect.unit (s := S2x1032x128) ![k, 5 + 256 * m, 0] ![1, 256, 128] j0).toLoadRect)
      (View.readAt (Elt Ideal) arg4.view (Rect.unit (s := S4x256) ![1, 128 * k] ![1, 128] i1).toLoadRect (harg4.unread x3))
      (arg10.view.readCov L (Rect.unit (s := S2x1032x128) ![k, 6 + 256 * m, 0] ![1, 256, 128] j1).toLoadRect)
      (View.readAt (Elt Ideal) arg4.view (Rect.unit (s := S4x256) ![2, 128 * k] ![1, 128] i2).toLoadRect (harg4.unread x3))
      (arg10.view.readCov L (Rect.unit (s := S2x1032x128) ![k, 7 + 256 * m, 0] ![1, 256, 128] j2).toLoadRect)
      (View.readAt (Elt Ideal) arg4.view (Rect.unit (s := S4x256) ![3, 128 * k] ![1, 128] i3).toLoadRect (harg4.unread x3))
      (arg10.view.readCov L (Rect.unit (s := S2x1032x128) ![k, 8 + 256 * m, 0] ![1, 256, 128] j3).toLoadRect) x
      = (fun y : S2048x256.Idx => act x0 x1 x2 x3 x4 (y 0) (y 1)) ((Rect.unit (s := S2048x256) ![1024 * b + 256 * m, 128 * k] ![256, 128] inb).emb x) := by
  obtain ⟨r, q, rfl⟩ : ∃ r q, x = ix2 (n0 := 256) (n1 := 128) r q := ⟨_, _, eq_ix2 x⟩
  have e0 : (Rect.unit (s := S2048x256) ![1024 * b + 256 * m, 128 * k] ![256, 128] inb).emb (ix2 r q) 0 = (⟨1024 * b + 256 * m + r.val, by omega⟩ : Fin 2048) :=
    Fin.ext (by show 1024 * b + 256 * m + 1 * r.val = 1024 * b + 256 * m + r.val; omega)
  have e1 : (Rect.unit (s := S2048x256) ![1024 * b + 256 * m, 128 * k] ![256, 128] inb).emb (ix2 r q) 1 = (⟨128 * k + q.val, by omega⟩ : Fin 256) :=
    Fin.ext (by show 128 * k + 1 * q.val = 128 * k + q.val; omega)
  show _ = act x0 x1 x2 x3 x4 ((Rect.unit (s := S2048x256) ![1024 * b + 256 * m, 128 * k] ![256, 128] inb).emb (ix2 r q) 0) ((Rect.unit (s := S2048x256) ![1024 * b + 256 * m, 128 * k] ![256, 128] inb).emb (ix2 r q) 1)
  rw [e0, e1]
  unfold act
  have hload : ∀ (d : Nat) (hd : d < 4) (j), arg10.view.readCov L (Rect.unit (s := S2x1032x128) ![k, 5 + d + 256 * m, 0] ![1, 256, 128] j).toLoadRect (ix3 0 r q)
      = padded (fun t => V x0 x1 x2 t ⟨128 * k + q.val, by omega⟩) b (256 * m + r.val + d) := fun d hd j => by
    rw [hL.load arg10.view k _ 256 j ⟨k, hk⟩ r q ⟨5 + d + 256 * m + r.val, by omega⟩ rfl rfl (by have := hl ⟨k, hk⟩ rfl; show 5 + d + 256 * m + r.val < _; omega)]
    unfold rows
    congr 1
    show 5 + d + 256 * m + r.val - 5 = _
    omega
  have ht : (1024 * b + 256 * m + r.val) / 1024 = b ∧ (1024 * b + 256 * m + r.val) % 1024 = 256 * m + r.val := by omega
  show _ = gated _ _ _ ((1024 * b + 256 * m + r.val) / 1024) ((1024 * b + 256 * m + r.val) % 1024)
  rw [ht.1, ht.2]
  simp only [View.readAt_eq_ld, harg4.read_unread, harg5.read_unread]
  refine gatedTaps_apply _ _ _ b (256 * m + r.val) _ _ _ _ _ _ _ _ _ r q ?_ ?_ ?_ ?_ ?_ (hload 0 (by decide) _) (hload 1 (by decide) _) (hload 2 (by decide) _) (hload 3 (by decide) _)
  all_goals exact ld2 _ _ _ _ _ _ rfl rfl

/-- The last three tokens of batch `b`, column `c`. -/
abbrev ends (x0 : Vec Ideal S2048x2560 .bf16) (x1 : Vec Ideal S1280x256 .i8) (x2 : Vec Ideal S20x256 .f32) (b : Nat) (c : Fin 256) : Fin 3 → EReal :=
  last3 (fun t => V x0 x1 x2 t c) b

/-- The load of the last three rows. -/
theorem ends_load (hL : Holds (V x0 x1 x2) b 1032 1032 L) (arg10 : Memref sig .tc .vmem S2x1032x128 .f32) (k : Nat) (j) (hk : k < 2) (q : Fin 128) (r : Fin 3) :
    arg10.view.readCov L (Rect.unit (s := S2x1032x128) ![k, 1029, 0] ![1, 3, 128] j).toLoadRect (ix3 0 r q) = ends x0 x1 x2 b ⟨128 * k + q.val, by omega⟩ r := by
  rw [hL.load arg10.view k 1029 3 j ⟨k, hk⟩ r q ⟨1029 + r.val, by omega⟩ rfl rfl (by unfold lim; show 1029 + r.val < _; split_ifs <;> omega)]
  unfold rows ends last3
  congr 1
  show 1029 + r.val - 5 = _
  omega

/-- Their codes. -/
theorem part6 (hL : Holds (V x0 x1 x2) b 1032 1032 L) (arg10 : Memref sig .tc .vmem S2x1032x128 .f32) (k : Nat) (inb j) (hk : k < 2 := by decide) (hb : b < 2 := by decide)
    (x : (Rect.unit (s := S2x3x256) ![b, 0, 128 * k] ![1, 3, 128] inb).shape.Idx) :
    codes (F := Ideal) (arg10.view.readCov L (Rect.unit (s := S2x1032x128) ![k, 1029, 0] ![1, 3, 128] j).toLoadRect) x
      = (fun y : S2x3x256.Idx => qcode (ends x0 x1 x2 (y 0).val (y 2)) (y 1)) ((Rect.unit (s := S2x3x256) ![b, 0, 128 * k] ![1, 3, 128] inb).emb x) := by
  obtain ⟨u, r, q, rfl⟩ : ∃ u r q, x = ix3 (n0 := 1) (n1 := 3) (n2 := 128) u r q := ⟨_, _, _, eq_ix3 x⟩
  have hu : u = 0 := Subsingleton.elim _ _
  subst hu
  have e : (Rect.unit (s := S2x3x256) ![b, 0, 128 * k] ![1, 3, 128] inb).emb (ix3 0 r q) = ix3 (⟨b, hb⟩ : Fin 2) r (⟨128 * k + q.val, by omega⟩ : Fin 256) := by
    refine funext fun a => Fin.ext ?_
    match a with
    | ⟨0, _⟩ => show b + 1 * 0 = b; omega
    | ⟨1, _⟩ => show 0 + 1 * r.val = r.val; omega
    | ⟨2, _⟩ => show 128 * k + 1 * q.val = 128 * k + q.val; omega
  rw [e]
  exact codes_apply _ r q _ fun r' => ends_load hL arg10 k j hk q r'

/-- Their scale. -/
theorem part7 (hL : Holds (V x0 x1 x2) b 1032 1032 L) (arg10 : Memref sig .tc .vmem S2x1032x128 .f32) (k : Nat) (inb j) (hk : k < 2 := by decide) (hb : b < 2 := by decide)
    (x : (Rect.unit (s := S2x256) ![b, 128 * k] ![1, 128] inb).shape.Idx) :
    scales (F := Ideal) (arg10.view.readCov L (Rect.unit (s := S2x1032x128) ![k, 1029, 0] ![1, 3, 128] j).toLoadRect) x
      = (fun y : S2x256.Idx => qscale (ends x0 x1 x2 (y 0).val (y 1))) ((Rect.unit (s := S2x256) ![b, 128 * k] ![1, 128] inb).emb x) := by
  obtain ⟨u, q, rfl⟩ : ∃ u q, x = ix2 (n0 := 1) (n1 := 128) u q := ⟨_, _, eq_ix2 x⟩
  have hu : u = 0 := Subsingleton.elim _ _
  subst hu
  have e : (Rect.unit (s := S2x256) ![b, 128 * k] ![1, 128] inb).emb (ix2 0 q) = ix2 (⟨b, hb⟩ : Fin 2) (⟨128 * k + q.val, by omega⟩ : Fin 256) := by
    refine funext fun a => Fin.ext ?_
    match a with
    | ⟨0, _⟩ => show b + 1 * 0 = b; omega
    | ⟨1, _⟩ => show 128 * k + 1 * q.val = 128 * k + q.val; omega
  rw [e]
  exact scales_apply _ q _ fun r' => ends_load hL arg10 k j hk q r'
end Parts

section Outputs
variable (c : Dev nD) (i : grid0.Coords) (arg1 : Memref sig .tc .vmem S2048x2560 .bf16) (harg1 : arg1.IsWhole) (arg2 : Memref sig .tc .vmem S1280x256 .i8) (harg2 : arg2.IsWhole) (arg3 : Memref sig .tc .vmem S20x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2x3x256 .i8) (harg7 : arg7.IsWhole) (arg8 : Memref sig .tc .vmem S2x256 .f32) (harg8 : arg8.IsWhole) (arg9 : Memref sig .tc .vmem S2560x256 .bf16) (harg9 : arg9.IsWhole) (arg10 : Memref sig .tc .vmem S2x1032x128 .f32) (harg10 : arg10.IsWhole)
    (x0 : Vec Ideal S2048x2560 .bf16) (x1 : Vec Ideal S1280x256 .i8) (x2 : Vec Ideal S20x256 .f32) (x3 : Vec Ideal S4x256 .f32) (x4 : Vec Ideal S1x256 .f32)

set_option maxHeartbeats 4000000 in
/-- The first output block: the gated convolution. -/
theorem out5 : out0_A_5 c i arg1 harg1 arg2 harg2 arg3 harg3 arg4 harg4 arg5 harg5 arg6 harg6 arg7 harg7 arg8 harg8 arg9 harg9 arg10 harg10 x0 x1 x2 x3 x4 = (fun y : S2048x256.Idx => act x0 x1 x2 x3 x4 (y 0) (y 1)) := by
  funext y
  unfold out0_A_5
  rw [View.read_writes_junk_eq_canon]
  refine View.canon_apply_of_pieces (fun y : S2048x256.Idx => act x0 x1 x2 x3 x4 (y 0) (y 1)) _ ?_ y (cover0_A_5 c i arg1 harg1 arg2 harg2 arg3 harg3 arg4 harg4 arg5 harg5 arg6 harg6 arg7 harg7 arg8 harg8 arg9 harg9 arg10 harg10 x0 x1 x2 x3 x4 y)
  unfold kernelRun0_A
  dsimp only
  refine List.forall_iff_forall_mem.1 ⟨fun x => part5 (holds20 c arg1 harg1 arg2 harg2 arg3 harg3 arg9 x0 x1 x2) arg4 harg4 x3 arg5 harg5 x4 arg10 1 3 (by decide) (by decide) (by decide) (by decide) (by decide) (by decide) (by decide) (by decide) (by decide) (by decide) (by decide) (by decide) (by decide) (by decide) x,
    fun x => part5 (holds19 c arg1 harg1 arg2 harg2 arg3 harg3 arg9 x0 x1 x2) arg4 harg4 x3 arg5 harg5 x4 arg10 0 3 (by decide) (by decide) (by decide) (by decide) (by decide) (by decide) (by decide) (by decide) (by decide) (by decide) (by decide) (by decide) (by decide) (by decide) x,
    fun x => part5 (holds18 c arg1 harg1 arg2 harg2 arg3 harg3 arg9 x0 x1 x2) arg4 harg4 x3 arg5 harg5 x4 arg10 1 2 (by decide) (by decide) (by decide) (by decide) (by decide) (by decide) (by decide) (by decide) (by decide) (by decide) (by decide) (by decide) (by decide) (by decide) x,
    fun x => part5 (holds17 c arg1 harg1 arg2 harg2 arg3 harg3 arg9 x0 x1 x2) arg4 harg4 x3 arg5 harg5 x4 arg10 0 2 (by decide) (by decide) (by decide) (by decide) (by decide) (by decide) (by decide) (by decide) (by decide) (by decide) (by decide) (by decide) (by decide) (by decide) x,
    fun x => part5 (holds16 c arg1 harg1 arg2 harg2 arg3 harg3 arg9 x0 x1 x2) arg4 harg4 x3 arg5 harg5 x4 arg10 1 1 (by decide) (by decide) (by decide) (by decide) (by decide) (by decide) (by decide) (by decide) (by decide) (by decide) (by decide) (by decide) (by decide) (by decide) x,
    fun x => part5 (holds15 c arg1 harg1 arg2 harg2 arg3 harg3 arg9 x0 x1 x2) arg4 harg4 x3 arg5 harg5 x4 arg10 0 1 (by decide) (by decide) (by decide) (by decide) (by decide) (by decide) (by decide) (by decide) (by decide) (by decide) (by decide) (by decide) (by decide) (by decide) x,
    fun x => part5 (holds14 c arg1 harg1 arg2 harg2 arg3 harg3 arg9 x0 x1 x2) arg4 harg4 x3 arg5 harg5 x4 arg10 1 0 (by decide) (by decide) (by decide) (by decide) (by decide) (by decide) (by decide) (by decide) (by decide) (by decide) (by decide) (by decide) (by decide) (by decide) x,
    fun x => part5 (holds13 c arg1 harg1 arg2 harg2 arg3 harg3 arg9 x0 x1 x2) arg4 harg4 x3 arg5 harg5 x4 arg10 0 0 (by decide) (by decide) (by decide) (by decide) (by decide) (by decide) (by decide) (by decide) (by decide) (by decide) (by decide) (by decide) (by decide) (by decide) x,
    fun x => part5 (holds10 c arg1 harg1 arg2 harg2 arg3 harg3 arg9 x0 x1 x2) arg4 harg4 x3 arg5 harg5 x4 arg10 1 3 (by decide) (by decide) (by decide) (by decide) (by decide) (by decide) (by decide) (by decide) (by decide) (by decide) (by decide) (by decide) (by decide) (by decide) x,
    fun x => part5 (holds9 c arg1 harg1 arg2 harg2 arg3 harg3 arg9 x0 x1 x2) arg4 harg4 x3 arg5 harg5 x4 arg10 0 3 (by decide) (by decide) (by decide) (by decide) (by decide) (by decide) (by decide) (by decide) (by decide) (by decide) (by decide) (by decide) (by decide) (by decide) x,
    fun x => part5 (holds8 c arg1 harg1 arg2 harg2 arg3 harg3 arg9 x0 x1 x2) arg4 harg4 x3 arg5 harg5 x4 arg10 1 2 (by decide) (by decide) (by decide) (by decide) (by decide) (by decide) (by decide) (by decide) (by decide) (by decide) (by decide) (by decide) (by decide) (by decide) x,
    fun x => part5 (holds7 c arg1 harg1 arg2 harg2 arg3 harg3 arg9 x0 x1 x2) arg4 harg4 x3 arg5 harg5 x4 arg10 0 2 (by decide) (by decide) (by decide) (by decide) (by decide) (by decide) (by decide) (by decide) (by decide) (by decide) (by decide) (by decide) (by decide) (by decide) x,
    fun x => part5 (holds6 c arg1 harg1 arg2 harg2 arg3 harg3 arg9 x0 x1 x2) arg4 harg4 x3 arg5 harg5 x4 arg10 1 1 (by decide) (by decide) (by decide) (by decide) (by decide) (by decide) (by decide) (by decide) (by decide) (by decide) (by decide) (by decide) (by decide) (by decide) x,
    fun x => part5 (holds5 c arg1 harg1 arg2 harg2 arg3 harg3 arg9 x0 x1 x2) arg4 harg4 x3 arg5 harg5 x4 arg10 0 1 (by decide) (by decide) (by decide) (by decide) (by decide) (by decide) (by decide) (by decide) (by decide) (by decide) (by decide) (by decide) (by decide) (by decide) x,
    fun x => part5 (holds4 c arg1 harg1 arg2 harg2 arg3 harg3 arg9 x0 x1 x2) arg4 harg4 x3 arg5 harg5 x4 arg10 1 0 (by decide) (by decide) (by decide) (by decide) (by decide) (by decide) (by decide) (by decide) (by decide) (by decide) (by decide) (by decide) (by decide) (by decide) x,
    fun x => part5 (holds3 c arg1 harg1 arg2 harg2 arg3 harg3 arg9 x0 x1 x2) arg4 harg4 x3 arg5 harg5 x4 arg10 0 0 (by decide) (by decide) (by decide) (by decide) (by decide) (by decide) (by decide) (by decide) (by decide) (by decide) (by decide) (by decide) (by decide) (by decide) x⟩

set_option maxHeartbeats 4000000 in
/-- The second output block: the codes of the last three tokens. -/
theorem out6 : out0_A_6 c i arg1 harg1 arg2 harg2 arg3 harg3 arg4 harg4 arg5 harg5 arg6 harg6 arg7 harg7 arg8 harg8 arg9 harg9 arg10 harg10 x0 x1 x2 x3 x4 = (fun y : S2x3x256.Idx => qcode (ends x0 x1 x2 (y 0).val (y 2)) (y 1)) := by
  funext y
  unfold out0_A_6
  rw [View.read_writes_junk_eq_canon]
  refine View.canon_apply_of_pieces (fun y : S2x3x256.Idx => qcode (ends x0 x1 x2 (y 0).val (y 2)) (y 1)) _ ?_ y (cover0_A_6 c i arg1 harg1 arg2 harg2 arg3 harg3 arg4 harg4 arg5 harg5 arg6 harg6 arg7 harg7 arg8 harg8 arg9 harg9 arg10 harg10 x0 x1 x2 x3 x4 y)
  unfold kernelRun0_A
  dsimp only
  refine List.forall_iff_forall_mem.1 ⟨fun x => part6 (holds20 c arg1 harg1 arg2 harg2 arg3 harg3 arg9 x0 x1 x2) arg10 1 (by decide) (by decide) (by decide) (by decide) x,
    fun x => part6 (holds20 c arg1 harg1 arg2 harg2 arg3 harg3 arg9 x0 x1 x2) arg10 0 (by decide) (by decide) (by decide) (by decide) x,
    fun x => part6 (holds10 c arg1 harg1 arg2 harg2 arg3 harg3 arg9 x0 x1 x2) arg10 1 (by decide) (by decide) (by decide) (by decide) x,
    fun x => part6 (holds10 c arg1 harg1 arg2 harg2 arg3 harg3 arg9 x0 x1 x2) arg10 0 (by decide) (by decide) (by decide) (by decide) x⟩

set_option maxHeartbeats 4000000 in
/-- The third output block: their scales. -/
theorem out7 : out0_A_7 c i arg1 harg1 arg2 harg2 arg3 harg3 arg4 harg4 arg5 harg5 arg6 harg6 arg7 harg7 arg8 harg8 arg9 harg9 arg10 harg10 x0 x1 x2 x3 x4 = (fun y : S2x256.Idx => qscale (ends x0 x1 x2 (y 0).val (y 1))) := by
  funext y
  unfold out0_A_7
  rw [View.read_writes_junk_eq_canon]
  refine View.canon_apply_of_pieces (fun y : S2x256.Idx => qscale (ends x0 x1 x2 (y 0).val (y 1))) _ ?_ y (cover0_A_7 c i arg1 harg1 arg2 harg2 arg3 harg3 arg4 harg4 arg5 harg5 arg6 harg6 arg7 harg7 arg8 harg8 arg9 harg9 arg10 harg10 x0 x1 x2 x3 x4 y)
  unfold kernelRun0_A
  dsimp only
  refine List.forall_iff_forall_mem.1 ⟨fun x => part7 (holds20 c arg1 harg1 arg2 harg2 arg3 harg3 arg9 x0 x1 x2) arg10 1 (by decide) (by decide) (by decide) (by decide) x,
    fun x => part7 (holds20 c arg1 harg1 arg2 harg2 arg3 harg3 arg9 x0 x1 x2) arg10 0 (by decide) (by decide) (by decide) (by decide) x,
    fun x => part7 (holds10 c arg1 harg1 arg2 harg2 arg3 harg3 arg9 x0 x1 x2) arg10 1 (by decide) (by decide) (by decide) (by decide) x,
    fun x => part7 (holds10 c arg1 harg1 arg2 harg2 arg3 harg3 arg9 x0 x1 x2) arg10 0 (by decide) (by decide) (by decide) (by decide) x⟩

end Outputs

end Cert.ConvBlock

end
-- ==== Proof.ConvRef.lean ====
/- The convolution-half reference, read at an index: the gated convolution of the projection's columns 5120 and on,
   and the codes and scale of the last three tokens. -/
module

public import proofs.«01_k».proof.Proof.Gen.ConvRefIdeal.Read
public import proofs.«01_k».proof.Proof.Conv
public import Idealize.ShloMosaic.Lib.KernelVsHost

@[expose] public section

noncomputable section

namespace Cert.ConvRefValue

open Cert.ConvRefIdeal Cert.ConvRefIdeal.Read Idealize.ShloMosaic Idealize.ShloMosaic.ValueIdx Cert.W4
open scoped BigOperators

variable (x0 : Vec Ideal S2048x2560 .bf16) (x1 : Vec Ideal S1280x10576 .i8) (x2 : Vec Ideal S20x10576 .f32)
  (x3 : Vec Ideal S4x5376 .f32) (x4 : Vec Ideal S5376 .f32)

/-- The scale of packed row `k`, column `c`: scale row `k / 64`. -/
theorem scale_apply (k : Fin 1280) (c : Fin 10576) : val_main_v3 (F := Ideal) x2 (ix2 k c) = x2 (ix2 ⟨k.val / 64, by omega⟩ c) := by
  rw [val_main_v3_apply, val_main_v2_apply, val_main_v1_apply]
  refine congrArg x2 (funext fun a => Fin.ext ?_)
  match a with
  | ⟨0, _⟩ => show (k.val * 10576 + c.val) / 676864 = k.val / 64; omega
  | ⟨1, _⟩ => show (k.val * 10576 + c.val) % 10576 = c.val; omega

/-- The low codes, dequantised. -/
theorem lo_apply (k : Fin 1280) (c : Fin 10576) :
    val_main_v13 (F := Ideal) x1 x2 (ix2 k c) = nib (x1 (ix2 k c)) 0 * x2 (ix2 ⟨k.val / 64, by omega⟩ c) := by
  rw [val_main_v13_apply, scale_apply]
  exact congrArg (· * x2 (ix2 ⟨k.val / 64, by omega⟩ c)) (congrArg (fun n : Int => ((n : ℝ) : EReal)) (ref_lo (x1 (ix2 k c))))

/-- The high codes, dequantised. -/
theorem hi_apply (k : Fin 1280) (c : Fin 10576) :
    val_main_v23 (F := Ideal) x1 x2 (ix2 k c) = nib (x1 (ix2 k c)) 1 * x2 (ix2 ⟨k.val / 64, by omega⟩ c) := by
  rw [val_main_v23_apply, scale_apply]
  exact congrArg (· * x2 (ix2 ⟨k.val / 64, by omega⟩ c)) (congrArg (fun n : Int => ((n : ℝ) : EReal)) (ref_hi (x1 (ix2 k c))))

/-- Every other column of the tokens, from column `o`, at token `t` of batch `b`. -/
theorem half_apply (o : Nat) (h) (b : Fin 2) (t : Fin 1024) (k : Fin 1280) (hk : o + 2 * k.val < 2560) :
    Host.slice S2x1024x1280 ![0, 0, o] ![1, 1, 2] (val_main_v0 (F := Ideal) x0) h (ix3 b t k) = x0 (ix2 ⟨1024 * b.val + t.val, by omega⟩ ⟨o + 2 * k.val, hk⟩) := by
  have e : Host.slice S2x1024x1280 ![0, 0, o] ![1, 1, 2] (val_main_v0 (F := Ideal) x0) h (ix3 b t k) = val_main_v0 (F := Ideal) x0 (ix3 b t ⟨o + 2 * k.val, hk⟩) := by
    unfold Host.slice
    refine congrArg _ (funext fun a => ?_)
    match a with
    | ⟨0, _⟩ => exact Fin.ext (by show 0 + 1 * b.val = b.val; omega)
    | ⟨1, _⟩ => exact Fin.ext (by show 0 + 1 * t.val = t.val; omega)
    | ⟨2, _⟩ => rfl
  rw [e, val_main_v0_apply]
  refine congrArg x0 (funext fun a => Fin.ext ?_)
  match a with
  | ⟨0, _⟩ => show ((b.val * 1024 + t.val) * 2560 + (o + 2 * k.val)) / 2560 = 1024 * b.val + t.val; omega
  | ⟨1, _⟩ => show ((b.val * 1024 + t.val) * 2560 + (o + 2 * k.val)) % 2560 = o + 2 * k.val; omega

/-- The whole projection: the sum of the two products is the one product with the dequantised weight. -/
theorem proj_apply (b : Fin 2) (t : Fin 1024) (c : Fin 10576) :
    val_main_v28 (F := Ideal) x0 x1 x2 (ix3 b t c) = proj (M := 2048) (N := 10576) x0 x1 x2 ⟨1024 * b.val + t.val, by omega⟩ c := by
  rw [val_main_v28_apply, val_main_v25_apply, val_main_v27_apply, proj_split]
  refine congrArg₂ _ (Finset.sum_congr rfl fun k _ => ?_) (Finset.sum_congr rfl fun k _ => ?_)
  · rw [show ridx_main_v25 (ix3 b t c) k = ix2 k c from eq_ix2 _, lo_apply, show lidx_main_v25 (ix3 b t c) k = ix3 b t k from eq_ix3 _]
    exact congrArg (· * _) (half_apply x0 0 _ b t k (by omega))
  · rw [show ridx_main_v27 (ix3 b t c) k = ix2 k c from eq_ix2 _, hi_apply, show lidx_main_v27 (ix3 b t c) k = ix3 b t k from eq_ix3 _]
    exact congrArg (· * _) (half_apply x0 1 _ b t k (by omega))

/-- Column `c` of the part the convolution takes. -/
def column (c : Fin 5376) (t : Fin 2048) : EReal := proj (M := 2048) (N := 10576) x0 x1 x2 t ⟨5120 + c.val, by omega⟩

theorem cols_apply (b : Fin 2) (t : Fin 1024) (c : Fin 5376) :
    val_main_v29 (F := Ideal) x0 x1 x2 (ix3 b t c) = column x0 x1 x2 c ⟨1024 * b.val + t.val, by omega⟩ := by
  rw [val_main_v29_apply, show idx_main_v29 (ix3 b t c) = ix3 b t ⟨5120 + c.val, by omega⟩ from eq_ix3 _, proj_apply]
  rfl

/-- The columns with three rows of zeros in front. -/
theorem pad_apply (b : Fin 2) (n : Fin 1027) (c : Fin 5376) :
    val_main_v45 (F := Ideal) x0 x1 x2 (ix3 b n c) = padded (column x0 x1 x2 c) b.val n.val := by
  unfold val_main_v45 padded
  by_cases h : 3 ≤ n.val
  · rw [dif_pos (by omega)]
    refine (pad_apply_of_inside _ _ _ _ _ _ _ _ (ix3 (n0 := 2) (n1 := 1024) (n2 := 5376) b ⟨n.val - 3, by omega⟩ c) fun a => ?_).trans (cols_apply x0 x1 x2 b ⟨n.val - 3, by omega⟩ c)
    match a with
    | ⟨0, _⟩ => show b.val = 0 + b.val * (0 + 1); omega
    | ⟨1, _⟩ => show n.val = 3 + (n.val - 3) * (0 + 1); omega
    | ⟨2, _⟩ => show c.val = 0 + c.val * (0 + 1); omega
  · rw [dif_neg (by omega)]
    refine (pad_apply_of_not_inside _ _ _ _ _ _ _ _ 1 (fun hh => h hh.1)).trans ?_
    show ((((0#32 : BitVec 32).toInt : ℝ)) : EReal) = 0
    rw [show (0#32 : BitVec 32).toInt = 0 by decide]
    norm_num

/-- A row of the taps' weights, by its coordinates. -/
theorem row_idx (n : Fin 4) (c : Fin 5376) (j : S4x5376.Idx) (h0 : (j 0).val = n.val) (h1 : (j 1).val = c.val) : j = ix2 n c :=
  funext fun a => match a with
    | ⟨0, _⟩ => Fin.ext h0
    | ⟨1, _⟩ => Fin.ext h1

/-- A row of the padded columns, by its coordinates. -/
theorem tap_idx (n : Nat) (b : Fin 2) (t : Fin 1024) (c : Fin 5376) (j : S2x1027x5376.Idx) (h0 : (j 0).val = b.val) (h1 : (j 1).val = n + t.val)
    (h2 : (j 2).val = c.val) (hn : n + t.val < 1027) : j = ix3 b ⟨n + t.val, hn⟩ c :=
  funext fun a => match a with
    | ⟨0, _⟩ => Fin.ext h0
    | ⟨1, _⟩ => Fin.ext h1
    | ⟨2, _⟩ => Fin.ext h2

/-- Tap 0: its weight and its rows. -/
theorem weight0_apply (b : Fin 2) (t : Fin 1024) (c : Fin 5376) : val_main_v50 (F := Ideal) x3 (ix3 b t c) = x3 (ix2 0 c) := by
  rw [val_main_v50_apply, val_main_v49_apply, val_main_v47_apply, val_main_v46_apply]
  exact congrArg x3 (row_idx 0 c _ rfl (Nat.mod_eq_of_lt c.isLt))

theorem rows0_apply (b : Fin 2) (t : Fin 1024) (c : Fin 5376) :
    val_main_v48 (F := Ideal) x0 x1 x2 (ix3 b t c) = padded (column x0 x1 x2 c) b.val (t.val + 0) := by
  rw [val_main_v48_apply, show idx_main_v48 (ix3 b t c) = ix3 b ⟨0 + t.val, by omega⟩ c from tap_idx 0 b t c _ rfl (Nat.zero_add _).symm rfl (by omega), pad_apply, Nat.add_comm t.val]

/-- Tap 1: its weight and its rows. -/
theorem weight1_apply (b : Fin 2) (t : Fin 1024) (c : Fin 5376) : val_main_v58 (F := Ideal) x3 (ix3 b t c) = x3 (ix2 1 c) := by
  rw [val_main_v58_apply, val_main_v57_apply, val_main_v55_apply, val_main_v54_apply]
  exact congrArg x3 (row_idx 1 c _ rfl (Nat.mod_eq_of_lt c.isLt))

theorem rows1_apply (b : Fin 2) (t : Fin 1024) (c : Fin 5376) :
    val_main_v56 (F := Ideal) x0 x1 x2 (ix3 b t c) = padded (column x0 x1 x2 c) b.val (t.val + 1) := by
  rw [val_main_v56_apply, show idx_main_v56 (ix3 b t c) = ix3 b ⟨1 + t.val, by omega⟩ c from tap_idx 1 b t c _ rfl rfl rfl (by omega), pad_apply, Nat.add_comm t.val]

/-- Tap 2: its weight and its rows. -/
theorem weight2_apply (b : Fin 2) (t : Fin 1024) (c : Fin 5376) : val_main_v65 (F := Ideal) x3 (ix3 b t c) = x3 (ix2 2 c) := by
  rw [val_main_v65_apply, val_main_v64_apply, val_main_v62_apply, val_main_v61_apply]
  exact congrArg x3 (row_idx 2 c _ rfl (Nat.mod_eq_of_lt c.isLt))

theorem rows2_apply (b : Fin 2) (t : Fin 1024) (c : Fin 5376) :
    val_main_v63 (F := Ideal) x0 x1 x2 (ix3 b t c) = padded (column x0 x1 x2 c) b.val (t.val + 2) := by
  rw [val_main_v63_apply, show idx_main_v63 (ix3 b t c) = ix3 b ⟨2 + t.val, by omega⟩ c from tap_idx 2 b t c _ rfl rfl rfl (by omega), pad_apply, Nat.add_comm t.val]

/-- Tap 3: its weight and its rows. -/
theorem weight3_apply (b : Fin 2) (t : Fin 1024) (c : Fin 5376) : val_main_v72 (F := Ideal) x3 (ix3 b t c) = x3 (ix2 3 c) := by
  rw [val_main_v72_apply, val_main_v71_apply, val_main_v69_apply, val_main_v68_apply]
  exact congrArg x3 (row_idx 3 c _ rfl (Nat.mod_eq_of_lt c.isLt))

theorem rows3_apply (b : Fin 2) (t : Fin 1024) (c : Fin 5376) :
    val_main_v70 (F := Ideal) x0 x1 x2 (ix3 b t c) = padded (column x0 x1 x2 c) b.val (t.val + 3) := by
  rw [val_main_v70_apply, show idx_main_v70 (ix3 b t c) = ix3 b ⟨3 + t.val, by omega⟩ c from tap_idx 3 b t c _ rfl rfl rfl (by omega), pad_apply, Nat.add_comm t.val]

/-- The convolution at token `t` of batch `b`, column `c`. -/
theorem conv_apply (b : Fin 2) (t : Fin 1024) (c : Fin 5376) :
    val_main_v77 (F := Ideal) x0 x1 x2 x3 x4 (ix3 b t c) = conv (column x0 x1 x2 c) (fun n => x3 (ix2 n c)) (x4 (ix1 c)) b.val t.val := by
  rw [val_main_v77_apply, val_main_v74_apply, val_main_v67_apply, val_main_v60_apply, val_main_v53_apply, val_main_v51_apply, val_main_v59_apply,
    val_main_v66_apply, val_main_v73_apply, weight0_apply, weight1_apply, weight2_apply, weight3_apply, rows0_apply, rows1_apply, rows2_apply, rows3_apply,
    val_main_v76_apply, val_main_v75_apply, val_main_v52_apply, val_main_cst_11_apply]
  have hb : idx_main_v75 (idx_main_v76 (ix3 b t c)) = ix1 c := funext fun a => match a with
    | ⟨0, _⟩ => rfl
  rw [hb]
  rfl

/-- The first result: the gated convolution. -/
theorem act_apply (i : Fin 2048) (c : Fin 5376) :
    val_main_v79 (F := Ideal) x0 x1 x2 x3 x4 (ix2 i c)
      = gated (column x0 x1 x2 c) (fun n => x3 (ix2 n c)) (x4 (ix1 c)) (i.val / 1024) (i.val % 1024) := by
  have hi : idx_main_v79 (ix2 i c) = ix3 (⟨i.val / 1024, by omega⟩ : Fin 2) (⟨i.val % 1024, by omega⟩ : Fin 1024) c := by
    refine funext fun a => Fin.ext ?_
    match a with
    | ⟨0, _⟩ => show (i.val * 5376 + c.val) / 5505024 = i.val / 1024; omega
    | ⟨1, _⟩ => show (i.val * 5376 + c.val) / 5376 % 1024 = i.val % 1024; omega
    | ⟨2, _⟩ => show (i.val * 5376 + c.val) % 5376 = c.val; omega
  rw [val_main_v79_apply, hi, val_main_v78_apply]
  unfold gated
  rw [← conv_apply x0 x1 x2 x3 x4 ⟨i.val / 1024, by omega⟩ ⟨i.val % 1024, by omega⟩ c]
  exact gate _

/-- The last three tokens. -/
theorem last_apply (b : Fin 2) (r : Fin 3) (c : Fin 5376) :
    val_main_v30 (F := Ideal) x0 x1 x2 (ix3 b r c) = last3 (column x0 x1 x2 c) b.val r := by
  rw [val_main_v30_apply, show idx_main_v30 (ix3 b r c) = ix3 b ⟨1021 + r.val, by omega⟩ c from eq_ix3 _, cols_apply]
  unfold last3 padded
  rw [dif_pos (by omega)]
  congr 1
  exact Fin.ext (by show 1024 * b.val + (1021 + r.val) = 1024 * b.val + (1024 + r.val - 3); omega)

/-- Dropping the middle axis of three. -/
theorem reduces : S2x3x5376.Reduces [1] S2x5376 := by decide

/-- Their largest magnitude. -/
theorem amax_apply (b : Fin 2) (c : Fin 5376) :
    val_main_v32 (F := Ideal) x0 x1 x2 (ix2 b c) = amax (last3 (column x0 x1 x2 c) b.val) := by
  have key : ∀ r : Fin 3, val_main_v31 (F := Ideal) x0 x1 x2 (ix3 b r c) = max (last3 (column x0 x1 x2 c) b.val r) (-(last3 (column x0 x1 x2 c) b.val r)) := fun r => by
    rw [← last_apply]; rfl
  unfold val_main_v32
  refine (Host.reduce_eq_fold_single FloatOps.maximumf _ _ _ reduces _ _).trans ?_
  unfold amax
  refine Finset.fold_congr fun r _ => ?_
  have hl : reduces.lift (ix2 b c) r = ix3 (n0 := 2) (n1 := 3) (n2 := 5376) b r c := by
    funext a; fin_cases a <;> rfl
  show val_main_v31 (F := Ideal) x0 x1 x2 (reduces.lift (ix2 b c) r) = _
  rw [hl]
  exact key r

/-- The third result: their scale. -/
theorem scale3_apply (b : Fin 2) (c : Fin 5376) :
    val_main_v37 (F := Ideal) x0 x1 x2 (ix2 b c) = qscale (last3 (column x0 x1 x2 c) b.val) := by
  unfold qscale
  rw [← amax_apply]
  rw [val_main_v37_apply, val_main_v34_apply, val_main_v36_apply, val_main_call2_v1_apply, val_main_v33_apply, val_main_v35_apply]
  rfl

/-- The second result: their codes. -/
theorem codes_apply (b : Fin 2) (r : Fin 3) (c : Fin 5376) :
    val_main_v44 (F := Ideal) x0 x1 x2 (ix3 b r c) = qcode (last3 (column x0 x1 x2 c) b.val) r := by
  unfold qcode qround
  rw [← narrow, ← last_apply, ← scale3_apply]
  rw [val_main_v44_apply, val_main_v43_apply, val_main_v42_apply, val_main_call4_v2_apply, val_main_v41_apply, val_main_v40_apply, val_main_call4_v4_apply,
    val_main_call4_v1_apply, val_main_v39_apply, val_main_v38_apply, val_main_call4_v3_apply, val_main_call4_v0_apply, val_main_c_8_apply, val_main_c_9_apply]
  have hb : idx_main_v38 (idx_main_v39 (ix3 b r c)) = ix2 b c := eq_ix2 _
  rw [hb]
  generalize val_main_v30 (F := Ideal) x0 x1 x2 (ix3 b r c) = u
  generalize val_main_v37 (F := Ideal) x0 x1 x2 (ix2 b c) = s
  exact rfl

end Cert.ConvRefValue

end
-- ==== Proof.ConvValue.lean ====
/- The convolution-half in-projection: the kernel's three result arrays are the reference's, at every index. -/
module

public import proofs.«01_k».proof.Proof.ConvBlock
public import proofs.«01_k».proof.Proof.ConvRef
public import proofs.«01_k».proof.Proof.Gen.ConvRefIdeal.Run
public import proofs.«01_k».proof.Proof.Gen.InProjConvIdeal.Value
public import proofs.«01_k».proof.Defs
public import Idealize.ShloMosaic.Lib.Pipeline.ValueKit.Geometry

@[expose] public section

set_option maxRecDepth 16384

noncomputable section

namespace Cert.ConvValue

open Cert.InProjConvIdeal Cert.InProjConvIdeal.Gen Idealize.ShloMosaic Idealize.ShloMosaic.TcCoe Idealize.SL.Sem
open Idealize.ShloMosaic.ValueIdx Cert.W4

variable (m : (ℓ : Loc nD τ sig) → Buf (Elt Ideal) ℓ)

/-- Where each window's block lies at grid point `t`: the weights and scales start at column `5120`. -/
theorem index0 : ∀ t : Fin grid0.N, win0_0.index t 0 = 0 ∧ win0_0.index t 1 = 0 := by decide +kernel
theorem index1 : ∀ t : Fin grid0.N, win0_1.index t 0 = 0 ∧ win0_1.index t 1 = t.val + 20 := by decide +kernel
theorem index2 : ∀ t : Fin grid0.N, win0_2.index t 0 = 0 ∧ win0_2.index t 1 = t.val + 20 := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel
theorem index6 : ∀ t : Fin grid0.N, win0_6.index t 0 = 0 ∧ win0_6.index t 1 = 0 ∧ win0_6.index t 2 = t.val := by decide +kernel
theorem index7 : ∀ t : Fin grid0.N, win0_7.index t 0 = 0 ∧ win0_7.index t 1 = t.val := by decide +kernel

/-- The tokens' block is the whole array. -/
theorem tokens (c : Dev nD) (t : Fin cfg0.N) (i : Fin 2048) (k : Fin 2560) :
    iblk m c 0 t (ix2 i k) = m ((c : Thread nD τ).loc main_arg0) (ix2 i k) := by
  rw [← V_main_arg0 m c]
  unfold iblk
  refine congrArg (V m c main_arg0) (funext fun a => Fin.ext ?_)
  blk_simp
  match a with
  | ⟨0, _⟩ => show win0_0.index t 0 * 2048 + i.val = i.val; rw [(index0 t).1]; omega
  | ⟨1, _⟩ => show win0_0.index t 1 * 2560 + k.val = k.val; rw [(index0 t).2]; omega

/-- The weights' block is the columns `5120 + 256 t` and on. -/
theorem weights (c : Dev nD) (t : Fin cfg0.N) (a : Fin 1280) (q : Fin 256) (q' : Fin 10576) (hq : q'.val = 5120 + (256 * t.val + q.val)) :
    X0_1 m c t (ix2 a q) = m ((c : Thread nD τ).loc main_arg1) (ix2 a q') := by
  rw [← V_main_arg1 m c]
  unfold X0_1 Pipeline.Window.fill
  rw [dif_pos (moved0_1 t _)]
  unfold iblk
  refine congrArg (V m c main_arg1) (funext fun b => Fin.ext ?_)
  blk_simp
  match b with
  | ⟨0, _⟩ => show win0_1.index t 0 * 1280 + a.val = a.val; rw [(index1 t).1]; omega
  | ⟨1, _⟩ => show win0_1.index t 1 * 256 + q.val = q'.val; rw [(index1 t).2]; omega

/-- The scales' block is the columns `5120 + 256 t` and on. -/
theorem scales (c : Dev nD) (t : Fin cfg0.N) (g : Fin 20) (q : Fin 256) (q' : Fin 10576) (hq : q'.val = 5120 + (256 * t.val + q.val)) :
    X0_2 m c t (ix2 g q) = m ((c : Thread nD τ).loc main_arg2) (ix2 g q') := by
  rw [← V_main_arg2 m c]
  unfold X0_2 Pipeline.Window.fill
  rw [dif_pos (moved0_2 t _)]
  unfold iblk
  refine congrArg (V m c main_arg2) (funext fun b => Fin.ext ?_)
  blk_simp
  match b with
  | ⟨0, _⟩ => show win0_2.index t 0 * 20 + g.val = g.val; rw [(index2 t).1]; omega
  | ⟨1, _⟩ => show win0_2.index t 1 * 256 + q.val = q'.val; rw [(index2 t).2]; omega

/-- The taps' weights are the columns `256 t` and on. -/
theorem taps (c : Dev nD) (t : Fin cfg0.N) (n : Fin 4) (q : Fin 256) (q' : Fin 5376) (hq : q'.val = 256 * t.val + q.val) :
    iblk m c 3 t (ix2 n q) = m ((c : Thread nD τ).loc main_arg3) (ix2 n q') := by
  rw [← V_main_arg3 m c]
  unfold iblk
  refine congrArg (V m c main_arg3) (funext fun b => Fin.ext ?_)
  blk_simp
  match b with
  | ⟨0, _⟩ => show win0_3.index t 0 * 4 + n.val = n.val; rw [(index3 t).1]; omega
  | ⟨1, _⟩ => show win0_3.index t 1 * 256 + q.val = q'.val; rw [(index3 t).2]; omega

/-- The bias, which the host lays out as one row first, is the columns `256 t` and on. -/
theorem bias (c : Dev nD) (t : Fin cfg0.N) (q : Fin 256) (q' : Fin 5376) (hq : q'.val = 256 * t.val + q.val) :
    iblk m c 4 t (ix2 0 q) = m ((c : Thread nD τ).loc main_arg4) (ix1 q') := by
  have hv : V m c main_v0 = shapeCast S1x5376 (m ((c : Thread nD τ).loc main_arg4)) shapeCasts_S5376_S1x5376 := by
    show StableHlo.after hostOps0 _ (Proc.devRef .tc main_v0) = _
    simp only [hostOps0, StableHlo.after_cons, StableHlo.after_nil]
    rw [StableHlo.reshape_result]
    rfl
  have he : V m c main_v0 (ix2 0 q') = m ((c : Thread nD τ).loc main_arg4) (ix1 q') := by
    rw [hv]
    exact shapeCast_a_1a_apply _ _ 0 q'
  rw [← he]
  unfold iblk
  refine congrArg (V m c main_v0) (funext fun b => Fin.ext ?_)
  blk_simp
  match b with
  | ⟨0, _⟩ => show win0_4.index t 0 * 1 + 0 = 0; rw [(index4 t).1]
  | ⟨1, _⟩ => show win0_4.index t 1 * 256 + q.val = q'.val; rw [(index4 t).2]; omega

/-- A column of the block's projection is the reference's column `256 t + q`. -/
theorem column_eq (c : Dev nD) (t : Fin cfg0.N) (q : Fin 256) (q' : Fin 5376) (hq : q'.val = 256 * t.val + q.val) :
    (fun i : Fin 2048 => ConvRows.V (iblk m c 0 t) (X0_1 m c t) (X0_2 m c t) i q)
      = ConvRefValue.column (m ((c : Thread nD τ).loc main_arg0)) (m ((c : Thread nD τ).loc main_arg1)) (m ((c : Thread nD τ).loc main_arg2)) q' := by
  funext i
  exact proj_congr (h := iblk m c 0 t) (w := X0_1 m c t) (s := X0_2 m c t) (i := i) (c := q) (i' := i) (c' := ⟨5120 + q'.val, by omega⟩)
    (fun k => tokens m c t i k) (fun a => weights m c t a q _ (congrArg (5120 + ·) hq)) (fun g => scales m c t g q _ (congrArg (5120 + ·) hq))

/-- The gated convolution after the kernel is the reference's. -/
theorem act (c : Dev nD) :
    (dats m 0 c).arrAt 5 cfg0.N = Cert.ConvRefIdeal.Read.val_main_v79 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  rw [ConvBlock.out5]
  obtain ⟨i, q, rfl⟩ : ∃ i q, y = ix2 (n0 := 2048) (n1 := 256) i q := ⟨_, _, eq_ix2 y⟩
  have ht : t.val < 21 := t.isLt
  have hi : ((cfg0.win 5).blk t).view.emb (ix2 i q) = ix2 (n0 := 2048) (n1 := 5376) i ⟨256 * t.val + q.val, by omega⟩ := by
    refine funext fun b => Fin.ext ?_
    blk_simp
    match b with
    | ⟨0, _⟩ => show win0_5.index t 0 * 2048 + i.val = i.val; rw [(index5 t).1]; omega
    | ⟨1, _⟩ => show win0_5.index t 1 * 256 + q.val = 256 * t.val + q.val; rw [(index5 t).2]; omega
  refine Eq.trans ?_ (congrArg _ hi.symm)
  rw [ConvRefValue.act_apply]
  show gated (fun i : Fin 2048 => ConvRows.V (iblk m c 0 t) (X0_1 m c t) (X0_2 m c t) i q) (fun n => iblk m c 3 t (ix2 n q)) (iblk m c 4 t (ix2 0 q)) _ _ = _
  rw [column_eq m c t q ⟨256 * t.val + q.val, by omega⟩ rfl, bias m c t q ⟨256 * t.val + q.val, by omega⟩ rfl]
  rw [show (fun n : Fin 4 => iblk m c 3 t (ix2 n q)) = fun n => m ((c : Thread nD τ).loc main_arg3) (ix2 n ⟨256 * t.val + q.val, by omega⟩) from
    funext fun n => taps m c t n q _ rfl]

/-- The codes of the last three tokens after the kernel are the reference's. -/
theorem codes (c : Dev nD) :
    (dats m 0 c).arrAt 6 cfg0.N = Cert.ConvRefIdeal.Read.val_main_v44 (F := Ideal) (m ((c : Thread nD τ).loc main_arg0))
      (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  rw [ConvBlock.out6]
  obtain ⟨b, r, q, rfl⟩ : ∃ b r q, y = ix3 (n0 := 2) (n1 := 3) (n2 := 256) b r q := ⟨_, _, _, eq_ix3 y⟩
  have ht : t.val < 21 := t.isLt
  have hi : ((cfg0.win 6).blk t).view.emb (ix3 b r q) = ix3 (n0 := 2) (n1 := 3) (n2 := 5376) b r ⟨256 * t.val + q.val, by omega⟩ := by
    refine funext fun a => Fin.ext ?_
    blk_simp
    match a with
    | ⟨0, _⟩ => show win0_6.index t 0 * 2 + b.val = b.val; rw [(index6 t).1]; omega
    | ⟨1, _⟩ => show win0_6.index t 1 * 3 + r.val = r.val; rw [(index6 t).2.1]; omega
    | ⟨2, _⟩ => show win0_6.index t 2 * 256 + q.val = 256 * t.val + q.val; rw [(index6 t).2.2]; omega
  refine Eq.trans ?_ (congrArg _ hi.symm)
  rw [ConvRefValue.codes_apply, ← column_eq m c t q ⟨256 * t.val + q.val, by omega⟩ rfl]

/-- Their scales after the kernel are the reference's. -/
theorem scale (c : Dev nD) :
    (dats m 0 c).arrAt 7 cfg0.N = Cert.ConvRefIdeal.Read.val_main_v37 (F := Ideal) (m ((c : Thread nD τ).loc main_arg0))
      (m ((c : Thread nD τ).loc main_arg1)) (m ((c : Thread nD τ).loc main_arg2)) := by
  refine (dats m 0 c).arrAt_eq_of_covers 7 _ (by decide +kernel) fun t hf y => ?_
  blk_simp
  rw [after0_7]
  unfold outsAt0
  rw [ConvBlock.out7]
  obtain ⟨b, q, rfl⟩ : ∃ b q, y = ix2 (n0 := 2) (n1 := 256) b q := ⟨_, _, eq_ix2 y⟩
  have ht : t.val < 21 := t.isLt
  have hi : ((cfg0.win 7).blk t).view.emb (ix2 b q) = ix2 (n0 := 2) (n1 := 5376) b ⟨256 * t.val + q.val, by omega⟩ := by
    refine funext fun a => Fin.ext ?_
    blk_simp
    match a with
    | ⟨0, _⟩ => show win0_7.index t 0 * 2 + b.val = b.val; rw [(index7 t).1]; omega
    | ⟨1, _⟩ => show win0_7.index t 1 * 256 + q.val = 256 * t.val + q.val; rw [(index7 t).2]; omega
  refine Eq.trans ?_ (congrArg _ hi.symm)
  rw [ConvRefValue.scale3_apply, ← column_eq m c t q ⟨256 * t.val + q.val, by omega⟩ rfl]

/-- The claim: on memories that agree on the arguments, the kernel and the reference end with the same results. -/
theorem algebraic : Cert.algebraic_InProjConvIdeal_ConvRefIdeal := by
  intro m g m' g' _ hagree
  refine ⟨fun c => (dats m 0 c).arrAt 5 cfg0.N, fun c => (dats m 0 c).arrAt 6 cfg0.N, fun c => (dats m 0 c).arrAt 7 cfg0.N,
    Cert.InProjConvIdeal.Value.run_blocks m g, ?_⟩
  refine (θ_run _ _ _).mono (fun r h c => ⟨(h c).1.trans ?_, (h c).2.1.trans ?_, (h c).2.2.1.trans ?_, (h c).2.2.2⟩) (Cert.ConvRefIdeal.Value.run m' g')
  · rw [Cert.ConvRefIdeal.Read.val_main_v79_eq, (hagree c).1, (hagree c).2.1, (hagree c).2.2.1, (hagree c).2.2.2.1, (hagree c).2.2.2.2]
    exact (act m c).symm
  · rw [Cert.ConvRefIdeal.Read.val_main_v44_eq, (hagree c).1, (hagree c).2.1, (hagree c).2.2.1]
    exact (codes m c).symm
  · rw [Cert.ConvRefIdeal.Read.val_main_v37_eq, (hagree c).1, (hagree c).2.1, (hagree c).2.2.1]
    exact (scale m c).symm

end Cert.ConvValue

end
-- ==== Proof.StateBlock.lean ====
/- The state quantiser's kernel at one grid point, as one rule per head: the stores that transpose the state, each head's
   largest magnitude times its row of the class mask, the running maximum over the heads, the scales, and the codes. -/
module

public import proofs.«01_k».proof.Proof.Gen.StateQuantIdeal.Value

@[expose] public section

set_option maxRecDepth 16384

noncomputable section

namespace Cert.StateBlock

open Cert.StateQuantIdeal Cert.StateQuantIdeal.Gen Idealize.ShloMosaic Idealize.ShloMosaic.TcCoe Idealize.SL Idealize.SL.Sem

variable {F : FTy → Type} [FloatOps F]

/-- The boxes below lie in their arrays. -/
theorem inbStore (k : Nat) : ∀ a, (![128 * (k % 40), 0] : Fin 2 → Nat) a + S128x128.size a ≤ S5120x128.size a := fun a => match a with
  | ⟨0, _⟩ => by show 128 * (k % 40) + 128 ≤ 5120; omega
  | ⟨1, _⟩ => by show 0 + 128 ≤ 128; omega
theorem inbState (k : Nat) : ∀ a, (![0, 0, 128 * (k % 40)] : Fin 3 → Nat) a + S1x128x128.size a ≤ S1x128x5120.size a := fun a => match a with
  | ⟨0, _⟩ => by show 0 + 1 ≤ 1; omega
  | ⟨1, _⟩ => by show 0 + 128 ≤ 128; omega
  | ⟨2, _⟩ => by show 128 * (k % 40) + 128 ≤ 5120; omega
theorem inbHead (h : Nat) : ∀ a, (![64 * (h % 80), 0] : Fin 2 → Nat) a + S64x128.size a ≤ S5120x128.size a := fun a => match a with
  | ⟨0, _⟩ => by show 64 * (h % 80) + 64 ≤ 5120; omega
  | ⟨1, _⟩ => by show 0 + 128 ≤ 128; omega
theorem inbMask (h : Nat) : S80x4.Slices ![h % 80, 0] S1x4 := ⟨rfl, fun a => match a with
  | ⟨0, _⟩ => by show h % 80 + 1 ≤ 80; omega
  | ⟨1, _⟩ => by show 0 + 4 ≤ 4; omega⟩
theorem inbCode (h : Nat) : ∀ a, (![0, h % 80, 0, 0] : Fin 4 → Nat) a + S1x1x64x128.size a ≤ S1x80x64x128.size a := fun a => match a with
  | ⟨0, _⟩ => by show 0 + 1 ≤ 1; omega
  | ⟨1, _⟩ => by show h % 80 + 1 ≤ 80; omega
  | ⟨2, _⟩ => by show 0 + 64 ≤ 64; omega
  | ⟨3, _⟩ => by show 0 + 128 ≤ 128; omega

/-- Store `k` of the scratch buffer: its rows `128 k` and on are the transpose of the state's columns `128 k` and on. -/
abbrev store (c : Dev nD) (arg1 : Memref sig .tc .vmem S1x128x5120 .f32) (harg1 : arg1.IsWhole) (x0 : Vec F S1x128x5120 .f32) (k : Nat) :
    View.Piece (Elt F) S5120x128 .f32 :=
  ⟨Rect.unit (s := S5120x128) ![128 * (k % 40), 0] S128x128.size (inbStore k),
    k0_pay2 (View.readAt (Elt F) arg1.view (Rect.unit (s := S1x128x5120) ![0, 0, 128 * (k % 40)] S1x128x128.size (inbState k)).toLoadRect (harg1.unread x0))⟩

/-- The first `n` stores, last first. -/
def stores (c : Dev nD) (arg1 : Memref sig .tc .vmem S1x128x5120 .f32) (harg1 : arg1.IsWhole) (x0 : Vec F S1x128x5120 .f32) :
    Nat → List (View.Piece (Elt F) S5120x128 .f32)
  | 0 => []
  | k + 1 => store c arg1 harg1 x0 k :: stores c arg1 harg1 x0 k

/-- Head `h`'s rows of the scratch buffer after `n` stores. -/
abbrev head (c : Dev nD) (arg1 : Memref sig .tc .vmem S1x128x5120 .f32) (harg1 : arg1.IsWhole) (arg5 : Memref sig .tc .vmem S5120x128 .f32)
    (x0 : Vec F S1x128x5120 .f32) (n h : Nat) : Vec F S64x128 .f32 :=
  arg5.view.readCov (stores c arg1 harg1 x0 n) (Rect.unit (s := S5120x128) ![64 * (h % 80), 0] S64x128.size (inbHead h)).toLoadRect

/-- Row `h` of the class mask. -/
abbrev maskRow (v0 : Vec F S80x4 .f32) (h : Nat) : FVec F S1x4 .f32 :=
  extractStridedSlice S1x4 ![h % 80, 0] v0 (inbMask h)

/-- Head `h`'s largest magnitude times its row of the class mask. -/
abbrev term (v0 : Vec F S80x4 .f32) (v : Vec F S64x128 .f32) (h : Nat) : FVec F S1x4 .f32 :=
  mulf (broadcastTo S1x4 (shapeCast S1x1 (multiReduction .maximumf [1] S1 (shapeCast S1x128 (multiReduction .maximumf [0] S128 (absf v) 0xFF800000#32
    reduces_S64x128_S128 (.inl rfl) rfl) shapeCasts_S128_S1x128) 0xFF800000#32 reduces_S1x128_S1 (.inl rfl) rfl) shapeCasts_S1_S1x1) broadcasts_S1x1_S1x4)
    (maskRow v0 h)

/-- The running maximum after head `h`. -/
def cmax (c : Dev nD) (arg1 : Memref sig .tc .vmem S1x128x5120 .f32) (harg1 : arg1.IsWhole) (arg5 : Memref sig .tc .vmem S5120x128 .f32)
    (x0 : Vec F S1x128x5120 .f32) (v0 : Vec F S80x4 .f32) : Nat → FVec F S1x4 .f32
  | 0 => term v0 (head c arg1 harg1 arg5 x0 1 0) 0
  | h + 1 => maximumf (cmax c arg1 harg1 arg5 x0 v0 h) (term v0 (head c arg1 harg1 arg5 x0 ((h + 1) / 2 + 1) (h + 1)) (h + 1))

/-- The scales of the classes from their maxima: the maximum over 127, and one at zero. -/
abbrev scaleOf (m : FVec F S1x4 .f32) : FVec F S1x4 .f32 :=
  select (cmpf .oeq m (broadcast S1x4 (Scalar.ofBits (F := F) .f32 0x00000000#32)))
    (broadcast S1x4 (Scalar.ofBits (F := F) .f32 0x3F800000#32)) (divf m (broadcast S1x4 (Scalar.ofBits (F := F) .f32 0x42FE0000#32)))

/-- The codes of one head from its rows, the mask and the scales. -/
abbrev codeOf (v0 : Vec F S80x4 .f32) (sc : FVec F S1x4 .f32) (v : Vec F S64x128 .f32) (h : Nat) : IVec S1x1x64x128 8 :=
  shapeCast S1x1x64x128 (fptosi 8 (minimumf (broadcast S64x128 (Scalar.sitofp (F := F) .f32 127#32)) (maximumf (broadcast S64x128 (Scalar.sitofp (F := F) .f32 4294967169#32))
    (roundeven (divf v (broadcastTo S64x128 (shapeCast S1x1 (multiReduction .add [1] S1 (mulf (maskRow v0 h) sc) 0x00000000#32 reduces_S1x4_S1 (.inl rfl) rfl) shapeCasts_S1_S1x1)
      broadcasts_S1x1_S64x128)))))) shapeCasts_S64x128_S1x1x64x128

/-- Head `h`'s codes, at their place in the output block. -/
abbrev code (c : Dev nD) (arg1 : Memref sig .tc .vmem S1x128x5120 .f32) (harg1 : arg1.IsWhole) (arg5 : Memref sig .tc .vmem S5120x128 .f32)
    (x0 : Vec F S1x128x5120 .f32) (v0 : Vec F S80x4 .f32) (sc : FVec F S1x4 .f32) (h : Nat) : View.Piece (Elt F) S1x80x64x128 .i8 :=
  ⟨Rect.unit (s := S1x80x64x128) ![0, h % 80, 0, 0] ![1, 1, 64, 128] (inbCode h), codeOf v0 sc (head c arg1 harg1 arg5 x0 40 h) h⟩

/-- The first `n` heads' codes, last first. -/
def codes (c : Dev nD) (arg1 : Memref sig .tc .vmem S1x128x5120 .f32) (harg1 : arg1.IsWhole) (arg5 : Memref sig .tc .vmem S5120x128 .f32)
    (x0 : Vec F S1x128x5120 .f32) (v0 : Vec F S80x4 .f32) (sc : FVec F S1x4 .f32) : Nat → List (View.Piece (Elt F) S1x80x64x128 .i8)
  | 0 => []
  | h + 1 => code c arg1 harg1 arg5 x0 v0 sc h :: codes c arg1 harg1 arg5 x0 v0 sc h

/-- The kernel's scratch stores are these. -/
theorem stores_eq (c : Dev nD) (arg1 : Memref sig .tc .vmem S1x128x5120 .f32) (harg1 : arg1.IsWhole) (x0 : Vec F S1x128x5120 .f32) :
    kernelRun0_A.sl.HS0_40 c arg1 harg1 x0 = stores c arg1 harg1 x0 40 := rfl

section
variable (c : Dev nD) (arg1 : Memref sig .tc .vmem S1x128x5120 .f32) (harg1 : arg1.IsWhole) (arg2 : Memref sig .tc .vmem S80x4 .f32) (harg2 : arg2.IsWhole)
  (arg5 : Memref sig .tc .vmem S5120x128 .f32) (x0 : Vec F S1x128x5120 .f32) (x1 : Vec F S80x4 .f32)

set_option maxHeartbeats 4000000 in
/-- The kernel's scales are those of the running maximum after the last head. -/
theorem scales_eq :
    kernelRun0_A.sl.r_66 c arg1 harg1 arg2 harg2 arg5 x0 x1 = scaleOf (cmax c arg1 harg1 arg5 x0 (kernelRun0_A.sl.r c arg2 harg2 x1) 79) := rfl

set_option maxHeartbeats 4000000 in
/-- The kernel's stores of codes are these, head by head. -/
theorem codes_eq (i : grid0.Coords) (arg3 : Memref sig .tc .vmem S1x80x64x128 .i8) (harg3 : arg3.IsWhole) (arg4 : Memref sig .tc .vmem S1x1x4 .f32) (harg4 : arg4.IsWhole) (harg5 : arg5.IsWhole) :
    (kernelRun0_A c i arg1 harg1 arg2 harg2 arg3 harg3 arg4 harg4 arg5 harg5 x0 x1).1
      = codes c arg1 harg1 arg5 x0 (kernelRun0_A.sl.r c arg2 harg2 x1) (kernelRun0_A.sl.r_66 c arg1 harg1 arg2 harg2 arg5 x0 x1) 80 := by
  unfold kernelRun0_A
  rfl

/-- The kernel's one store of scales. -/
theorem scale_store (i : grid0.Coords) (arg3 : Memref sig .tc .vmem S1x80x64x128 .i8) (harg3 : arg3.IsWhole) (arg4 : Memref sig .tc .vmem S1x1x4 .f32) (harg4 : arg4.IsWhole) (harg5 : arg5.IsWhole) :
    (kernelRun0_A c i arg1 harg1 arg2 harg2 arg3 harg3 arg4 harg4 arg5 harg5 x0 x1).2.1
      = [⟨Rect.unit ![0, 0, 0] S1x1x4.size inb_S1x1x4_S1x1x4_0_0_0, shapeCast S1x1x4 (kernelRun0_A.sl.r_66 c arg1 harg1 arg2 harg2 arg5 x0 x1) shapeCasts_S1x4_S1x1x4⟩] := by
  unfold kernelRun0_A
  rfl
end

end Cert.StateBlock

end
-- ==== Proof.State.lean ====
/- The state quantiser as mathematics. A batch's state is a function `s` of the head, the row inside the head and the
   column; `w` is the class mask, by head and class. -/
module

public import proofs.«01_k».proof.Proof.Conv

@[expose] public section

noncomputable section

namespace Cert.State

open Idealize.ShloMosaic Idealize.ShloMosaic.ValueIdx
open scoped BigOperators

/-- The reductions' starting value is the least one. -/
theorem bottom : Ideal.ofBits .f32 0xFF800000#32 = (⊥ : EReal) := by simp [Ideal.ofBits, Ideal.ieee]

/-- The largest of finitely many values. -/
def top {n : Nat} (u : Fin n → EReal) : EReal := (Finset.univ : Finset (Fin n)).fold max (Ideal.ofBits .f32 0xFF800000#32) u

theorem top_le {n : Nat} (u : Fin n → EReal) (x : EReal) : top u ≤ x ↔ ∀ k, u k ≤ x := by
  unfold top
  rw [Finset.fold_max_le, bottom]
  exact ⟨fun h k => h.2 k (Finset.mem_univ k), fun h => ⟨bot_le, fun k _ => h k⟩⟩

/-- A head's largest magnitude: down the rows, then across the columns. -/
def headMax (v : Fin 64 → Fin 128 → EReal) : EReal := top fun d => top fun p => max (v p d) (-(v p d))

theorem headMax_le (v : Fin 64 → Fin 128 → EReal) (x : EReal) : headMax v ≤ x ↔ ∀ p d, max (v p d) (-(v p d)) ≤ x := by
  unfold headMax
  simp only [top_le]
  exact ⟨fun h p d => h d p, fun h d p => h p d⟩

/-- A class's largest magnitude over the heads, each times its mask. -/
def classMax (s : Fin 80 → Fin 64 → Fin 128 → EReal) (w : Fin 80 → Fin 4 → EReal) (j : Fin 4) : EReal :=
  top fun h => headMax (s h) * w h j

/-- The scale of a largest magnitude: it over 127, or one if it is zero. -/
def scale (m : EReal) : EReal :=
  Scalar.select (Ideal.cmp .oeq m (Ideal.ofBits .f32 0x00000000#32)) (Ideal.ofBits .f32 0x3F800000#32)
    (Ideal.div m (Ideal.ofBits .f32 0x42FE0000#32))

/-- A head's scale: the masked sum of the classes' scales. -/
def headScale (w c : Fin 4 → EReal) : EReal := ∑ j, w j * c j

/-- A value's code under a scale. -/
def code (x c : EReal) : BitVec 8 :=
  Ideal.fptosi 8 (min (Scalar.sitofp (F := Ideal) .f32 127#32) (max (Scalar.sitofp (F := Ideal) .f32 4294967169#32)
    (Ideal.liftRound Ideal.roundHalfEven (Ideal.div x c))))

/-- The scales of a batch's classes. -/
def scales (s : Fin 80 → Fin 64 → Fin 128 → EReal) (w : Fin 80 → Fin 4 → EReal) (j : Fin 4) : EReal := scale (classMax s w j)

/-- The codes of a batch. -/
def codes (s : Fin 80 → Fin 64 → Fin 128 → EReal) (w : Fin 80 → Fin 4 → EReal) (h : Fin 80) (p : Fin 64) (d : Fin 128) : BitVec 8 :=
  code (s h p d) (headScale (w h) (scales s w))

/-- Head `h` of a state that holds a head's row `p` in column `64 h + p`. -/
def heads (x : Fin 128 → Fin 5120 → EReal) (h : Fin 80) (p : Fin 64) (d : Fin 128) : EReal := x d ⟨64 * h.val + p.val, by omega⟩

end Cert.State

end
-- ==== Proof.StateVals.lean ====
/- The state quantiser's kernel at one grid point, in numbers: what the scratch buffer holds, the largest magnitudes,
   the scales and the codes, as functions of the two blocks the point reads. -/
module

public import proofs.«01_k».proof.Proof.StateBlock
public import proofs.«01_k».proof.Proof.State
public import Idealize.ShloMosaic.Lib.ValueLayoutCasts

@[expose] public section

set_option maxRecDepth 16384

noncomputable section

namespace Cert.StateVals

open Cert.StateQuantIdeal Cert.StateQuantIdeal.Gen Idealize.ShloMosaic Idealize.ShloMosaic.TcCoe Idealize.SL Idealize.SL.Sem
open Idealize.ShloMosaic.ValueIdx Cert.State Cert.StateBlock
open scoped BigOperators

/-- The rows `64 h` and on of a buffer, with the head's rows and columns. -/
abbrev rowsOf (v : Vec Ideal S64x128 .f32) : Fin 64 → Fin 128 → EReal := fun p d => v (ix2 p d)

section Term
variable (v0 : Vec Ideal S80x4 .f32) (v : Vec Ideal S64x128 .f32)

/-- The largest magnitude of a column. -/
theorem colMax (d : Fin 128) :
    multiReduction (F := Ideal) .maximumf [0] S128 (absf v) 0xFF800000#32 reduces_S64x128_S128 (.inl rfl) rfl (ix1 d) = top fun p => max (v (ix2 p d)) (-(v (ix2 p d))) := by
  refine (multiReduction_maximumf_eq_fold _ _ _ _ _ _).trans ?_
  refine eq_of_forall_ge_iff fun x => ?_
  rw [top_le]
  refine (Finset.fold_max_le x).trans ?_
  refine ⟨fun hx p => ?_, fun hx => ⟨le_of_eq_of_le bottom bot_le, fun i hi => ?_⟩⟩
  · exact hx.2 (ix2 p d) (Finset.mem_filter.2 ⟨Finset.mem_univ _, funext fun a => Fin.ext (match a with | ⟨0, _⟩ => rfl)⟩)
  · obtain ⟨_, hi⟩ := Finset.mem_filter.1 hi
    obtain ⟨p, d', rfl⟩ : ∃ p d', i = ix2 (n0 := 64) (n1 := 128) p d' := ⟨_, _, eq_ix2 i⟩
    obtain rfl : d' = d := congrFun hi 0
    exact hx p

/-- The largest value of a row. -/
theorem rowMax (w : FVec Ideal S128 .f32) :
    multiReduction (F := Ideal) .maximumf [1] S1 (shapeCast S1x128 w shapeCasts_S128_S1x128) 0xFF800000#32 reduces_S1x128_S1 (.inl rfl) rfl (ix1 0) = top fun d => w (ix1 d) := by
  refine (multiReduction_maximumf_eq_fold _ _ _ _ _ _).trans ?_
  refine eq_of_forall_ge_iff fun x => ?_
  rw [top_le]
  refine (Finset.fold_max_le x).trans ?_
  refine ⟨fun hx d => ?_, fun hx => ⟨le_of_eq_of_le bottom bot_le, fun i _ => ?_⟩⟩
  · have := hx.2 (ix2 0 d) (Finset.mem_filter.2 ⟨Finset.mem_univ _, funext fun a => Fin.ext (match a with | ⟨0, _⟩ => rfl)⟩)
    rw [shapeCast_a_1a_apply] at this
    exact this
  · obtain ⟨u, d, rfl⟩ : ∃ u d, i = ix2 (n0 := 1) (n1 := 128) u d := ⟨_, _, eq_ix2 i⟩
    rw [shapeCast_a_1a_apply]
    exact hx d

theorem maskRow_apply (h : Nat) (hh : h < 80) (j : Fin 4) : maskRow v0 h (ix2 0 j) = v0 (ix2 ⟨h, hh⟩ j) := by
  refine (extractStridedSlice_apply _ _ (inbMask h) (ix2 0 j) (ix2 ⟨h, hh⟩ j) fun a => ?_)
  match a with
  | ⟨0, _⟩ => show h = h % 80 + 0; omega
  | ⟨1, _⟩ => show j.val = 0 + j.val; omega

/-- A head's largest magnitude times its row of the mask. -/
theorem term_apply (h : Nat) (hh : h < 80) (j : Fin 4) : term v0 v h (ix2 0 j) = headMax (rowsOf v) * v0 (ix2 ⟨h, hh⟩ j) := by
  have e : (shapeCast S1x1 (multiReduction (F := Ideal) .maximumf [1] S1 (shapeCast S1x128 (multiReduction (F := Ideal) .maximumf [0] S128 (absf v) 0xFF800000#32
    reduces_S64x128_S128 (.inl rfl) rfl) shapeCasts_S128_S1x128) 0xFF800000#32 reduces_S1x128_S1 (.inl rfl) rfl) shapeCasts_S1_S1x1) (ix2 0 0) = headMax (rowsOf v) := by
    refine (shapeCast_a_1a_apply _ _ 0 0).trans ((rowMax _).trans ?_)
    unfold headMax
    exact congrArg top (funext fun d => colMax v d)
  refine congrArg₂ (fun x y : EReal => x * y) ?_ (maskRow_apply v0 h hh j)
  refine (broadcastTo_apply _ broadcasts_S1x1_S1x4 (ix2 0 j) (ix2 0 0) fun a => ?_).trans e
  match a with
  | ⟨0, _⟩ => rfl
  | ⟨1, _⟩ => rfl

/-- The scales from the maxima. -/
theorem scaleOf_apply (m : FVec Ideal S1x4 .f32) (j : Fin 4) : scaleOf m (ix2 0 j) = scale (m (ix2 0 j)) := rfl

/-- A head's scale. -/
theorem headScale_apply (sc : FVec Ideal S1x4 .f32) (h : Nat) (hh : h < 80) :
    multiReduction (F := Ideal) .add [1] S1 (mulf (maskRow v0 h) sc) 0x00000000#32 reduces_S1x4_S1 (.inl rfl) rfl (ix1 0)
      = headScale (fun j => v0 (ix2 ⟨h, hh⟩ j)) (fun j => sc (ix2 0 j)) := by
  refine (Ideal.multiReduction_add_single _ _ reduces_S1x4_S1 _ _ _).trans ?_
  refine Finset.sum_congr rfl fun j _ => ?_
  refine Eq.trans (b := mulf (maskRow v0 h) sc (ix2 0 j)) (congrArg _ (by funext a; fin_cases a <;> rfl)) ?_
  exact congrArg (fun y : EReal => y * sc (ix2 0 j)) (maskRow_apply v0 h hh j)

/-- A head's codes. -/
theorem codeOf_apply (sc : FVec Ideal S1x4 .f32) (h : Nat) (hh : h < 80) (p : Fin 64) (d : Fin 128) (y : S1x1x64x128.Idx) (h2 : y 2 = p) (h3 : y 3 = d) :
    codeOf v0 sc v h y = code (v (ix2 p d)) (headScale (fun j => v0 (ix2 ⟨h, hh⟩ j)) (fun j => sc (ix2 0 j))) := by
  rw [← headScale_apply v0 sc h hh]
  refine (shapeCast_apply _ shapeCasts_S64x128_S1x1x64x128 y (ix2 p d) ?_).trans ?_
  · rw [Shape.rowMajor_val_two, Shape.rowMajor_val_four, h2, h3]
    have h0 : (y 0).val < 1 := (y 0).isLt
    have h1 : (y 1).val < 1 := (y 1).isLt
    show p.val * 128 + d.val = ((((y 0).val * 1 + (y 1).val) * 64 + p.val) * 128 + d.val)
    omega
  · have e : broadcastTo S64x128 (shapeCast S1x1 (multiReduction (F := Ideal) .add [1] S1 (mulf (maskRow v0 h) sc) 0x00000000#32 reduces_S1x4_S1 (.inl rfl) rfl) shapeCasts_S1_S1x1)
        broadcasts_S1x1_S64x128 (ix2 p d) = multiReduction (F := Ideal) .add [1] S1 (mulf (maskRow v0 h) sc) 0x00000000#32 reduces_S1x4_S1 (.inl rfl) rfl (ix1 0) := by
      refine (broadcastTo_apply _ broadcasts_S1x1_S64x128 (ix2 p d) (ix2 0 0) fun a => ?_).trans (shapeCast_a_1a_apply _ _ 0 0)
      match a with
      | ⟨0, _⟩ => rfl
      | ⟨1, _⟩ => rfl
    exact congrArg (fun c => code (v (ix2 p d)) c) e
end Term

section Scratch
variable (c : Dev nD) (arg1 : Memref sig .tc .vmem S1x128x5120 .f32) (harg1 : arg1.IsWhole) (arg5 : Memref sig .tc .vmem S5120x128 .f32)
  (x0 : Vec Ideal S1x128x5120 .f32) (v0 : Vec Ideal S80x4 .f32)

/-- A strip of the state's columns, transposed. -/
theorem pay_apply (w : Vec Ideal S1x128x128 .f32) (r d : Fin 128) : k0_pay2 (F := Ideal) w (ix2 r d) = w (ix3 0 d r) := by
  unfold k0_pay2
  dsimp only
  rw [shapeCast_self]
  exact (transpose_ix2_apply _ transposes_S128x128_p1_0_S128x128 r d).trans (shapeCast_1ab_ab_apply _ _ _ _)

/-- A store's payload: the state's columns, as rows. -/
theorem store_apply (k : Nat) (hk : k < 40) (r d : Fin 128) (n : Fin 5120) (hn : n.val = 128 * k + r.val) :
    k0_pay2 (F := Ideal) (View.readAt (Elt Ideal) arg1.view (Rect.unit (s := S1x128x5120) ![0, 0, 128 * (k % 40)] S1x128x128.size (inbState k)).toLoadRect (harg1.unread x0)) (ix2 r d)
      = x0 (ix3 0 d n) := by
  refine (pay_apply _ r d).trans ?_
  rw [View.readAt_eq_ld, harg1.read_unread]
  refine View.ld_unit_apply_of _ _ _ _ _ _ fun a => ?_
  match a with
  | ⟨0, _⟩ => rfl
  | ⟨1, _⟩ => show d.val = 0 + d.val; omega
  | ⟨2, _⟩ => show n.val = 128 * (k % 40) + r.val; omega

/-- After `m` stores the buffer's first `128 m` rows are the state's first columns. -/
theorem canon_stores (m : Nat) (hm : m ≤ 40) (n : Fin 5120) (d : Fin 128) (hn : n.val < 128 * m) :
    View.canon (stores c arg1 harg1 x0 m) (ix2 n d) = x0 (ix3 0 d n) := by
  induction m with
  | zero => omega
  | succ k ih =>
    by_cases h : n.val < 128 * k
    · refine (View.canon_cons_of_not_mem _ _ fun hy => ?_).trans (ih (by omega) h)
      have : 128 * (k % 40) ≤ n.val := ((Rect.mem_set_unit (inb := inbStore k)).1 hy 0).1
      omega
    · have e : (store c arg1 harg1 x0 k).1.emb (ix2 ⟨n.val - 128 * k, by omega⟩ d) = ix2 n d := by
        refine funext fun a => Fin.ext ?_
        match a with
        | ⟨0, _⟩ => show 128 * (k % 40) + 1 * (n.val - 128 * k) = n.val; omega
        | ⟨1, _⟩ => show 0 + 1 * d.val = d.val; omega
      exact (congrArg _ e.symm).trans ((View.canon_cons_emb _ _ _ _).trans
        (store_apply arg1 harg1 x0 k (by omega) ⟨n.val - 128 * k, by omega⟩ d n (by show n.val = 128 * k + (n.val - 128 * k); omega)))

/-- The batch's state. -/
abbrev st : Fin 80 → Fin 64 → Fin 128 → EReal := heads fun d r => x0 (ix3 0 d r)

/-- A head's rows of the buffer, once they are stored. -/
theorem head_apply (m h : Nat) (hm : m ≤ 40) (hh : h < 80) (hl : 64 * h + 64 ≤ 128 * m) (p : Fin 64) (d : Fin 128) :
    head c arg1 harg1 arg5 x0 m h (ix2 p d) = st x0 ⟨h, hh⟩ p d := by
  show View.readCov _ _ _ _ = _
  rw [View.readCov_eq_canon']
  refine Eq.trans (congrArg _ ?_) (canon_stores c arg1 harg1 x0 m hm ⟨64 * h + p.val, by omega⟩ d (by show 64 * h + p.val < _; omega))
  refine funext fun a => Fin.ext ?_
  match a with
  | ⟨0, _⟩ => show 64 * (h % 80) + 1 * p.val = 64 * h + p.val; omega
  | ⟨1, _⟩ => show 0 + 1 * d.val = d.val; omega

theorem head_rows (m h : Nat) (hm : m ≤ 40) (hh : h < 80) (hl : 64 * h + 64 ≤ 128 * m) :
    rowsOf (head c arg1 harg1 arg5 x0 m h) = st x0 ⟨h, hh⟩ := funext fun p => funext fun d => head_apply c arg1 harg1 arg5 x0 m h hm hh hl p d

/-- The running maximum after head `n` is the least upper bound of the first heads' masked maxima. -/
theorem cmax_le (n : Nat) (hn : n < 80) (j : Fin 4) (x : EReal) :
    cmax c arg1 harg1 arg5 x0 v0 n (ix2 0 j) ≤ x ↔ ∀ h : Fin 80, h.val ≤ n → headMax (st x0 h) * v0 (ix2 h j) ≤ x := by
  induction n with
  | zero =>
    show term v0 (head c arg1 harg1 arg5 x0 1 0) 0 (ix2 0 j) ≤ x ↔ _
    rw [term_apply v0 _ 0 (by omega) j, head_rows c arg1 harg1 arg5 x0 1 0 (by omega) (by omega) (by omega)]
    refine ⟨fun h k hk => ?_, fun h => h 0 (by simp)⟩
    obtain rfl : k = 0 := Fin.ext (by simpa using hk)
    exact h
  | succ n ih =>
    show max (cmax c arg1 harg1 arg5 x0 v0 n (ix2 0 j)) (term v0 (head c arg1 harg1 arg5 x0 ((n + 1) / 2 + 1) (n + 1)) (n + 1) (ix2 0 j)) ≤ x ↔ _
    rw [max_le_iff, ih (by omega), term_apply v0 _ (n + 1) hn j, head_rows c arg1 harg1 arg5 x0 _ (n + 1) (by omega) hn (by omega)]
    refine ⟨fun h k hk => ?_, fun h => ⟨fun k hk => h k (by omega), h ⟨n + 1, hn⟩ (le_refl _)⟩⟩
    rcases Nat.lt_or_ge n k.val with hk' | hk'
    · obtain rfl : k = ⟨n + 1, hn⟩ := Fin.ext (by show k.val = n + 1; omega)
      exact h.2
    · exact h.1 k hk'

/-- The classes' largest magnitudes. -/
theorem cmax_apply (j : Fin 4) : cmax c arg1 harg1 arg5 x0 v0 79 (ix2 0 j) = classMax (st x0) (fun h j => v0 (ix2 h j)) j := by
  refine eq_of_forall_ge_iff fun x => ?_
  unfold classMax
  rw [cmax_le c arg1 harg1 arg5 x0 v0 79 (by omega), top_le]
  exact ⟨fun h k => h k (by omega), fun h k _ => h k⟩

/-- The classes' scales. -/
theorem scaleOf_cmax (j : Fin 4) :
    scaleOf (cmax c arg1 harg1 arg5 x0 v0 79) (ix2 0 j) = scales (st x0) (fun h j => v0 (ix2 h j)) j := by
  rw [scaleOf_apply, cmax_apply]
  rfl
end Scratch

end Cert.StateVals

end
-- ==== Proof.StateOut.lean ====
/- The state quantiser's kernel, one grid point: what the point leaves in its two output blocks, as functions of the
   blocks it reads. -/
module

public import proofs.«01_k».proof.Proof.StateVals

@[expose] public section

set_option maxRecDepth 16384

noncomputable section

namespace Cert.StateOut

open Cert.StateQuantIdeal Cert.StateQuantIdeal.Gen Idealize.ShloMosaic Idealize.ShloMosaic.TcCoe Idealize.SL Idealize.SL.Sem
open Idealize.ShloMosaic.ValueIdx Cert.State Cert.StateBlock Cert.StateVals

/-- A batch's codes and scales, from its block of the state and the class mask. -/
def codesAt (x0 : Vec Ideal S1x128x5120 .f32) (x1 : Vec Ideal S80x4 .f32) (h : Fin 80) (p : Fin 64) (d : Fin 128) : BitVec 8 :=
  State.codes (st x0) (fun h j => x1 (ix2 h j)) h p d
def scalesAt (x0 : Vec Ideal S1x128x5120 .f32) (x1 : Vec Ideal S80x4 .f32) (j : Fin 4) : EReal :=
  State.scales (st x0) (fun h j => x1 (ix2 h j)) j

section Outputs
variable (c : Dev nD) (i : grid0.Coords) (arg1 : Memref sig .tc .vmem S1x128x5120 .f32) (harg1 : arg1.IsWhole) (arg2 : Memref sig .tc .vmem S80x4 .f32) (harg2 : arg2.IsWhole)
  (arg3 : Memref sig .tc .vmem S1x80x64x128 .i8) (harg3 : arg3.IsWhole) (arg4 : Memref sig .tc .vmem S1x1x4 .f32) (harg4 : arg4.IsWhole)
  (arg5 : Memref sig .tc .vmem S5120x128 .f32) (harg5 : arg5.IsWhole) (x0 : Vec Ideal S1x128x5120 .f32) (x1 : Vec Ideal S80x4 .f32)

/-- The mask as the kernel loads it. -/
theorem mask_eq : kernelRun0_A.sl.r c arg2 harg2 x1 = x1 := by
  unfold kernelRun0_A.sl.r
  rw [View.readAt_eq_ld, harg2.read_unread]
  exact View.ld_unit_zero (S := S80x4) (off := ![0, 0]) (by funext a; fin_cases a <;> rfl) _ _

/-- The scales the kernel finds. -/
theorem found (j : Fin 4) : kernelRun0_A.sl.r_66 c arg1 harg1 arg2 harg2 arg5 x0 x1 (ix2 0 j) = scalesAt x0 x1 j := by
  rw [scales_eq, mask_eq]
  exact scaleOf_cmax c arg1 harg1 arg5 x0 x1 j

/-- Every store of codes is some head's. -/
theorem mem_codes (v0 : Vec Ideal S80x4 .f32) (sc : FVec Ideal S1x4 .f32) (n : Nat) (p : View.Piece (Elt Ideal) S1x80x64x128 .i8)
    (hp : p ∈ StateBlock.codes c arg1 harg1 arg5 x0 v0 sc n) : ∃ h, h < n ∧ p = StateBlock.code c arg1 harg1 arg5 x0 v0 sc h := by
  induction n with
  | zero => exact absurd hp List.not_mem_nil
  | succ n ih =>
    rcases List.mem_cons.1 hp with e | hp
    · exact ⟨n, Nat.lt_succ_self n, e⟩
    · obtain ⟨h, hn, e⟩ := ih hp
      exact ⟨h, Nat.lt_succ_of_lt hn, e⟩

/-- A head's store holds its codes. -/
theorem code_apply (v0 : Vec Ideal S80x4 .f32) (sc : FVec Ideal S1x4 .f32) (hsc : ∀ j, sc (ix2 0 j) = scalesAt x0 v0 j) (h : Nat) (hh : h < 80)
    (x : (Rect.unit (s := S1x80x64x128) ![0, h % 80, 0, 0] ![1, 1, 64, 128] (inbCode h)).shape.Idx) :
    codeOf v0 sc (head c arg1 harg1 arg5 x0 40 h) h x
      = (fun y : S1x80x64x128.Idx => codesAt x0 v0 (y 1) (y 2) (y 3)) ((Rect.unit (s := S1x80x64x128) ![0, h % 80, 0, 0] ![1, 1, 64, 128] (inbCode h)).emb x) := by
  obtain ⟨p, hp⟩ : ∃ p : Fin 64, x 2 = p := ⟨_, rfl⟩
  obtain ⟨d, hd⟩ : ∃ d : Fin 128, x 3 = d := ⟨_, rfl⟩
  refine (codeOf_apply v0 _ sc h hh p d x hp hd).trans ?_
  rw [head_apply c arg1 harg1 arg5 x0 40 h (by omega) hh (by omega), show (fun j => sc (ix2 0 j)) = fun j => scalesAt x0 v0 j from funext hsc]
  have h1 : (Rect.unit (s := S1x80x64x128) ![0, h % 80, 0, 0] ![1, 1, 64, 128] (inbCode h)).emb x 1 = (⟨h, hh⟩ : Fin 80) := Fin.ext (by
    have : (x 1).val < 1 := (x 1).isLt
    show h % 80 + 1 * (x 1).val = h; omega)
  have h2 : (Rect.unit (s := S1x80x64x128) ![0, h % 80, 0, 0] ![1, 1, 64, 128] (inbCode h)).emb x 2 = p := Fin.ext (by
    rw [← hp]; show 0 + 1 * (x 2).val = (x 2).val; omega)
  have h3 : (Rect.unit (s := S1x80x64x128) ![0, h % 80, 0, 0] ![1, 1, 64, 128] (inbCode h)).emb x 3 = d := Fin.ext (by
    rw [← hd]; show 0 + 1 * (x 3).val = (x 3).val; omega)
  exact (congr (congr (congrArg (codesAt x0 v0) h1) h2) h3).symm

set_option maxHeartbeats 4000000 in
/-- The first output block: the codes. -/
theorem out2 : out0_A_2 c i arg1 harg1 arg2 harg2 arg3 harg3 arg4 harg4 arg5 harg5 x0 x1 = (fun y : S1x80x64x128.Idx => codesAt x0 x1 (y 1) (y 2) (y 3)) := by
  funext y
  unfold out0_A_2
  rw [View.read_writes_junk_eq_canon]
  refine View.canon_apply_of_pieces (fun y : S1x80x64x128.Idx => codesAt x0 x1 (y 1) (y 2) (y 3)) _ (fun p hp => ?_) y (cover0_A_2 c i arg1 harg1 arg2 harg2 arg3 harg3 arg4 harg4 arg5 harg5 x0 x1 y)
  rw [codes_eq, mask_eq] at hp
  obtain ⟨h, hh, rfl⟩ := mem_codes c arg1 harg1 arg5 x0 x1 _ 80 p hp
  exact code_apply c arg1 harg1 arg5 x0 x1 _ (found c arg1 harg1 arg2 harg2 arg5 x0 x1) h hh

/-- The second output block: the scales. -/
theorem out3 : out0_A_3 c i arg1 harg1 arg2 harg2 arg3 harg3 arg4 harg4 arg5 harg5 x0 x1 = (fun y : S1x1x4.Idx => scalesAt x0 x1 (y 2)) := by
  unfold out0_A_3
  rw [View.read_writes_junk_eq_canon, scale_store]
  refine (View.canon_unit_zero (S := S1x1x4) (off := ![0, 0, 0]) (by funext a; fin_cases a <;> rfl) _ _).trans ?_
  funext y
  obtain ⟨u, v, j, rfl⟩ : ∃ u v j, y = ix3 (n0 := 1) (n1 := 1) (n2 := 4) u v j := ⟨_, _, _, eq_ix3 y⟩
  obtain rfl : v = 0 := Subsingleton.elim _ _
  exact (shapeCast_ab_1ab_apply _ _ u 0 j).trans (found c arg1 harg1 arg2 harg2 arg5 x0 x1 j)
end Outputs

end Cert.StateOut

end
-- ==== Proof.StateRef.lean ====
/- The state quantiser's reference, read at an index. -/
module

public import proofs.«01_k».proof.Proof.Gen.StateRefIdeal.Read
public import proofs.«01_k».proof.Proof.State

@[expose] public section

noncomputable section

namespace Cert.StateRefValue

open Cert.StateRefIdeal Cert.StateRefIdeal.Read Idealize.ShloMosaic Idealize.ShloMosaic.ValueIdx Cert.State
open scoped BigOperators

variable (x0 : Vec Ideal S2x128x5120 .f32) (x1 : Vec Ideal S80x4 .f32)

/-- Batch `b`'s state, by head, row and column; and the class mask. -/
abbrev st (b : Fin 2) : Fin 80 → Fin 64 → Fin 128 → EReal := heads fun d r => x0 (ix3 b d r)
abbrev mk (h : Fin 80) (j : Fin 4) : EReal := x1 (ix2 h j)

/-- The index of four coordinates. -/
abbrev at4 (b : Fin 2) (h : Fin 80) (p : Fin 64) (d : Fin 128) : S2x80x64x128.Idx := fun a => match a with
  | ⟨0, _⟩ => b
  | ⟨1, _⟩ => h
  | ⟨2, _⟩ => p
  | ⟨3, _⟩ => d

theorem eq_at4 (i : S2x80x64x128.Idx) : i = at4 (i 0) (i 1) (i 2) (i 3) := funext fun a => match a with
  | ⟨0, _⟩ => rfl
  | ⟨1, _⟩ => rfl
  | ⟨2, _⟩ => rfl
  | ⟨3, _⟩ => rfl

theorem state_apply (b : Fin 2) (h : Fin 80) (p : Fin 64) (d : Fin 128) :
    val_main_v1 (F := Ideal) x0 (at4 b h p d) = st x0 b h p d := by
  rw [val_main_v1_apply, val_main_v0_apply]
  refine congrArg x0 (funext fun a => Fin.ext ?_)
  match a with
  | ⟨0, _⟩ => show (((b.val * 80 + h.val) * 64 + p.val) * 128 + d.val) / 655360 = b.val; omega
  | ⟨1, _⟩ => show (((b.val * 80 + h.val) * 64 + p.val) * 128 + d.val) % 128 = d.val; omega
  | ⟨2, _⟩ => show (((b.val * 80 + h.val) * 64 + p.val) * 128 + d.val) / 128 % 5120 = 64 * h.val + p.val; omega

/-- The largest magnitude of a head, over its rows and columns at once. -/
theorem headMax_apply (b : Fin 2) (h : Fin 80) : val_main_v3 (F := Ideal) x0 (ix2 b h) = headMax (st x0 b h) := by
  unfold val_main_v3
  rw [Host.reduce_eq_fold]
  refine eq_of_forall_ge_iff fun x => ?_
  rw [headMax_le]
  refine (Finset.fold_max_le x).trans ?_
  have hb : (val_main_cst (F := Ideal)) (Shape.Idx.first Gen.h_S_) ≤ x := le_of_eq_of_le bottom bot_le
  refine ⟨fun hx p d => ?_, fun hx => ⟨hb, fun i hi => ?_⟩⟩
  · have := hx.2 (at4 b h p d) (Finset.mem_filter.2 ⟨Finset.mem_univ _, funext fun a => Fin.ext (match a with | ⟨0, _⟩ => rfl | ⟨1, _⟩ => rfl)⟩)
    rw [val_main_v2_apply, state_apply] at this
    exact this
  · obtain ⟨_, hi⟩ := Finset.mem_filter.1 hi
    obtain ⟨b', h', p, d, rfl⟩ : ∃ b' h' p d, i = at4 b' h' p d := ⟨_, _, _, _, eq_at4 i⟩
    obtain rfl : b' = b := congrFun hi 0
    obtain rfl : h' = h := congrFun hi 1
    rw [val_main_v2_apply, state_apply]
    exact hx p d

/-- It times the mask. -/
theorem masked_apply (b : Fin 2) (h : Fin 80) (j : Fin 4) : val_main_v8 (F := Ideal) x0 x1 (ix3 b h j) = headMax (st x0 b h) * mk x1 h j := by
  rw [val_main_v8_apply, val_main_v6_apply, val_main_v4_apply, val_main_v7_apply, val_main_v5_apply]
  rw [show idx_main_v4 (idx_main_v6 (ix3 b h j)) = ix2 b h from eq_ix2 _, headMax_apply]
  rw [show idx_main_v5 (idx_main_v7 (ix3 b h j)) = ix2 h j from eq_ix2 _]
  generalize headMax (st x0 b h) = u
  rfl

theorem classMax_apply (b : Fin 2) (j : Fin 4) : val_main_v9 (F := Ideal) x0 x1 (ix2 b j) = classMax (st x0 b) (mk x1) j := by
  unfold val_main_v9
  rw [Host.reduce_eq_fold]
  refine eq_of_forall_ge_iff fun x => ?_
  unfold classMax
  rw [top_le]
  refine (Finset.fold_max_le x).trans ?_
  have hb : (val_main_cst_0 (F := Ideal)) (Shape.Idx.first Gen.h_S_) ≤ x := le_of_eq_of_le bottom bot_le
  refine ⟨fun hx h => ?_, fun hx => ⟨hb, fun i hi => ?_⟩⟩
  · have := hx.2 (ix3 b h j) (Finset.mem_filter.2 ⟨Finset.mem_univ _, funext fun a => Fin.ext (match a with | ⟨0, _⟩ => rfl | ⟨1, _⟩ => rfl)⟩)
    rw [masked_apply] at this
    exact this
  · obtain ⟨_, hi⟩ := Finset.mem_filter.1 hi
    obtain ⟨b', h, j', rfl⟩ : ∃ b' h j', i = ix3 (n0 := 2) (n1 := 80) (n2 := 4) b' h j' := ⟨_, _, _, eq_ix3 i⟩
    obtain rfl : b' = b := congrFun hi 0
    obtain rfl : j' = j := congrFun hi 1
    rw [masked_apply]
    exact hx h

theorem scale_apply (b : Fin 2) (j : Fin 4) : val_main_v14 (F := Ideal) x0 x1 (ix2 b j) = scales (st x0 b) (mk x1) j := by
  rw [val_main_v14_apply, val_main_v11_apply, val_main_v13_apply, classMax_apply, val_main_v10_apply, val_main_v12_apply, val_main_call0_v1_apply, val_main_call0_v0_apply,
    val_main_cst_1_apply, val_main_cst_2_apply, val_main_cst_3_apply]
  unfold scales
  generalize classMax (st x0 b) (mk x1) j = m
  rfl

/-- The second result: the classes' scales. -/
theorem scales_apply (b : Fin 2) (j : Fin 4) : val_main_v28 (F := Ideal) x0 x1 (ix3 b 0 j) = scales (st x0 b) (mk x1) j := by
  rw [val_main_v28_apply, ← scale_apply]
  refine congrArg _ (funext fun a => Fin.ext ?_)
  match a with
  | ⟨0, _⟩ => show ((b.val * 1 + 0) * 4 + j.val) / 4 = b.val; omega
  | ⟨1, _⟩ => show ((b.val * 1 + 0) * 4 + j.val) % 4 = j.val; omega

theorem headScale_apply (b : Fin 2) (h : Fin 80) :
    val_main_v20 (F := Ideal) x0 x1 (ix2 b h) = headScale (mk x1 h) (scales (st x0 b) (mk x1)) := by
  rw [val_main_v20_apply, val_main_cst_4_apply]
  refine (congrArg (· + _) Ideal.ofBits_zero_f32).trans ((zero_add _).trans (Finset.sum_congr rfl fun j _ => ?_))
  rw [show idx_main_v20 (ix2 b h) j = ix3 b h j from eq_ix3 _, val_main_v19_apply, val_main_v17_apply, val_main_v15_apply, val_main_v18_apply, val_main_v16_apply]
  rw [show idx_main_v15 (idx_main_v17 (ix3 b h j)) = ix2 h j from eq_ix2 _, show idx_main_v16 (idx_main_v18 (ix3 b h j)) = ix2 b j from eq_ix2 _, scale_apply]
  rfl

/-- The first result: the codes. -/
theorem codes_apply (b : Fin 2) (h : Fin 80) (p : Fin 64) (d : Fin 128) :
    val_main_v27 (F := Ideal) x0 x1 (at4 b h p d) = codes (st x0 b) (mk x1) h p d := by
  rw [val_main_v27_apply, val_main_v26_apply, val_main_v25_apply, val_main_call2_v4_apply, val_main_call2_v3_apply, val_main_call2_v2_apply,
    val_main_call2_v1_apply, val_main_call2_v0_apply, val_main_v24_apply, val_main_v23_apply, state_apply, val_main_v22_apply, val_main_v21_apply,
    val_main_c_apply, val_main_c_5_apply]
  rw [show idx_main_v21 (idx_main_v22 (at4 b h p d)) = ix2 b h from eq_ix2 _, headScale_apply]
  unfold codes
  generalize headScale (mk x1 h) (scales (st x0 b) (mk x1)) = c
  exact W4.narrow _

end Cert.StateRefValue

end
-- ==== Proof.StateValue.lean ====
/- The state quantiser: the kernel's two result arrays are the reference's, at every index. -/
module

public import proofs.«01_k».proof.Proof.StateOut
public import proofs.«01_k».proof.Proof.StateRef
public import proofs.«01_k».proof.Proof.Gen.StateRefIdeal.Run
public import proofs.«01_k».proof.Defs
public import Idealize.ShloMosaic.Lib.Pipeline.ValueKit.Geometry

@[expose] public section

set_option maxRecDepth 16384

noncomputable section

namespace Cert.StateValue

open Cert.StateQuantIdeal Cert.StateQuantIdeal.Gen Idealize.ShloMosaic Idealize.ShloMosaic.TcCoe Idealize.SL.Sem
open Idealize.ShloMosaic.ValueIdx Cert.State

variable (m : (ℓ : Loc nD τ sig) → Buf (Elt Ideal) ℓ)

/-- Where each window's block lies at grid point `t`: batch `t`, and the whole mask. -/
theorem index0 : ∀ t : Fin grid0.N, win0_0.index t 0 = t.val ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 ∧ win0_2.index t 2 = 0 ∧ win0_2.index t 3 = 0 := by decide +kernel
theorem index3 : ∀ t : Fin grid0.N, win0_3.index t 0 = t.val ∧ win0_3.index t 1 = 0 ∧ win0_3.index t 2 = 0 := by decide +kernel

/-- The state's block is batch `t`. -/
theorem state (c : Dev nD) (t : Fin cfg0.N) (d : Fin 128) (r : Fin 5120) (b : Fin 2) (hb : b.val = t.val) :
    iblk m c 0 t (ix3 0 d r) = m ((c : Thread nD τ).loc main_arg0) (ix3 b d r) := by
  rw [← V_main_arg0 m c]
  unfold iblk
  refine congrArg (V m c main_arg0) (funext fun a => Fin.ext ?_)
  blk_simp
  match a with
  | ⟨0, _⟩ => show win0_0.index t 0 * 1 + 0 = b.val; rw [(index0 t).1]; omega
  | ⟨1, _⟩ => show win0_0.index t 1 * 128 + d.val = d.val; rw [(index0 t).2.1]; omega
  | ⟨2, _⟩ => show win0_0.index t 2 * 5120 + r.val = r.val; rw [(index0 t).2.2]; omega

/-- The mask's block is the whole mask. -/
theorem mask (c : Dev nD) (t : Fin cfg0.N) (h : Fin 80) (j : Fin 4) :
    iblk m c 1 t (ix2 h j) = m ((c : Thread nD τ).loc main_arg1) (ix2 h j) := by
  rw [← V_main_arg1 m c]
  unfold iblk
  refine congrArg (V m c main_arg1) (funext fun a => Fin.ext ?_)
  blk_simp
  match a with
  | ⟨0, _⟩ => show win0_1.index t 0 * 80 + h.val = h.val; rw [(index1 t).1]; omega
  | ⟨1, _⟩ => show win0_1.index t 1 * 4 + j.val = j.val; rw [(index1 t).2]; omega

theorem state_eq (c : Dev nD) (t : Fin cfg0.N) (b : Fin 2) (hb : b.val = t.val) :
    StateVals.st (iblk m c 0 t) = StateRefValue.st (m ((c : Thread nD τ).loc main_arg0)) b :=
  congrArg heads (funext fun d => funext fun r => state m c t d r b hb)

theorem mask_eq (c : Dev nD) (t : Fin cfg0.N) :
    (fun (h : Fin 80) (j : Fin 4) => (iblk m c 1 t : Vec Ideal S80x4 .f32) (ix2 h j)) = StateRefValue.mk (m ((c : Thread nD τ).loc main_arg1)) :=
  funext fun h => funext fun j => mask m c t h j

/-- The codes after the kernel are the reference's. -/
theorem codes (c : Dev nD) :
    (dats m 0 c).arrAt 2 cfg0.N = Cert.StateRefIdeal.Read.val_main_v27 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [StateOut.out2]
  have ht : t.val < 2 := t.isLt
  obtain ⟨h, h1⟩ : ∃ h : Fin 80, y 1 = h := ⟨_, rfl⟩
  obtain ⟨p, h2⟩ : ∃ p : Fin 64, y 2 = p := ⟨_, rfl⟩
  obtain ⟨d, h3⟩ : ∃ d : Fin 128, y 3 = d := ⟨_, rfl⟩
  have h0 : (y 0).val = 0 := by have : (y 0).val < 1 := (y 0).isLt; omega
  have hi : ((cfg0.win 2).blk t).view.emb y = StateRefValue.at4 ⟨t.val, ht⟩ h p d := by
    refine funext fun a => Fin.ext ?_
    blk_simp
    match a with
    | ⟨0, _⟩ => show win0_2.index t 0 * 1 + (y 0).val = t.val; rw [(index2 t).1, h0]; omega
    | ⟨1, _⟩ => show win0_2.index t 1 * 80 + (y 1).val = h.val; rw [(index2 t).2.1, ← h1]; omega
    | ⟨2, _⟩ => show win0_2.index t 2 * 64 + (y 2).val = p.val; rw [(index2 t).2.2.1, ← h2]; omega
    | ⟨3, _⟩ => show win0_2.index t 3 * 128 + (y 3).val = d.val; rw [(index2 t).2.2.2, ← h3]; omega
  refine Eq.trans ?_ (congrArg _ hi.symm)
  rw [StateRefValue.codes_apply]
  refine (congr (congr (congrArg (StateOut.codesAt (iblk m c 0 t) (iblk m c 1 t)) h1) h2) h3).trans ?_
  unfold StateOut.codesAt
  rw [state_eq m c t ⟨t.val, ht⟩ rfl, mask_eq m c t]

/-- The scales after the kernel are the reference's. -/
theorem scales (c : Dev nD) :
    (dats m 0 c).arrAt 3 cfg0.N = Cert.StateRefIdeal.Read.val_main_v28 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  rw [StateOut.out3]
  have ht : t.val < 2 := t.isLt
  obtain ⟨u, v, j, rfl⟩ : ∃ u v j, y = ix3 (n0 := 1) (n1 := 1) (n2 := 4) u v j := ⟨_, _, _, eq_ix3 y⟩
  obtain rfl : u = 0 := Subsingleton.elim _ _
  obtain rfl : v = 0 := Subsingleton.elim _ _
  have hi : ((cfg0.win 3).blk t).view.emb (ix3 0 0 j) = ix3 (n0 := 2) (n1 := 1) (n2 := 4) ⟨t.val, ht⟩ 0 j := by
    refine funext fun a => Fin.ext ?_
    blk_simp
    match a with
    | ⟨0, _⟩ => show win0_3.index t 0 * 1 + 0 = t.val; rw [(index3 t).1]; omega
    | ⟨1, _⟩ => show win0_3.index t 1 * 1 + 0 = 0; rw [(index3 t).2.1]
    | ⟨2, _⟩ => show win0_3.index t 2 * 4 + j.val = j.val; rw [(index3 t).2.2]; omega
  refine Eq.trans ?_ (congrArg _ hi.symm)
  rw [StateRefValue.scales_apply]
  show StateOut.scalesAt (iblk m c 0 t) (iblk m c 1 t) j = _
  unfold StateOut.scalesAt
  rw [state_eq m c t ⟨t.val, ht⟩ rfl, mask_eq m c t]

/-- The claim: on memories that agree on the arguments, the kernel and the reference end with the same results. -/
theorem algebraic : Cert.algebraic_StateQuantIdeal_StateRefIdeal := by
  intro m g m' g' _ hagree
  refine ⟨fun c => (dats m 0 c).arrAt 2 cfg0.N, fun c => (dats m 0 c).arrAt 3 cfg0.N, Cert.StateQuantIdeal.Value.run_blocks m g, ?_⟩
  refine (θ_run _ _ _).mono (fun r h c => ⟨(h c).1.trans ?_, (h c).2.1.trans ?_, (h c).2.2⟩) (Cert.StateRefIdeal.Value.run m' g')
  · rw [Cert.StateRefIdeal.Read.val_main_v27_eq, (hagree c).1, (hagree c).2]
    exact (codes m c).symm
  · rw [Cert.StateRefIdeal.Read.val_main_v28_eq, (hagree c).1, (hagree c).2]
    exact (scales m c).symm

end Cert.StateValue

end
-- ==== Proof.ResValue.lean ====
/- The residual sum of the first call: the kernel's sum of the input, widened, and the residual is the reference's,
   at every index, whatever the float operations are. -/
module

public import proofs.«01_k».proof.Proof.Gen.NormRotate.Value
public import proofs.«01_k».proof.Proof.Gen.ResRef.Run
public import proofs.«01_k».proof.Defs
public import Idealize.ShloMosaic.Lib.Pipeline.ValueKit.Geometry
public import Idealize.ShloMosaic.Lib.ValueIdx

@[expose] public section

noncomputable section

namespace Cert.ResValue

open Cert.NormRotate Cert.NormRotate.Gen Idealize.ShloMosaic Idealize.ShloMosaic.TcCoe Idealize.SL.Sem
open Idealize.ShloMosaic.ValueIdx

variable {F : FTy → Type} [BitOps F]

/-- The first output block: the widened input block plus the residual block. -/
theorem out_eq (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole)
    (x0 : Vec F S256x2560 .bf16) (x1 : Vec F S256x2560 .f32) (x2 : Vec F S1x2560 .f32) (x3 : Vec F S256x256 .bf16) (x4 : Vec F S80x160 .bf16) (x5 : Vec F S80x160 .bf16) :
    out0_A_6 c i arg1 harg1 arg2 harg2 arg3 harg3 arg4 harg4 arg5 harg5 arg6 harg6 arg7 harg7 arg8 harg8 arg9 harg9 arg10 harg10 x0 x1 x2 x3 x4 x5 = addf (extf .f32 x0 bitsLt_bf16_f32) x1 := by
  unfold out0_A_6
  rw [View.read_writes_junk_eq_canon]
  unfold kernelRun0_A
  dsimp only
  sl_unfold_words
  simp only [View.readAt_eq_ld, harg1.read_unread, harg2.read_unread]
  rw [View.canon_unit_zero (by funext a; fin_cases a <;> rfl)]
  rw [View.ld_unit_zero (by funext a; fin_cases a <;> rfl), View.ld_unit_zero (by funext a; fin_cases a <;> rfl)]
  rfl

/-- Where the blocks of the two inputs and of the sum lie at grid point `t`: the rows `256 t` and on. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index6 : ∀ t : Fin grid0.N, win0_6.index t 0 = t.val ∧ win0_6.index t 1 = 0 := by decide +kernel

variable (m : (ℓ : Loc nD τ sig) → Buf (Elt F) ℓ)

/-- The input's block is its rows `256 t` and on. -/
theorem input (c : Dev nD) (t : Fin cfg0.N) (i : Fin 256) (k : Fin 2560) (i' : Fin 2048) (hi : i'.val = 256 * t.val + i.val) :
    iblk m c 0 t (ix2 i k) = m ((c : Thread nD τ).loc main_arg0) (ix2 i' k) := by
  unfold iblk
  rw [← V_main_arg0 m c]
  refine congrArg (V m c main_arg0) (funext fun a => Fin.ext ?_)
  blk_simp
  match a with
  | ⟨0, _⟩ => show win0_0.index t 0 * 256 + i.val = i'.val; rw [(index0 t).1]; omega
  | ⟨1, _⟩ => show win0_0.index t 1 * 2560 + k.val = k.val; rw [(index0 t).2]; omega

/-- The residual's block is its rows `256 t` and on. -/
theorem residual (c : Dev nD) (t : Fin cfg0.N) (i : Fin 256) (k : Fin 2560) (i' : Fin 2048) (hi : i'.val = 256 * t.val + i.val) :
    iblk m c 1 t (ix2 i k) = m ((c : Thread nD τ).loc main_arg1) (ix2 i' k) := by
  unfold iblk
  rw [← V_main_arg1 m c]
  refine congrArg (V m c main_arg1) (funext fun a => Fin.ext ?_)
  blk_simp
  match a with
  | ⟨0, _⟩ => show win0_1.index t 0 * 256 + i.val = i'.val; rw [(index1 t).1]; omega
  | ⟨1, _⟩ => show win0_1.index t 1 * 2560 + k.val = k.val; rw [(index1 t).2]; omega

/-- The sum's array after the kernel is the reference's result on the same arguments. -/
theorem result (c : Dev nD) :
    (dats m 0 c).arrAt 6 cfg0.N = addf (extf .f32 (m ((c : Thread nD τ).loc main_arg0)) bitsLt_bf16_f32) (m ((c : Thread nD τ).loc main_arg1)) := by
  refine (dats m 0 c).arrAt_eq_of_covers 6 _ (by decide +kernel) fun t hf y => ?_
  blk_simp
  rw [after0_6]
  unfold outsAt0
  rw [out_eq]
  obtain ⟨i, q, rfl⟩ : ∃ i q, y = ix2 (n0 := 256) (n1 := 2560) i q := ⟨_, _, eq_ix2 y⟩
  have ht : t.val < 8 := t.isLt
  have hi : ((cfg0.win 6).blk t).view.emb (ix2 i q) = ix2 (n0 := 2048) (n1 := 2560) ⟨256 * t.val + i.val, by omega⟩ q := by
    refine funext fun b => Fin.ext ?_
    blk_simp
    match b with
    | ⟨0, _⟩ => show win0_6.index t 0 * 256 + i.val = 256 * t.val + i.val; rw [(index6 t).1]; omega
    | ⟨1, _⟩ => show win0_6.index t 1 * 2560 + q.val = q.val; rw [(index6 t).2]; omega
  refine Eq.trans ?_ (congrArg _ hi.symm)
  exact congrArg₂ FloatOps.addf (congrArg (FloatOps.extf .f32 bitsLt_bf16_f32) (input m c t i q _ rfl)) (residual m c t i q _ rfl)

/-- The claim: on memories that agree on the arguments, the kernel and the reference end with the same sum, bit for bit. -/
theorem bitexact : Cert.bitexact_NormRotate_ResRef := by
  intro m g m' g' _ hagree
  refine ⟨fun c => (dats m 0 c).arrAt 6 cfg0.N, ?_, ?_⟩
  · exact (θ_run _ _ _).mono (fun r h c => ⟨(h c).1, (h c).2.2⟩) (Cert.NormRotate.Value.run_blocks m g)
  · refine (θ_run _ _ _).mono (fun r h c => ⟨(h c).1.trans ?_, (h c).2⟩) (Cert.ResRef.Value.run m' g')
    rw [(hagree c).1, (hagree c).2.1]
    exact (result m c).symm

end Cert.ResValue

end
-- ==== Proof.RotBlock.lean ====
/- The norm-and-rotate kernel, one grid point: what the point leaves in its second output block, as a function of
   the blocks it reads. The kernel keeps the residual sum in its first output block, multiplies ten pairs of 128
   normalised columns by the block-diagonal 128-point matrix and stores each head's 128 columns into every
   twentieth row of a buffer `T`; a loop of 32 trips multiplies each 80 rows of `T` by the block-diagonal
   20-point matrix into a second buffer `R`; every twentieth row of `R` is one head's columns of the output. -/
module

public import proofs.«01_k».proof.Proof.Gen.RotateIdeal.Value
public import proofs.«01_k».proof.Proof.Sums
public import Idealize.ShloMosaic.Lib.Pipeline.ValueKit.Tiles

@[expose] public section

set_option maxRecDepth 16384

noncomputable section

namespace Cert.RotBlock

open Cert.RotateIdeal Cert.RotateIdeal.Gen Idealize.ShloMosaic Idealize.ShloMosaic.TcCoe Idealize.SL Idealize.SL.Sem
open Idealize.ShloMosaic.ValueIdx Cert.W4
open scoped BigOperators

variable {F : FTy → Type} [FloatOps F]

/-- The product of a pair of normalised slabs (columns `256 p` and on) with the block-diagonal matrix. -/
abbrev pair (x0 : Vec F S256x2560 .bf16) (x1 : Vec F S256x2560 .f32) (x2 : Vec F S1x2560 .f32) (x3 : Vec F S256x256 .bf16) (p : Nat) (hp : p < 10) : FVec F S256x256 .f32 :=
  k0_pay20 (k0_pay15 x0 x1)
    (View.ld (k0_pay14 x0 x1) (Rect.unit (s := S256x2560) ![0, 256 * p] S256x256.size (fun a => match a with
      | ⟨0, _⟩ => by show 0 + 256 ≤ 256; omega
      | ⟨1, _⟩ => by show 256 * p + 256 ≤ 2560; omega)))
    (View.ld x2 (Rect.unit (s := S1x2560) ![0, 256 * p] S1x256.size (fun a => match a with
      | ⟨0, _⟩ => by show 0 + 1 ≤ 1; omega
      | ⟨1, _⟩ => by show 256 * p + 256 ≤ 2560; omega))) x3

/-- A box of every twentieth row of a buffer, from row `k`. -/
abbrev comb (k : Nat) (hk : k < 20) : Rect S5120x128 :=
  ⟨⟨![k, 0], S256x128.size, ![20, 1], fun a => match a with
      | ⟨0, _⟩ => Or.inr (by show k + 20 * (256 - 1) < 5120; omega)
      | ⟨1, _⟩ => Or.inr (by show 0 + 1 * (128 - 1) < 128; omega)⟩, spos_20_1⟩

theorem half_slices (k : Nat) : S256x256.Slices ![0, 128 * (k % 2)] S256x128 :=
  ⟨rfl, fun a => match a with
      | ⟨0, _⟩ => by show 0 + 256 ≤ 256; omega
      | ⟨1, _⟩ => by show 128 * (k % 2) + 128 ≤ 256; omega⟩

/-- Head `k`'s 128 columns of its pair. -/
abbrev half (x0 : Vec F S256x2560 .bf16) (x1 : Vec F S256x2560 .f32) (x2 : Vec F S1x2560 .f32) (x3 : Vec F S256x256 .bf16) (k : Nat) (hk : k < 20) : FVec F S256x128 .f32 :=
  extractStridedSlice S256x128 ![0, 128 * (k % 2)] (pair x0 x1 x2 x3 (k / 2) (by omega)) (half_slices k)

/-- The store of head `k`. -/
abbrev slab (x0 : Vec F S256x2560 .bf16) (x1 : Vec F S256x2560 .f32) (x2 : Vec F S1x2560 .f32) (x3 : Vec F S256x256 .bf16) (k : Nat) (hk : k < 20) : View.Piece (Elt F) S5120x128 .f32 :=
  ⟨comb k hk, half x0 x1 x2 x3 k hk⟩

/-- The first buffer's stores, last first. -/
abbrev slabs (x0 : Vec F S256x2560 .bf16) (x1 : Vec F S256x2560 .f32) (x2 : Vec F S1x2560 .f32) (x3 : Vec F S256x256 .bf16) : List (View.Piece (Elt F) S5120x128 .f32) :=
  [slab x0 x1 x2 x3 19 (by omega), slab x0 x1 x2 x3 18 (by omega), slab x0 x1 x2 x3 17 (by omega), slab x0 x1 x2 x3 16 (by omega), slab x0 x1 x2 x3 15 (by omega), slab x0 x1 x2 x3 14 (by omega), slab x0 x1 x2 x3 13 (by omega), slab x0 x1 x2 x3 12 (by omega), slab x0 x1 x2 x3 11 (by omega), slab x0 x1 x2 x3 10 (by omega), slab x0 x1 x2 x3 9 (by omega), slab x0 x1 x2 x3 8 (by omega), slab x0 x1 x2 x3 7 (by omega), slab x0 x1 x2 x3 6 (by omega), slab x0 x1 x2 x3 5 (by omega), slab x0 x1 x2 x3 4 (by omega), slab x0 x1 x2 x3 3 (by omega), slab x0 x1 x2 x3 2 (by omega), slab x0 x1 x2 x3 1 (by omega), slab x0 x1 x2 x3 0 (by omega)]

/-- The two stores of one trip: rows `160 k` and on, eighty and eighty. -/
abbrev low (x4 x5 : Vec F S80x160 .bf16) (T : Vec F S5120x128 .f32) (k : Fin k0_t1_loop.trips) : View.Piece (Elt F) S5120x128 .f32 :=
  ⟨Rect.unit (s := S5120x128) (k0_off2 k 0#32) S80x128.size (k0_off2_inb k 0), k0_pay11 (View.ld T (Rect.unit (s := S5120x128) (k0_off1 k) S160x128.size (k0_off1_inb k))) x4 x5⟩
abbrev high (x4 x5 : Vec F S80x160 .bf16) (T : Vec F S5120x128 .f32) (k : Fin k0_t1_loop.trips) : View.Piece (Elt F) S5120x128 .f32 :=
  ⟨Rect.unit (s := S5120x128) (k0_off2 k 80#32) S80x128.size (k0_off2_inb k 1),
    k0_pay61 (k0_pay12 (View.ld T (Rect.unit (s := S5120x128) (k0_off1 k) S160x128.size (k0_off1_inb k))) x4) (k0_pay13 (View.ld T (Rect.unit (s := S5120x128) (k0_off1 k) S160x128.size (k0_off1_inb k))) x5)⟩

/-- The second buffer after `n` trips, last store first. -/
def trips (x4 x5 : Vec F S80x160 .bf16) (T : Vec F S5120x128 .f32) : Nat → List (View.Piece (Elt F) S5120x128 .f32)
  | 0 => []
  | n + 1 => if h : n < k0_t1_loop.trips then high x4 x5 T ⟨n, h⟩ :: low x4 x5 T ⟨n, h⟩ :: trips x4 x5 T n else []

theorem trips_succ (x4 x5 : Vec F S80x160 .bf16) (T : Vec F S5120x128 .f32) (n : Nat) (h : n < k0_t1_loop.trips) :
    trips x4 x5 T (n + 1) = high x4 x5 T ⟨n, h⟩ :: low x4 x5 T ⟨n, h⟩ :: trips x4 x5 T n := dif_pos h

/-- One head's columns of the output, from every twentieth row of the second buffer. -/
abbrev head (R : Vec F S5120x128 .f32) (e : Nat) (he : e < 20) : View.Piece (Elt F) S256x2560 .bf16 :=
  ⟨Rect.unit (s := S256x2560) ![0, 128 * e] ![256, 128] (fun a => match a with
      | ⟨0, _⟩ => by show 0 + 256 ≤ 256; omega
      | ⟨1, _⟩ => by show 128 * e + 128 ≤ 2560; omega),
    truncf (s := S256x128) .bf16 (View.ld R (comb e he)) bitsLt_bf16_f32⟩

/-- A load of a box of what one store of a whole block left. -/
theorem load_sum (v : View sig .tc .vmem S256x2560 .f32) (inb) (X : Vec F S256x2560 .f32) (r : Rect S256x2560) :
    v.readCov [⟨Rect.unit (s := S256x2560) ![0, 0] ![256, 2560] inb, X⟩] r.toLoadRect = View.ld X r := by
  rw [View.readCov_eq_canon', View.canon_unit_zero (S := S256x2560) (by funext a; fin_cases a <;> rfl)]

theorem ld_x0 (X : Vec F S256x2560 .bf16) (inb) : View.ld X (Rect.unit (s := S256x2560) ![0, 0] ![256, 2560] inb) = X :=
  View.ld_unit_zero (S := S256x2560) (by funext a; fin_cases a <;> rfl) inb X
theorem ld_x1 (X : Vec F S256x2560 .f32) (inb) : View.ld X (Rect.unit (s := S256x2560) ![0, 0] ![256, 2560] inb) = X :=
  View.ld_unit_zero (S := S256x2560) (by funext a; fin_cases a <;> rfl) inb X
theorem ld_x3 (X : Vec F S256x256 .bf16) (inb) : View.ld X (Rect.unit (s := S256x256) ![0, 0] ![256, 256] inb) = X :=
  View.ld_unit_zero (S := S256x256) (by funext a; fin_cases a <;> rfl) inb X
theorem ld_x4 (X : Vec F S80x160 .bf16) (inb) : View.ld X (Rect.unit (s := S80x160) ![0, 0] ![80, 160] inb) = X :=
  View.ld_unit_zero (S := S80x160) (by funext a; fin_cases a <;> rfl) inb X
theorem cast_half (X : FVec F S256x128 .f32) (h) : shapeCast S256x128 X h = X := shapeCast_self X h

set_option maxHeartbeats 4000000 in
/-- The first buffer's stores are the twenty heads. -/
theorem stores_eq (c : Dev nD) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg7 : Memref sig .tc .vmem S256x2560 .f32)
    (x0 : Vec F S256x2560 .bf16) (x1 : Vec F S256x2560 .f32) (x2 : Vec F S1x2560 .f32) (x3 : Vec F S256x256 .bf16) :
    kernelRun0_A.sl.HS0_20 c arg1 harg1 arg2 harg2 arg3 harg3 arg4 harg4 arg7 x0 x1 x2 x3 = slabs x0 x1 x2 x3 := by
  sl_unfold_words
  simp only [View.readAt_eq_ld, harg1.read_unread, harg2.read_unread, harg3.read_unread, harg4.read_unread, load_sum, ld_x0, ld_x1, ld_x3]
  repeat (first | refine congrArg₂ List.cons ?_ ?_ | rfl | exact congrArg (Sigma.mk _) ((cast_half _ _).trans rfl))

/-- One trip of the loop leaves its two stores. -/
theorem trip_eq (𝒱) (bd) (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole)
    (v12 v274 v275) (x4 x5 : Vec F S80x160 .bf16) (X9) (k) :
    tripL_k0_t1 (F := F) 𝒱 c bd i arg1 harg1 arg2 harg2 arg3 harg3 arg4 harg4 arg5 harg5 arg6 harg6 arg7 harg7 arg8 harg8 arg9 harg9 arg10 harg10 v12 v274 v275 (harg5.unread x4) (harg6.unread x5) X9 k
      = [high x4 x5 (arg9.view.read (Elt F) X9) k, low x4 x5 (arg9.view.read (Elt F) X9) k] := by
  unfold tripL_k0_t1 trip_k0_t1
  dsimp only
  sl_unfold_words
  simp only [View.readAt_eq_ld, harg5.read_unread, harg6.read_unread, ld_x4]
  rfl

/-- So the trips before trip `n` leave the stores listed. -/
theorem trips_eq (𝒱) (bd) (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole)
    (v12 v274 v275) (x4 x5 : Vec F S80x160 .bf16) (X9) (n : Nat) (hn : n ≤ k0_t1_loop.trips) :
    pb_k0_t1 (F := F) 𝒱 c bd i arg1 harg1 arg2 harg2 arg3 harg3 arg4 harg4 arg5 harg5 arg6 harg6 arg7 harg7 arg8 harg8 arg9 harg9 arg10 harg10 v12 v274 v275 (harg5.unread x4) (harg6.unread x5) X9 n
      = trips x4 x5 (arg9.view.read (Elt F) X9) n := by
  induction n with
  | zero => rfl
  | succ n ih =>
    rw [show n + 1 = (⟨n, hn⟩ : Fin k0_t1_loop.trips).val + 1 from rfl, pb_k0_t1_succ, trip_eq, ih (by omega)]
    exact (trips_succ x4 x5 _ n hn).symm

set_option maxHeartbeats 4000000 in
/-- The output block is the twenty heads, last first, over the buffer the trips leave. -/
theorem out_eq (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole)
    (x0 : Vec F S256x2560 .bf16) (x1 : Vec F S256x2560 .f32) (x2 : Vec F S1x2560 .f32) (x3 : Vec F S256x256 .bf16) (x4 x5 : Vec F S80x160 .bf16) (R : Vec F S5120x128 .f32)
    (hR : R = View.canon (trips x4 x5 (View.canon (slabs x0 x1 x2 x3)) 32)) :
    out0_A_7 c i arg1 harg1 arg2 harg2 arg3 harg3 arg4 harg4 arg5 harg5 arg6 harg6 arg7 harg7 arg8 harg8 arg9 harg9 arg10 harg10 x0 x1 x2 x3 x4 x5
      = View.canon [head R 19 (by omega), head R 18 (by omega), head R 17 (by omega), head R 16 (by omega), head R 15 (by omega), head R 14 (by omega), head R 13 (by omega), head R 12 (by omega), head R 11 (by omega), head R 10 (by omega), head R 9 (by omega), head R 8 (by omega), head R 7 (by omega), head R 6 (by omega), head R 5 (by omega), head R 4 (by omega), head R 3 (by omega), head R 2 (by omega), head R 1 (by omega), head R 0 (by omega)] := by
  unfold out0_A_7
  rw [View.read_writes_junk_eq_canon]
  unfold kernelRun0_A
  dsimp only
  unfold kernelRun0_A.sl.r_15
  rw [stores_eq, show Scf.trips 0#32 (Scalar.addi 0#32 32#32) 1#32 = 32 by decide, trips_eq _ _ _ _ _ _ _ _ _ _ _ _ _ _ _ _ _ _ _ _ _ _ _ _ _ _ _ _ _ _ _ (by decide), View.read_writes_junk_eq_canon]
  simp only [View.readCov_eq_canon', ← hR]
  refine congrArg View.canon ?_
  repeat (first | refine congrArg₂ List.cons ?_ ?_ | rfl)

end Cert.RotBlock

end
-- ==== Proof.RotTrip.lean ====
/- The products of the norm-and-rotate kernel at exact arithmetic. A number split into a rounded part and rests by
   casts is itself and zeros when it is real, so each product of a split is the one product of the number. -/
module

public import proofs.«01_k».proof.Proof.Gen.RotateIdeal.Value
public import proofs.«01_k».proof.Proof.Sums

@[expose] public section

set_option maxRecDepth 16384

noncomputable section

namespace Cert.RotBlock

open Cert.RotateIdeal Cert.RotateIdeal.Gen Idealize.ShloMosaic Idealize.ShloMosaic.TcCoe
open Idealize.ShloMosaic.ValueIdx Cert.W4
open scoped BigOperators

/-- A number is real: not an infinity. -/
abbrev IsReal (x : EReal) : Prop := ∃ r : ℝ, x = (r : EReal)

theorem sub_self_of_real {x : EReal} (h : IsReal x) : x - x = 0 := by
  obtain ⟨r, rfl⟩ := h
  rw [← EReal.coe_sub, sub_self, EReal.coe_zero]

/-- A matrix product over zeros. -/
theorem matmul_zero {M K N : ℕ} {φ₁ φ₂ : FTy} (rhs : FVec Ideal ⟨2, ![K, N]⟩ φ₂) (lhs : FVec Ideal ⟨2, ![M, K]⟩ φ₁) (acc : FVec Ideal ⟨2, ![M, N]⟩ .f32)
    (r : Fin M) (q : Fin N) (ha : acc (ix2 r q) = 0) (hz : ∀ k, lhs (ix2 r k) * rhs (ix2 k q) = (0 : EReal)) :
    matmul (DotDims.plain M K N) none lhs rhs acc (ix2 r q) = 0 := by
  refine (Ideal.matmul_plain_apply none _ _ _ r q).trans ?_
  rw [ha, zero_add]
  exact Finset.sum_eq_zero fun k _ => hz k

theorem constant_zero (s : Shape) (i : s.Idx) : (constant (F := Ideal) s .f32 0x00000000#32) i = 0 := Ideal.ofBits_zero_f32

/-- A slice of a matrix, at an index. -/
theorem slice2 {α : Type} {M N m n o p : Nat} (x : (⟨2, ![M, N]⟩ : Shape).Idx → α) (h : (⟨2, ![M, N]⟩ : Shape).Slices ![o, p] ⟨2, ![m, n]⟩)
    (r : Fin m) (c : Fin n) (r' : Fin M) (c' : Fin N) (hr : r'.val = o + r.val) (hc : c'.val = p + c.val) :
    extractStridedSlice ⟨2, ![m, n]⟩ ![o, p] x h (ix2 r c) = x (ix2 r' c') :=
  extractStridedSlice_apply _ _ _ _ _ fun a => match a with
    | ⟨0, _⟩ => hr
    | ⟨1, _⟩ => hc

/-- Two matrices side by side, at an index of the left one and of the right one. -/
theorem cat_left {α : Type} {M N₁ N₂ N : Nat} (x : (⟨2, ![M, N₁]⟩ : Shape).Idx → α) (y : (⟨2, ![M, N₂]⟩ : Shape).Idx → α)
    (h : Shape.Concatenates [⟨2, ![M, N₁]⟩, ⟨2, ![M, N₂]⟩] ⟨2, ![M, N]⟩ 1) (r : Fin M) (c : Fin N) (c' : Fin N₁) (hc : c'.val = c.val) :
    concatenate ⟨2, ![M, N]⟩ 1 [⟨⟨2, ![M, N₁]⟩, x⟩, ⟨⟨2, ![M, N₂]⟩, y⟩] h (ix2 r c) = x (ix2 r c') :=
  concatenate_pair_apply_left (t := ⟨2, ![M, N]⟩) (s₁ := ⟨2, ![M, N₁]⟩) (s₂ := ⟨2, ![M, N₂]⟩) 1 x y h (ix2 r c) rfl (ix2 r c') fun b => match b with
    | ⟨0, _⟩ => rfl
    | ⟨1, _⟩ => hc

theorem cat_right {α : Type} {M N₁ N₂ N : Nat} (x : (⟨2, ![M, N₁]⟩ : Shape).Idx → α) (y : (⟨2, ![M, N₂]⟩ : Shape).Idx → α)
    (h : Shape.Concatenates [⟨2, ![M, N₁]⟩, ⟨2, ![M, N₂]⟩] ⟨2, ![M, N]⟩ 1) (r : Fin M) (c : Fin N) (c' : Fin N₂) (hc : c'.val + N₁ = c.val) :
    concatenate ⟨2, ![M, N]⟩ 1 [⟨⟨2, ![M, N₁]⟩, x⟩, ⟨⟨2, ![M, N₂]⟩, y⟩] h (ix2 r c) = y (ix2 r c') :=
  concatenate_pair_apply_right (t := ⟨2, ![M, N]⟩) (s₁ := ⟨2, ![M, N₁]⟩) (s₂ := ⟨2, ![M, N₂]⟩) 1 x y h (ix2 r c) rfl rfl (ix2 r c') (fun b hb => match b with
    | ⟨0, _⟩ => rfl
    | ⟨1, _⟩ => absurd rfl hb) hc

/-- Two matrices one above the other, at an index of the upper one and of the lower one. -/
theorem cat_top {α : Type} {M₁ M₂ M N : Nat} (x : (⟨2, ![M₁, N]⟩ : Shape).Idx → α) (y : (⟨2, ![M₂, N]⟩ : Shape).Idx → α)
    (h : Shape.Concatenates [⟨2, ![M₁, N]⟩, ⟨2, ![M₂, N]⟩] ⟨2, ![M, N]⟩ 0) (r : Fin M) (c : Fin N) (r' : Fin M₁) (hr : r'.val = r.val) :
    concatenate ⟨2, ![M, N]⟩ 0 [⟨⟨2, ![M₁, N]⟩, x⟩, ⟨⟨2, ![M₂, N]⟩, y⟩] h (ix2 r c) = x (ix2 r' c) :=
  concatenate_pair_apply_left (t := ⟨2, ![M, N]⟩) (s₁ := ⟨2, ![M₁, N]⟩) (s₂ := ⟨2, ![M₂, N]⟩) 0 x y h (ix2 r c) rfl (ix2 r' c) fun b => match b with
    | ⟨0, _⟩ => hr
    | ⟨1, _⟩ => rfl

theorem cat_bottom {α : Type} {M₁ M₂ M N : Nat} (x : (⟨2, ![M₁, N]⟩ : Shape).Idx → α) (y : (⟨2, ![M₂, N]⟩ : Shape).Idx → α)
    (h : Shape.Concatenates [⟨2, ![M₁, N]⟩, ⟨2, ![M₂, N]⟩] ⟨2, ![M, N]⟩ 0) (r : Fin M) (c : Fin N) (r' : Fin M₂) (hr : r'.val + M₁ = r.val) :
    concatenate ⟨2, ![M, N]⟩ 0 [⟨⟨2, ![M₁, N]⟩, x⟩, ⟨⟨2, ![M₂, N]⟩, y⟩] h (ix2 r c) = y (ix2 r' c) :=
  concatenate_pair_apply_right (t := ⟨2, ![M, N]⟩) (s₁ := ⟨2, ![M₁, N]⟩) (s₂ := ⟨2, ![M₂, N]⟩) 0 x y h (ix2 r c) rfl rfl (ix2 r' c) (fun b hb => match b with
    | ⟨0, _⟩ => absurd rfl hb
    | ⟨1, _⟩ => rfl) hr

/-- A normalised, weighted column at exact arithmetic. -/
def scaled (den slab w : EReal) : EReal := Ideal.div slab den * w

/-- The product of a pair of slabs: the split makes no difference when every normalised value is real. -/
theorem pair_apply (v12 : FVec Ideal S256x1 .f32) (v43 : Vec Ideal S256x256 .f32) (v47 : Vec Ideal S1x256 .f32) (v58 : Vec Ideal S256x256 .bf16)
    (hr : ∀ (r : Fin 256) (k : Fin 256), IsReal (scaled (v12 (ix2 r 0)) (v43 (ix2 r k)) (v47 (ix2 0 k)))) (r q : Fin 256) :
    k0_pay20 v12 v43 v47 v58 (ix2 r q) = ∑ k : Fin 256, scaled (v12 (ix2 r 0)) (v43 (ix2 r k)) (v47 (ix2 0 k)) * v58 (ix2 k q) := by
  unfold k0_pay20
  simp only [shapeCast_self]
  have e : ∀ k : Fin 256, (mulf (divf v43 (broadcastTo S256x256 v12 broadcasts_S256x1_S256x256)) (broadcastTo S256x256 v47 broadcasts_S1x256_S256x256) : FVec Ideal S256x256 .f32) (ix2 r k)
      = scaled (v12 (ix2 r 0)) (v43 (ix2 r k)) (v47 (ix2 0 k)) := fun k => by
    unfold scaled
    refine congrArg₂ (fun a b => Ideal.div (v43 (ix2 r k)) a * b) (broadcastTo_apply _ _ _ _ fun a => ?_) (broadcastTo_apply _ _ _ _ fun a => ?_) <;> fin_cases a <;> rfl
  generalize (mulf (divf v43 (broadcastTo S256x256 v12 broadcasts_S256x1_S256x256)) (broadcastTo S256x256 v47 broadcasts_S1x256_S256x256) : FVec Ideal S256x256 .f32) = v at e
  have z : ∀ k : Fin 256, v (ix2 r k) - v (ix2 r k) = (0 : EReal) := fun k => sub_self_of_real (by rw [e]; exact hr r k)
  refine (congrArg₂ (· + ·) (congrArg₂ (· + ·) (Ideal.matmul_plain_apply none _ _ _ r q) (matmul_zero _ _ _ r q (constant_zero _ _) fun k => ?_)) (matmul_zero _ _ _ r q (constant_zero _ _) fun k => ?_)).trans ?_
  · show (v (ix2 r k) - v (ix2 r k)) * _ = (0 : EReal)
    rw [z, zero_mul]
  · show ((v (ix2 r k) - v (ix2 r k)) - (v (ix2 r k) - v (ix2 r k))) * _ = (0 : EReal)
    rw [z, sub_zero, zero_mul]
  · show (constant (F := Ideal) S256x256 .f32 0x00000000#32) (ix2 r q) + _ + 0 + 0 = _
    rw [constant_zero, zero_add, add_zero, add_zero]
    exact Finset.sum_congr rfl fun k _ => congrArg (· * v58 (ix2 k q)) (e k)

/-- A sum of 160 terms by halves. -/
theorem sum160 (f : Fin 160 → EReal) : ∑ k, f k = ∑ k : Fin 80, f ⟨k.val, by omega⟩ + ∑ k : Fin 80, f ⟨80 + k.val, by omega⟩ :=
  Fin.sum_univ_add (M := EReal) (a := 80) (b := 80) f

section Trip

variable (t : Vec Ideal S160x128 .f32) (l1 l2 : Vec Ideal S80x160 .bf16) (ht : ∀ m d, IsReal (t (ix2 m d)))
  (h1 : ∀ (i : Fin 80) (k : Fin 80), l1 (ix2 i ⟨80 + k.val, by omega⟩) = (0 : EReal))
  (h2 : ∀ (i : Fin 80) (k : Fin 80), l2 (ix2 i ⟨80 + k.val, by omega⟩) = (0 : EReal))

include ht in
theorem mid_zero (m : Fin 160) (d : Fin 128) : k0_pay8 t (ix2 m d) = (0 : EReal) := sub_self_of_real (ht m d)

include ht h2 in
/-- The product with the lowest part of the split is nought. -/
theorem low_zero (i : Fin 80) (q : Fin 256) : k0_pay10 t l2 (ix2 i q) = (0 : EReal) := by
  unfold k0_pay10
  rw [shapeCast_self]
  refine matmul_zero (M := 80) (K := 160) (N := 256) _ _ _ i q (constant_zero _ _) fun k => ?_
  by_cases hk : k.val < 80
  · have z : ∀ m d, (truncf .bf16 (subf (k0_pay7 t) (extf .f32 (k0_pay8 t) bitsLt_bf16_f32)) bitsLt_bf16_f32 : FVec Ideal S160x128 .bf16) (ix2 m d) = (0 : EReal) := fun m d => by
      show (t (ix2 m d) - t (ix2 m d)) - (t (ix2 m d) - t (ix2 m d)) = (0 : EReal)
      rw [sub_self_of_real (ht m d), sub_zero]
    refine (congrArg (l2 (ix2 i k) * ·) ?_).trans (mul_zero _)
    by_cases hq : q.val < 128
    · refine (cat_left _ _ _ k q ⟨q.val, hq⟩ rfl).trans ((cat_top _ _ _ k _ ⟨k.val, hk⟩ rfl).trans ?_)
      exact (slice2 (M := 160) (N := 128) (m := 80) (n := 128) _ _ ⟨k.val, hk⟩ ⟨q.val, hq⟩ ⟨k.val, by omega⟩ ⟨q.val, hq⟩ (Nat.zero_add _).symm (Nat.zero_add _).symm).trans (z _ _)
    · refine (cat_right _ _ _ k q ⟨q.val - 128, by omega⟩ (by show q.val - 128 + 128 = q.val; omega)).trans ((cat_top _ _ _ k _ ⟨k.val, hk⟩ rfl).trans ?_)
      exact (slice2 (M := 160) (N := 128) (m := 80) (n := 128) _ _ ⟨k.val, hk⟩ ⟨q.val - 128, by omega⟩ ⟨80 + k.val, by omega⟩ ⟨q.val - 128, by omega⟩ rfl (Nat.zero_add _).symm).trans (z _ _)
  · rw [show l2 (ix2 i k) = (0 : EReal) from (congrArg (fun z => l2 (ix2 i z)) (Fin.ext (by show k.val = 80 + (k.val - 80); omega))).trans (h2 i ⟨k.val - 80, by omega⟩), zero_mul]

include ht h1 in
/-- One half of a trip: the product of the big matrix with 80 rows of the buffer, from row `o` of the block. -/
theorem half_apply (o : Nat) (ho : o + 80 ≤ 160) (hs : S160x128.Slices ![o, 0] S80x128) (i : Fin 80) (d : Fin 128) :
    let M : FVec Ideal S80x256 .f32 := matmul dot_S80x160_S160x256_S80x256_1_0_0_1_n_n none (k0_pay9 l1)
      (concatenate S160x256 0 [⟨S80x256, concatenate S80x256 1 [⟨S80x128, extractStridedSlice S80x128 ![o, 0] (k0_pay6 t) hs⟩, ⟨S80x128, extractStridedSlice S80x128 ![o, 0] (k0_pay8 t) hs⟩] concatenates_S80x128_S80x128_S80x256_d1⟩,
        ⟨S80x256, concatenate S80x256 1 [⟨S80x128, extractStridedSlice S80x128 ![o, 0] (k0_pay6 t) hs⟩, ⟨S80x128, extractStridedSlice S80x128 ![o, 0] (k0_pay8 t) hs⟩] concatenates_S80x128_S80x128_S80x256_d1⟩] concatenates_S80x256_S80x256_S160x256_d0)
      (constant S80x256 .f32 0x00000000#32)
    (addf (extractStridedSlice S80x128 ![0, 0] M slices_S80x256_o0_0_S80x128) (extractStridedSlice S80x128 ![0, 128] M slices_S80x256_o0_128_S80x128) : FVec Ideal S80x128 .f32) (ix2 i d)
      = ∑ k : Fin 80, l1 (ix2 i ⟨k.val, by omega⟩) * t (ix2 ⟨o + k.val, by omega⟩ d) := by
  intro M
  have hl : k0_pay9 l1 = l1 := shapeCast_self _ _
  have hM1 : M (ix2 i ⟨d.val, by omega⟩) = ∑ k : Fin 80, l1 (ix2 i ⟨k.val, by omega⟩) * t (ix2 ⟨o + k.val, by omega⟩ d) := by
    refine (Ideal.matmul_plain_apply none _ _ _ i (⟨d.val, by omega⟩ : Fin 256)).trans ?_
    rw [constant_zero, zero_add, sum160, hl]
    refine (congrArg₂ (· + ·) (Finset.sum_congr rfl fun k _ => congrArg (l1 (ix2 i ⟨k.val, by omega⟩) * ·) ?_) (Finset.sum_eq_zero fun k _ => by rw [h1, zero_mul])).trans (add_zero _)
    refine (cat_top (M := 160) (N := 256) _ _ _ ⟨k.val, by omega⟩ ⟨d.val, by omega⟩ k rfl).trans ((cat_left (M := 80) (N := 256) _ _ _ k ⟨d.val, by omega⟩ d rfl).trans ?_)
    exact slice2 (M := 160) (N := 128) (m := 80) (n := 128) _ _ k d ⟨o + k.val, by omega⟩ d rfl (Nat.zero_add _).symm
  have hM2 : M (ix2 i ⟨128 + d.val, by omega⟩) = (0 : EReal) := by
    refine matmul_zero (M := 80) (K := 160) (N := 256) _ _ _ i ⟨128 + d.val, by omega⟩ (constant_zero _ _) fun k => ?_
    have c : ∀ k' : Fin 80, (concatenate S80x256 1 [⟨S80x128, extractStridedSlice S80x128 ![o, 0] (k0_pay6 t) hs⟩, ⟨S80x128, extractStridedSlice S80x128 ![o, 0] (k0_pay8 t) hs⟩] concatenates_S80x128_S80x128_S80x256_d1 : FVec Ideal S80x256 .bf16) (ix2 k' ⟨128 + d.val, by omega⟩) = (0 : EReal) := fun k' => by
      refine (cat_right _ _ _ k' _ d (Nat.add_comm _ _)).trans ?_
      exact (slice2 (M := 160) (N := 128) (m := 80) (n := 128) _ _ k' d ⟨o + k'.val, by omega⟩ d rfl (Nat.zero_add _).symm).trans (mid_zero t ht _ _)
    refine (congrArg (k0_pay9 l1 (ix2 i k) * ·) ?_).trans (mul_zero _)
    by_cases hk : k.val < 80
    · exact (cat_top _ _ _ k _ ⟨k.val, hk⟩ rfl).trans (c _)
    · exact (cat_bottom _ _ _ k _ ⟨k.val - 80, by omega⟩ (by show k.val - 80 + 80 = k.val; omega)).trans (c _)
  refine (congrArg₂ (fun a b : EReal => a + b) ((slice2 (M := 80) (N := 256) (m := 80) (n := 128) _ _ i d i ⟨d.val, by omega⟩ (Nat.zero_add _).symm (Nat.zero_add _).symm).trans hM1)
    ((slice2 (M := 80) (N := 256) (m := 80) (n := 128) _ _ i d i ⟨128 + d.val, by omega⟩ (Nat.zero_add _).symm rfl).trans hM2)).trans (add_zero _)

include ht h1 h2 in
/-- The first eighty rows of a trip. -/
theorem first_apply (i : Fin 80) (d : Fin 128) :
    k0_pay11 t l1 l2 (ix2 i d) = ∑ k : Fin 80, l1 (ix2 i ⟨k.val, by omega⟩) * t (ix2 ⟨0 + k.val, by omega⟩ d) := by
  unfold k0_pay11
  rw [shapeCast_self]
  refine (congrArg₂ (fun a b : EReal => a + b) (half_apply t l1 ht h1 0 (by omega) slices_S160x128_o0_0_S80x128 i d)
    ((slice2 (M := 80) (N := 256) (m := 80) (n := 128) _ _ i d i ⟨d.val, by omega⟩ (Nat.zero_add _).symm (Nat.zero_add _).symm).trans (low_zero t l2 ht h2 _ _))).trans (add_zero _)

include ht h1 h2 in
/-- The last eighty rows of a trip. -/
theorem last_apply (i : Fin 80) (d : Fin 128) :
    k0_pay61 (k0_pay12 t l1) (k0_pay13 t l2) (ix2 i d) = ∑ k : Fin 80, l1 (ix2 i ⟨k.val, by omega⟩) * t (ix2 ⟨80 + k.val, by omega⟩ d) := by
  unfold k0_pay61 k0_pay12 k0_pay13
  rw [shapeCast_self]
  refine (congrArg₂ (fun a b : EReal => a + b) (half_apply t l1 ht h1 80 (by omega) slices_S160x128_o80_0_S80x128 i d)
    ((slice2 (M := 80) (N := 256) (m := 80) (n := 128) _ _ i d i ⟨128 + d.val, by omega⟩ (Nat.zero_add _).symm rfl).trans (low_zero t l2 ht h2 _ _))).trans (add_zero _)

end Trip

end Cert.RotBlock

end
-- ==== Proof.RotBuf.lean ====
/- The norm-and-rotate kernel's two buffers and its output block, at exact arithmetic: the first buffer's row
   `20 r + a` is head `a` of token `r` after the 128-point transform, the second buffer's row `20 r + e` is the
   combination `e` of the token's twenty heads, and the output block is the second buffer's rows laid side by side. -/
module

public import proofs.«01_k».proof.Proof.RotBlock
public import proofs.«01_k».proof.Proof.RotTrip

@[expose] public section

set_option backward.proofsInPublic true
set_option maxRecDepth 16384

noncomputable section

namespace Cert.RotBlock

open Cert.RotateIdeal Cert.RotateIdeal.Gen Idealize.ShloMosaic Idealize.ShloMosaic.TcCoe
open Idealize.ShloMosaic.ValueIdx Cert.W4
open scoped BigOperators

/-- A sum that is nought outside one run of `n` indices. -/
theorem run_sum {n N : Nat} (hn : 0 < n) (f : Fin N → EReal) (g : Nat) (hg : n * g + n ≤ N) (h0 : ∀ k : Fin N, k.val / n ≠ g → f k = 0) :
    ∑ k, f k = ∑ a : Fin n, f ⟨n * g + a.val, by omega⟩ := by
  refine (Fintype.sum_of_injective (fun a : Fin n => (⟨n * g + a.val, by omega⟩ : Fin N)) (fun a b h => Fin.ext (by have := congrArg Fin.val h; dsimp only at this; omega)) _ _ (fun k hk => h0 k fun e => hk ?_) fun _ => rfl).symm
  exact ⟨⟨k.val % n, Nat.mod_lt _ hn⟩, Fin.ext (by subst e; exact Nat.div_add_mod _ _)⟩

variable (x0 : Vec Ideal S256x2560 .bf16) (x1 : Vec Ideal S256x2560 .f32) (x2 : Vec Ideal S1x2560 .f32) (x3 : Vec Ideal S256x256 .bf16)

/-- The normalised, weighted value of token `r`, column `c`. -/
def norm (r : Fin 256) (c : Fin 2560) : EReal := scaled (k0_pay15 x0 x1 (ix2 r 0)) (k0_pay14 x0 x1 (ix2 r c)) (x2 (ix2 0 c))

/-- Head `a` of token `r` after the 128-point transform. -/
def had (H : Fin 128 → Fin 128 → EReal) (r : Fin 256) (a : Fin 20) (d : Fin 128) : EReal :=
  ∑ k : Fin 128, norm x0 x1 x2 r ⟨128 * a.val + k.val, by omega⟩ * H k d

theorem congr_scaled {den a a' b b' : EReal} (ha : a = a') (hb : b = b') : scaled den a b = scaled den a' b' := by rw [ha, hb]

/-- The normalised value of a token inside one band of columns. -/
theorem band_scaled (k : Nat) (hk : k < 20) (i1 : ∀ a, ![0, 256 * (k / 2)] a + S256x256.size a ≤ S256x2560.size a)
    (i2 : ∀ a, ![0, 256 * (k / 2)] a + S1x256.size a ≤ S1x2560.size a) (r q : Fin 256) (hq : 256 * (k / 2) + q.val < 2560) :
    scaled (k0_pay15 x0 x1 (ix2 r 0)) ((View.ld (k0_pay14 x0 x1) (Rect.unit (s := S256x2560) ![0, 256 * (k / 2)] S256x256.size i1) : Vec Ideal S256x256 .f32) (ix2 r q))
      ((View.ld x2 (Rect.unit (s := S1x2560) ![0, 256 * (k / 2)] S1x256.size i2) : Vec Ideal S1x256 .f32) (ix2 0 q)) = norm x0 x1 x2 r ⟨256 * (k / 2) + q.val, hq⟩ :=
  congr_scaled
    (ld2 (M := 256) (N := 2560) (e := .f32) (k0_pay14 x0 x1) (o := 0) (p := 256 * (k / 2)) (m := 256) (n := 256) i1 r q r ⟨256 * (k / 2) + q.val, hq⟩ (Nat.zero_add _).symm rfl)
    (ld2 (M := 1) (N := 2560) (e := .f32) x2 (o := 0) (p := 256 * (k / 2)) (m := 1) (n := 256) i2 0 q 0 ⟨256 * (k / 2) + q.val, hq⟩ rfl rfl)

section First

variable (H : Fin 128 → Fin 128 → EReal)
  (hv : ∀ r c, IsReal (norm x0 x1 x2 r c))
  (h3 : ∀ p q : Fin 256, x3 (ix2 p q) = if p.val / 128 = q.val / 128 then H ⟨p.val % 128, Nat.mod_lt _ (by decide)⟩ ⟨q.val % 128, Nat.mod_lt _ (by decide)⟩ else (0 : EReal))

include hv h3 in
/-- One head's store. -/
theorem slab_apply (k : Nat) (hk : k < 20) (r : Fin 256) (d : Fin 128) :
    half x0 x1 x2 x3 k hk (ix2 r d) = had x0 x1 x2 H r ⟨k, hk⟩ d := by
  refine (slice2 (M := 256) (N := 256) (m := 256) (n := 128) _ _ r d r ⟨128 * (k % 2) + d.val, by omega⟩ (Nat.zero_add _).symm rfl).trans ?_
  have e2 := band_scaled x0 x1 x2 k hk
  refine (pair_apply _ _ _ _ (fun r' q => by rw [e2 _ _ r' q (by omega)]; exact hv _ _) r _).trans ?_
  refine (run_sum (n := 128) (by decide) _ (k % 2) (by omega) fun q hq => ?_).trans (Finset.sum_congr rfl fun j _ => congrArg₂ (fun a b : EReal => a * b) ?_ ?_)
  · rw [h3, if_neg (by show ¬ q.val / 128 = (128 * (k % 2) + d.val) / 128; omega), mul_zero]
  · rw [e2 _ _ r _ (by show 256 * (k / 2) + (128 * (k % 2) + j.val) < 2560; omega)]
    exact congrArg (norm x0 x1 x2 r) (Fin.ext (by show 256 * (k / 2) + (128 * (k % 2) + j.val) = 128 * k + j.val; omega))
  · rw [h3, if_pos (by show (128 * (k % 2) + j.val) / 128 = (128 * (k % 2) + d.val) / 128; omega)]
    exact congrArg₂ H (Fin.ext (by show (128 * (k % 2) + j.val) % 128 = j.val; omega)) (Fin.ext (by show (128 * (k % 2) + d.val) % 128 = d.val; omega))

include hv h3 in
/-- The first buffer. -/
theorem slabs_eq : View.canon (slabs x0 x1 x2 x3) = fun y : S5120x128.Idx =>
    had x0 x1 x2 H ⟨(y 0).val / 20, by have : (y 0).val < 5120 := (y 0).isLt; omega⟩ ⟨(y 0).val % 20, by omega⟩ (y 1) := by
  refine canon_of_bands (S := S5120x128) (e := .f32) _ 20 (slab x0 x1 x2 x3) _ rfl (fun k hk x => ?_) (fun y => ?_)
  · obtain ⟨r, d, rfl⟩ : ∃ r d, x = ix2 (n0 := 256) (n1 := 128) r d := ⟨_, _, eq_ix2 x⟩
    refine (slab_apply x0 x1 x2 x3 H hv h3 k hk r d).trans ?_
    have e0 : (((slab x0 x1 x2 x3 k hk).1.emb (ix2 r d) 0 : Fin 5120) : Nat) = k + 20 * r.val := rfl
    have e1 : ((slab x0 x1 x2 x3 k hk).1.emb (ix2 r d) 1 : Fin 128) = d := Fin.ext (by show 0 + 1 * d.val = _; omega)
    rw [e1]
    exact congrArg₂ (fun a b => had x0 x1 x2 H a b d) (Fin.ext (by show r.val = _ / 20; rw [e0]; omega)) (Fin.ext (by show k = _ % 20; rw [e0]; omega))
  · have h0 : (y 0).val < 5120 := (y 0).isLt
    have h1 : (y 1).val < 128 := (y 1).isLt
    refine ⟨(y 0).val % 20, by omega, (LoadRect.mem_set _).2 fun a => ?_⟩
    match a with
    | ⟨0, _⟩ => exact ⟨(y 0).val / 20, by show _ < 256; omega, by show (y 0).val = (y 0).val % 20 + 20 * ((y 0).val / 20); omega⟩
    | ⟨1, _⟩ => exact ⟨(y 1).val, h1, by show (y 1).val = 0 + 1 * (y 1).val; omega⟩

end First

section Second

variable (x4 x5 : Vec Ideal S80x160 .bf16) (T : Vec Ideal S5120x128 .f32) (hT : ∀ m d, IsReal (T (ix2 m d)))
  (h1 : ∀ (i : Fin 80) (k : Fin 80), x4 (ix2 i ⟨80 + k.val, by omega⟩) = (0 : EReal))
  (h2 : ∀ (i : Fin 80) (k : Fin 80), x5 (ix2 i ⟨80 + k.val, by omega⟩) = (0 : EReal))

/-- The second buffer, at row `m`: row `m % 80` of the big matrix times the eighty rows of the first buffer around `m`. -/
def comb80 (m : Fin 5120) (d : Fin 128) : EReal :=
  ∑ k : Fin 80, x4 (ix2 ⟨m.val % 80, by omega⟩ ⟨k.val, by omega⟩) * T (ix2 ⟨80 * (m.val / 80) + k.val, by omega⟩ d)

theorem off1_eq : ∀ k : Fin k0_t1_loop.trips, k0_off1 k = ![160 * k.val, 0] := by decide +kernel
theorem off2_eq : ∀ k : Fin k0_t1_loop.trips, k0_off2 k 0#32 = ![160 * k.val, 0] := by decide +kernel
theorem off3_eq : ∀ k : Fin k0_t1_loop.trips, k0_off2 k 80#32 = ![160 * k.val + 80, 0] := by decide +kernel
theorem trips_32 : k0_t1_loop.trips = 32 := by decide +kernel

/-- What a trip's load of the first buffer reads. -/
theorem load_apply (k : Fin k0_t1_loop.trips) (m : Fin 160) (d : Fin 128) :
    View.ld T (Rect.unit (s := S5120x128) (k0_off1 k) S160x128.size (k0_off1_inb k)) (ix2 m d)
      = T (ix2 ⟨160 * k.val + m.val, by have := lt_of_lt_of_eq k.isLt trips_32; omega⟩ d) :=
  View.ld_unit_apply_of (S := S5120x128) T (k0_off1 k) S160x128.size (k0_off1_inb k) (ix2 (n0 := 160) (n1 := 128) m d) _ fun a => by
    have h := congrFun (off1_eq k) a
    match a with
    | ⟨0, _⟩ => exact congrArg (· + m.val) h.symm
    | ⟨1, _⟩ => exact (Nat.zero_add _).symm.trans (congrArg (· + d.val) h.symm)

include hT h1 h2 in
theorem low_piece (k : Fin k0_t1_loop.trips) (x : (low x4 x5 T k).1.shape.Idx) :
    (low x4 x5 T k).2 x = comb80 x4 T ((low x4 x5 T k).1.emb x 0) ((low x4 x5 T k).1.emb x 1) := by
  obtain ⟨i, d, rfl⟩ : ∃ i d, x = ix2 (n0 := 80) (n1 := 128) i d := ⟨_, _, eq_ix2 x⟩
  have hk := lt_of_lt_of_eq k.isLt trips_32
  have e0 : (((low x4 x5 T k).1.emb (ix2 i d) 0 : Fin 5120) : Nat) = 160 * k.val + i.val := by
    show k0_off2 k 0#32 0 + 1 * i.val = _; rw [off2_eq k]; show 160 * k.val + 1 * i.val = _; omega
  have e1 : ((low x4 x5 T k).1.emb (ix2 i d) 1 : Fin 128) = d := Fin.ext (by
    show k0_off2 k 0#32 1 + 1 * d.val = _; rw [off2_eq k]; show 0 + 1 * d.val = _; omega)
  rw [e1]
  refine (first_apply _ x4 x5 (fun m d => by rw [load_apply]; exact hT _ _) h1 h2 i d).trans ?_
  unfold comb80
  refine Finset.sum_congr rfl fun j _ => congrArg₂ (fun a b : EReal => a * b) (congrArg x4 ?_) ((load_apply T k _ d).trans (congrArg T ?_))
  · exact congrArg (fun a => ix2 (n0 := 80) (n1 := 160) a _) (Fin.ext (by show i.val = _ % 80; rw [e0]; omega))
  · exact congrArg (fun a => ix2 (n0 := 5120) (n1 := 128) a d) (Fin.ext (by show 160 * k.val + (0 + j.val) = 80 * (_ / 80) + j.val; rw [e0]; omega))

include hT h1 h2 in
theorem high_piece (k : Fin k0_t1_loop.trips) (x : (high x4 x5 T k).1.shape.Idx) :
    (high x4 x5 T k).2 x = comb80 x4 T ((high x4 x5 T k).1.emb x 0) ((high x4 x5 T k).1.emb x 1) := by
  obtain ⟨i, d, rfl⟩ : ∃ i d, x = ix2 (n0 := 80) (n1 := 128) i d := ⟨_, _, eq_ix2 x⟩
  have hk := lt_of_lt_of_eq k.isLt trips_32
  have e0 : (((high x4 x5 T k).1.emb (ix2 i d) 0 : Fin 5120) : Nat) = 160 * k.val + 80 + i.val := by
    show k0_off2 k 80#32 0 + 1 * i.val = _; rw [off3_eq k]; show 160 * k.val + 80 + 1 * i.val = _; omega
  have e1 : ((high x4 x5 T k).1.emb (ix2 i d) 1 : Fin 128) = d := Fin.ext (by
    show k0_off2 k 80#32 1 + 1 * d.val = _; rw [off3_eq k]; show 0 + 1 * d.val = _; omega)
  rw [e1]
  refine (last_apply _ x4 x5 (fun m d => by rw [load_apply]; exact hT _ _) h1 h2 i d).trans ?_
  unfold comb80
  refine Finset.sum_congr rfl fun j _ => congrArg₂ (fun a b : EReal => a * b) (congrArg x4 ?_) ((load_apply T k _ d).trans (congrArg T ?_))
  · exact congrArg (fun a => ix2 (n0 := 80) (n1 := 160) a _) (Fin.ext (by show i.val = _ % 80; rw [e0]; omega))
  · exact congrArg (fun a => ix2 (n0 := 5120) (n1 := 128) a d) (Fin.ext (by show 160 * k.val + (80 + j.val) = 80 * (_ / 80) + j.val; rw [e0]; omega))

/-- The trips' stores are the two of each trip, and nothing else. -/
theorem of_mem_trips (n : Nat) (hn : n ≤ k0_t1_loop.trips) (p) (h : p ∈ trips x4 x5 T n) : ∃ k, p = high x4 x5 T k ∨ p = low x4 x5 T k := by
  induction n with
  | zero => exact absurd h List.not_mem_nil
  | succ n ih =>
    rw [trips_succ x4 x5 T n hn] at h
    rcases List.mem_cons.1 h with h | h
    · exact ⟨_, .inl h⟩
    rcases List.mem_cons.1 h with h | h
    · exact ⟨_, .inr h⟩
    · exact ih (by omega) h

theorem mem_trips (n : Nat) (hn : n ≤ k0_t1_loop.trips) (k : Fin k0_t1_loop.trips) (hk : k.val < n) :
    high x4 x5 T k ∈ trips x4 x5 T n ∧ low x4 x5 T k ∈ trips x4 x5 T n := by
  induction n with
  | zero => exact absurd hk (Nat.not_lt_zero _)
  | succ n ih =>
    rw [trips_succ x4 x5 T n hn]
    rcases Nat.lt_succ_iff_lt_or_eq.1 hk with h | h
    · exact ⟨List.mem_cons_of_mem _ (List.mem_cons_of_mem _ (ih (by omega) h).1), List.mem_cons_of_mem _ (List.mem_cons_of_mem _ (ih (by omega) h).2)⟩
    · obtain rfl : k = ⟨n, hn⟩ := Fin.ext h
      exact ⟨List.mem_cons_self, List.mem_cons_of_mem _ List.mem_cons_self⟩

include hT h1 h2 in
/-- The second buffer after the loop. -/
theorem trips_canon : View.canon (trips x4 x5 T 32) = fun y : S5120x128.Idx => comb80 x4 T (y 0) (y 1) := by
  funext y
  have h0 : (y 0).val < 5120 := (y 0).isLt
  have hy1 : (y 1).val < 128 := (y 1).isLt
  refine View.canon_apply_of_pieces (Val := Elt Ideal) (e := .f32) (fun y : S5120x128.Idx => comb80 x4 T (y 0) (y 1)) _ (fun p hp x => ?_) y ?_
  · obtain ⟨k, h | h⟩ := of_mem_trips x4 x5 T 32 trips_32.ge p hp
    · subst h; exact high_piece x4 x5 T hT h1 h2 k x
    · subst h; exact low_piece x4 x5 T hT h1 h2 k x
  · have hk : (y 0).val / 160 < k0_t1_loop.trips := by rw [trips_32]; omega
    by_cases hlo : (y 0).val % 160 < 80
    · refine ⟨_, (mem_trips x4 x5 T 32 trips_32.ge ⟨_, hk⟩ (by show (y 0).val / 160 < 32; omega)).2, (LoadRect.mem_set _).2 fun a => ?_⟩
      have h := congrFun (off2_eq ⟨_, hk⟩) a
      match a with
      | ⟨0, _⟩ => exact ⟨(y 0).val % 160, hlo, by show (y 0).val = k0_off2 _ 0#32 0 + 1 * _; rw [show k0_off2 _ 0#32 0 = 160 * ((y 0).val / 160) from h]; omega⟩
      | ⟨1, _⟩ => exact ⟨(y 1).val, hy1, by show (y 1).val = k0_off2 ⟨(y 0).val / 160, hk⟩ 0#32 1 + 1 * (y 1).val; rw [show k0_off2 ⟨(y 0).val / 160, hk⟩ 0#32 1 = 0 from h]; omega⟩
    · refine ⟨_, (mem_trips x4 x5 T 32 trips_32.ge ⟨_, hk⟩ (by show (y 0).val / 160 < 32; omega)).1, (LoadRect.mem_set _).2 fun a => ?_⟩
      have h := congrFun (off3_eq ⟨_, hk⟩) a
      match a with
      | ⟨0, _⟩ => exact ⟨(y 0).val % 160 - 80, by show _ < 80; omega, by show (y 0).val = k0_off2 _ 80#32 0 + 1 * _; rw [show k0_off2 _ 80#32 0 = 160 * ((y 0).val / 160) + 80 from h]; omega⟩
      | ⟨1, _⟩ => exact ⟨(y 1).val, hy1, by show (y 1).val = k0_off2 ⟨(y 0).val / 160, hk⟩ 80#32 1 + 1 * (y 1).val; rw [show k0_off2 ⟨(y 0).val / 160, hk⟩ 80#32 1 = 0 from h]; omega⟩

end Second

end Cert.RotBlock

end
-- ==== Proof.RotOut.lean ====
/- The norm-and-rotate kernel's output block at exact arithmetic: at row `r`, column `128 e + d`, the combination `e` of
   the token's twenty transformed heads, at place `d`. -/
module

public import proofs.«01_k».proof.Proof.RotBuf

@[expose] public section

set_option backward.proofsInPublic true
set_option maxRecDepth 16384

noncomputable section

namespace Cert.RotBlock

open Cert.RotateIdeal Cert.RotateIdeal.Gen Idealize.ShloMosaic Idealize.ShloMosaic.TcCoe
open Idealize.ShloMosaic.ValueIdx Cert.W4
open scoped BigOperators

theorem IsReal.add {x y : EReal} (hx : IsReal x) (hy : IsReal y) : IsReal (x + y) := by
  obtain ⟨a, rfl⟩ := hx; obtain ⟨b, rfl⟩ := hy; exact ⟨a + b, (EReal.coe_add _ _).symm⟩

theorem IsReal.mul {x y : EReal} (hx : IsReal x) (hy : IsReal y) : IsReal (x * y) := by
  obtain ⟨a, rfl⟩ := hx; obtain ⟨b, rfl⟩ := hy; exact ⟨a * b, (EReal.coe_mul _ _).symm⟩

theorem IsReal.sum {ι : Type} [Fintype ι] (f : ι → EReal) (h : ∀ k, IsReal (f k)) : IsReal (∑ k, f k) :=
  Finset.sum_induction f IsReal (fun _ _ => IsReal.add) ⟨0, rfl⟩ fun k _ => h k

/-- A finite sum of reals, as an extended real. -/
theorem coe_sum {n : Nat} (f : Fin n → ℝ) : ((∑ k, f k : ℝ) : EReal) = ∑ k, (f k : EReal) := by
  induction n with
  | zero => rfl
  | succ n ih => rw [Fin.sum_univ_succ, Fin.sum_univ_succ, EReal.coe_add, ih]

/-- A scaled sum of products, with the scale on the factor outside or on each product's second factor. -/
theorem scale_sum {n : Nat} (x h : Fin n → EReal) (q s : EReal) (hx : ∀ k, IsReal (x k)) (hh : ∀ k, IsReal (h k)) (hq : IsReal q) (hs : IsReal s) :
    (q * s) * (∑ k, x k * h k) = (∑ k, x k * (h k * s)) * q := by
  choose x' hx' using hx
  choose h' hh' using hh
  obtain ⟨q, rfl⟩ := hq
  obtain ⟨s, rfl⟩ := hs
  simp only [hx', hh', ← EReal.coe_mul, ← coe_sum]
  congr 1
  simp only [Finset.mul_sum, Finset.sum_mul]
  exact Finset.sum_congr rfl fun k _ => by ring

variable (x0 : Vec Ideal S256x2560 .bf16) (x1 : Vec Ideal S256x2560 .f32) (x2 : Vec Ideal S1x2560 .f32) (x3 : Vec Ideal S256x256 .bf16)
  (x4 x5 : Vec Ideal S80x160 .bf16) (H : Fin 128 → Fin 128 → EReal) (Q : Fin 20 → Fin 20 → EReal)
  (hv : ∀ r c, IsReal (norm x0 x1 x2 r c)) (hH : ∀ k d, IsReal (H k d))
  (h3 : ∀ p q : Fin 256, x3 (ix2 p q) = if p.val / 128 = q.val / 128 then H ⟨p.val % 128, Nat.mod_lt _ (by decide)⟩ ⟨q.val % 128, Nat.mod_lt _ (by decide)⟩ else (0 : EReal))
  (h4 : ∀ i k : Fin 80, x4 (ix2 i ⟨k.val, by omega⟩) = if i.val / 20 = k.val / 20 then Q ⟨i.val % 20, Nat.mod_lt _ (by decide)⟩ ⟨k.val % 20, Nat.mod_lt _ (by decide)⟩ else (0 : EReal))
  (h1 : ∀ (i : Fin 80) (k : Fin 80), x4 (ix2 i ⟨80 + k.val, by omega⟩) = (0 : EReal))
  (h2 : ∀ (i : Fin 80) (k : Fin 80), x5 (ix2 i ⟨80 + k.val, by omega⟩) = (0 : EReal))

include h4 in
/-- The second buffer's row `20 r + e`, of a first buffer whose row `20 r + a` is `B r a`. -/
theorem comb_block (T : Vec Ideal S5120x128 .f32) (B : Fin 256 → Fin 20 → Fin 128 → EReal)
    (hB : ∀ m d, T (ix2 m d) = B ⟨m.val / 20, by omega⟩ ⟨m.val % 20, by omega⟩ d) (r : Fin 256) (e : Fin 20) (d : Fin 128) :
    comb80 x4 T ⟨20 * r.val + e.val, by omega⟩ d = ∑ a : Fin 20, Q e a * B r a d := by
  unfold comb80
  refine (run_sum (n := 20) (by decide) _ (r.val % 4) (by omega) fun k hk => ?_).trans (Finset.sum_congr rfl fun a _ => congrArg₂ (fun a b : EReal => a * b) ?_ ?_)
  · rw [h4, if_neg (by show ¬ (20 * r.val + e.val) % 80 / 20 = k.val / 20; omega), zero_mul]
  · rw [h4 ⟨(20 * r.val + e.val) % 80, by omega⟩ ⟨20 * (r.val % 4) + a.val, by omega⟩, if_pos (by show (20 * r.val + e.val) % 80 / 20 = (20 * (r.val % 4) + a.val) / 20; omega)]
    exact congrArg₂ Q (Fin.ext (by show (20 * r.val + e.val) % 80 % 20 = e.val; omega)) (Fin.ext (by show (20 * (r.val % 4) + a.val) % 20 = a.val; omega))
  · rw [hB]
    exact congrArg₂ (fun r a => B r a d) (Fin.ext (by show (80 * ((20 * r.val + e.val) / 80) + (20 * (r.val % 4) + a.val)) / 20 = r.val; omega)) (Fin.ext (by show (80 * ((20 * r.val + e.val) / 80) + (20 * (r.val % 4) + a.val)) % 20 = a.val; omega))

include hv hH h3 h4 h1 h2 in
/-- The output block. -/
theorem out_apply (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole) :
    out0_A_7 c i arg1 harg1 arg2 harg2 arg3 harg3 arg4 harg4 arg5 harg5 arg6 harg6 arg7 harg7 arg8 harg8 arg9 harg9 arg10 harg10 x0 x1 x2 x3 x4 x5
      = fun y : S256x2560.Idx => ∑ a : Fin 20, Q ⟨(y 1).val / 128, by have : (y 1).val < 2560 := (y 1).isLt; omega⟩ a * had x0 x1 x2 H (y 0) a ⟨(y 1).val % 128, Nat.mod_lt _ (by decide)⟩ := by
  have hT := slabs_eq x0 x1 x2 x3 H hv h3
  have hR := trips_canon x4 x5 (View.canon (slabs x0 x1 x2 x3)) (fun m d => by
    rw [hT]; exact IsReal.sum _ fun k => (hv _ _).mul (hH _ _)) h1 h2
  rw [out_eq c i arg1 harg1 arg2 harg2 arg3 harg3 arg4 harg4 arg5 harg5 arg6 harg6 arg7 harg7 arg8 harg8 arg9 harg9 arg10 harg10 x0 x1 x2 x3 x4 x5 _ hR.symm]
  refine canon_of_bands (S := S256x2560) (e := .bf16) _ 20 (head _) _ rfl (fun e he x => ?_) (fun y => ?_)
  · obtain ⟨r, d, rfl⟩ : ∃ r d, x = ix2 (n0 := 256) (n1 := 128) r d := ⟨_, _, eq_ix2 x⟩
    have e0 : ((head (F := Ideal) (fun y : S5120x128.Idx => comb80 x4 (View.canon (slabs x0 x1 x2 x3)) (y 0) (y 1)) e he).1.emb (ix2 r d) 0 : Fin 256) = r := Fin.ext (by show 0 + 1 * r.val = _; omega)
    have e1 : (((head (F := Ideal) (fun y : S5120x128.Idx => comb80 x4 (View.canon (slabs x0 x1 x2 x3)) (y 0) (y 1)) e he).1.emb (ix2 r d) 1 : Fin 2560) : Nat) = 128 * e + d.val := by show 128 * e + 1 * d.val = _; omega
    have e2 : ((comb e he).emb (ix2 r d) : S5120x128.Idx) = ix2 (n0 := 5120) (n1 := 128) ⟨20 * r.val + e, by omega⟩ d := funext fun a => Fin.ext (match a with
      | ⟨0, _⟩ => by show e + 20 * r.val = 20 * r.val + e; omega
      | ⟨1, _⟩ => by show 0 + 1 * d.val = d.val; omega)
    refine (congrArg (fun y : S5120x128.Idx => comb80 x4 (View.canon (slabs x0 x1 x2 x3)) (y 0) (y 1)) e2).trans ?_
    refine (comb_block x4 Q h4 _ (had x0 x1 x2 H) (fun m d => congrFun hT (ix2 m d)) r ⟨e, he⟩ d).trans ?_
    rw [e0]
    refine Finset.sum_congr rfl fun a _ => congrArg₂ (fun a b : EReal => a * b) (congrArg (fun e => Q e a) (Fin.ext ?_)) (congrArg (had x0 x1 x2 H r a) (Fin.ext ?_))
    · show e = _ / 128; rw [e1]; omega
    · show d.val = _ % 128; rw [e1]; omega
  · have hy0 : (y 0).val < 256 := (y 0).isLt
    have hy1 : (y 1).val < 2560 := (y 1).isLt
    refine ⟨(y 1).val / 128, by omega, (LoadRect.mem_set _).2 fun a => ?_⟩
    match a with
    | ⟨0, _⟩ => exact ⟨(y 0).val, hy0, by show (y 0).val = 0 + 1 * (y 0).val; omega⟩
    | ⟨1, _⟩ => exact ⟨(y 1).val % 128, by show _ < 128; omega, by show (y 1).val = 128 * ((y 1).val / 128) + 1 * ((y 1).val % 128); omega⟩

end Cert.RotBlock

end
-- ==== Proof.RotHost.lean ====
/- What the norm-and-rotate program lays out before its kernel. The constant sign matrix is two copies of the 128-point
   transform's signs on the diagonal, noughts elsewhere; the sign at `(k, d)` is the parity of the bits that `k` and `d`
   have in common. The head matrix is four copies of the scaled 20 x 20 matrix on the diagonal, split by casts. -/
module

public import proofs.«01_k».proof.Proof.Gen.RotateIdeal.Value
public import proofs.«01_k».proof.Proof.RotOut

@[expose] public section

set_option backward.proofsInPublic true
set_option maxRecDepth 16384

noncomputable section

namespace Cert.RotHost

open Cert.RotateIdeal Cert.RotateIdeal.Gen Idealize.ShloMosaic Idealize.ShloMosaic.TcCoe Idealize.SL Idealize.SL.Sem
open Idealize.ShloMosaic.ValueIdx Cert.RotBlock

/-- Python's remainder of a word by a word. -/
def rem (x m : BitVec 32) : BitVec 32 :=
  Scalar.select
    (IntOp.andi (IntOp.cmpi .ne (IntOp.cmpi .slt (IntOp.remsi .host x (Scalar.select (IntOp.cmpi .eq m 0#32) 1#32 m)) 0#32) (IntOp.cmpi .slt (Scalar.select (IntOp.cmpi .eq m 0#32) 1#32 m) 0#32))
      (IntOp.cmpi .ne (IntOp.remsi .host x (Scalar.select (IntOp.cmpi .eq m 0#32) 1#32 m)) 0#32))
    (IntOp.addi (IntOp.remsi .host x (Scalar.select (IntOp.cmpi .eq m 0#32) 1#32 m)) (Scalar.select (IntOp.cmpi .eq m 0#32) 1#32 m))
    (IntOp.remsi .host x (Scalar.select (IntOp.cmpi .eq m 0#32) 1#32 m))

/-- The sign of a word, as a word. -/
def sign (x : BitVec 32) : BitVec 32 := if x = 0 then 0 else if x.msb = true then -1 else 1

/-- Python's quotient of a word by a word. -/
def quot (x m : BitVec 32) : BitVec 32 :=
  Scalar.select (IntOp.andi (IntOp.cmpi .ne (sign x) (sign m)) (IntOp.cmpi .ne (IntOp.remsi .host x m) 0#32))
    (IntOp.subi (IntOp.divsi .host x m) 1#32) (IntOp.divsi .host x m)

/-- Whether the words `x` and `y` have an even number of bits in common. -/
def even (x y : BitVec 32) : BitVec 1 := IntOp.cmpi .eq (rem (IntOp.ctpop (IntOp.andi x y)) 2#32) 0#32

variable {F : FTy → Type} [FloatOps F] (m : (ℓ : Loc nD τ sig) → Buf (Elt F) ℓ) (c : Dev nD)

/-- The remainders and quotients of the matrix's words, at an index. -/
theorem rem_apply (x : IVec S256x256 32) (m : BitVec 32) (i : S256x256.Idx) :
    select
      (andi (cmpi .ne (cmpi .slt (Host.remsi x (broadcastInDim S256x256 ![] bcast_S_S256x256 (select (cmpi .eq (id (constantI S_ 32 m)) (constantI S_ 32 0#32)) (constantI S_ 32 1#32) (id (constantI S_ 32 m))))) (broadcastInDim S256x256 ![] bcast_S_S256x256 (constantI S_ 32 0#32)))
          (broadcastInDim S256x256 ![] bcast_S_S256x256 (cmpi .slt (select (cmpi .eq (id (constantI S_ 32 m)) (constantI S_ 32 0#32)) (constantI S_ 32 1#32) (id (constantI S_ 32 m))) (constantI S_ 32 0#32))))
        (cmpi .ne (Host.remsi x (broadcastInDim S256x256 ![] bcast_S_S256x256 (select (cmpi .eq (id (constantI S_ 32 m)) (constantI S_ 32 0#32)) (constantI S_ 32 1#32) (id (constantI S_ 32 m))))) (broadcastInDim S256x256 ![] bcast_S_S256x256 (constantI S_ 32 0#32))))
      (addi (Host.remsi x (broadcastInDim S256x256 ![] bcast_S_S256x256 (select (cmpi .eq (id (constantI S_ 32 m)) (constantI S_ 32 0#32)) (constantI S_ 32 1#32) (id (constantI S_ 32 m)))))
        (broadcastInDim S256x256 ![] bcast_S_S256x256 (select (cmpi .eq (id (constantI S_ 32 m)) (constantI S_ 32 0#32)) (constantI S_ 32 1#32) (id (constantI S_ 32 m)))))
      (Host.remsi x (broadcastInDim S256x256 ![] bcast_S_S256x256 (select (cmpi .eq (id (constantI S_ 32 m)) (constantI S_ 32 0#32)) (constantI S_ 32 1#32) (id (constantI S_ 32 m))))) i
      = rem (x i) m := rfl

theorem quot_apply (x : IVec S256x256 32) (m : BitVec 32) (i : S256x256.Idx) :
    select (andi (cmpi .ne (signi x) (broadcastInDim S256x256 ![] bcast_S_S256x256 (signi (id (constantI S_ 32 m))))) (cmpi .ne (Host.remsi x (broadcastInDim S256x256 ![] bcast_S_S256x256 (id (constantI S_ 32 m)))) (broadcastInDim S256x256 ![] bcast_S_S256x256 (constantI S_ 32 0#32))))
      (subi (Host.divsi x (broadcastInDim S256x256 ![] bcast_S_S256x256 (id (constantI S_ 32 m)))) (broadcastInDim S256x256 ![] bcast_S_S256x256 (constantI S_ 32 1#32))) (Host.divsi x (broadcastInDim S256x256 ![] bcast_S_S256x256 (id (constantI S_ 32 m)))) i = quot (x i) m := rfl

set_option maxHeartbeats 26000000 in
/-- The sign matrix at an index, in words. -/
theorem had_words (p q : Fin 256) : (V m c main_v14 : Vec F S256x256 .bf16) (ix2 p q) =
    FloatOps.truncf .bf16 bitsLt_bf16_f32 (Scalar.select (IntOp.cmpi .eq (quot (BitVec.ofNat 32 p.val) 128#32) (quot (BitVec.ofNat 32 q.val) 128#32))
      (Scalar.select (even (rem (BitVec.ofNat 32 p.val) 128#32) (rem (BitVec.ofNat 32 q.val) 128#32)) (FloatOps.ofBits .f32 0x3F800000#32) (FloatOps.ofBits .f32 0xBF800000#32))
      (FloatOps.ofBits .f32 0x00000000#32)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ (Proc.devRef .tc main_v14) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  refine congrArg (FloatOps.truncf .bf16 bitsLt_bf16_f32) (congr (congrArg₂ Scalar.select ?_ (congrFun (congrArg₂ (Scalar.select (α := F .f32)) ?_ rfl) _)) rfl)
  · exact congrArg₂ (IntOp.cmpi .eq) (quot_apply _ _ _) (quot_apply _ _ _)
  · exact congrArg (fun z => IntOp.cmpi .eq z 0#32) ((rem_apply _ 2#32 _).trans (congrArg (fun z => rem (IntOp.ctpop z) 2#32) (congrArg₂ IntOp.andi (rem_apply _ _ _) (rem_apply _ _ _))))

/-- Two matrices side by side. -/
def wide (a b : Vec F S80x80 .bf16) : Vec F S80x160 .bf16 :=
  concatenate S80x160 1 [⟨S80x80, a⟩, ⟨S80x80, b⟩] concatenates_S80x80_S80x80_S80x160_d1

theorem wide_def : ((fun a b => concatenate S80x160 1 [⟨S80x80, a⟩, ⟨S80x80, b⟩] concatenates_S80x80_S80x80_S80x160_d1) :
    Vec F S80x80 .bf16 → Vec F S80x80 .bf16 → Vec F S80x160 .bf16) = wide := rfl

/-- Four copies of the scaled head matrix on the diagonal. -/
def big (q : Vec F S20x20 .f32) : Vec F S80x80 .f32 :=
  shapeCast S80x80
    (mulf (broadcastInDim S4x20x4x20 ![0, 1, 2, 3] bcast_S4x1x4x1_S4x20x4x20_0_1_2_3 (broadcastInDim S4x1x4x1 ![0, 2] bcast_S4x4_S4x1x4x1_0_2
        (uitofp .f32 (cmpi .eq (addi (iotaInDim S4x4 32 0) (broadcastInDim S4x4 ![] bcast_S_S4x4 (constantI S_ 32 0#32))) (iotaInDim S4x4 32 1)))))
      (broadcastInDim S4x20x4x20 ![0, 1, 2, 3] bcast_S1x20x1x20_S4x20x4x20_0_1_2_3 (broadcastInDim S1x20x1x20 ![1, 3] bcast_S20x20_S1x20x1x20_1_3
        (mulf q (broadcastInDim S20x20 ![] bcast_S_S20x20 (constant S_ .f32 0x3DB504F3#32))))))
    shapeCasts_S4x20x4x20_S80x80

/-- What rounding a matrix leaves over. -/
def rest (x : Vec F S80x80 .f32) : Vec F S80x80 .f32 := subf x (extf .f32 (truncf .bf16 x bitsLt_bf16_f32) bitsLt_bf16_f32)

set_option maxHeartbeats 26000000 in
/-- The kernel's two head matrices: the rounded matrix beside the first and beside the second rest. -/
theorem head_mid : V m c main_v36 = wide (truncf .bf16 (big (m ((c : Thread nD τ).loc main_arg3))) bitsLt_bf16_f32)
    (truncf .bf16 (rest (big (m ((c : Thread nD τ).loc main_arg3)))) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ (Proc.devRef .tc main_v36) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq, wide_def]
  after_results_simp
  rfl

set_option maxHeartbeats 26000000 in
theorem head_low : V m c main_v37 = wide (truncf .bf16 (big (m ((c : Thread nD τ).loc main_arg3))) bitsLt_bf16_f32)
    (truncf .bf16 (rest (rest (big (m ((c : Thread nD τ).loc main_arg3))))) bitsLt_bf16_f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ (Proc.devRef .tc main_v37) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq, wide_def]
  after_results_simp
  rfl

set_option maxHeartbeats 26000000 in
/-- The norm's weights, laid out as one row. -/
theorem weights : V m c main_v38 = shapeCast S1x2560 (m ((c : Thread nD τ).loc main_arg2)) shapeCasts_S2560_S1x2560 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ (Proc.devRef .tc main_v38) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl

/-! ## At exact arithmetic -/

theorem rem_128 : ∀ p : Fin 256, rem (BitVec.ofNat 32 p.val) 128#32 = BitVec.ofNat 32 (p.val % 128) := by decide +kernel
theorem quot_128 : ∀ p : Fin 256, quot (BitVec.ofNat 32 p.val) 128#32 = BitVec.ofNat 32 (p.val / 128) := by decide +kernel
theorem eq_2 : ∀ a b : Fin 2, IntOp.cmpi .eq (BitVec.ofNat 32 a.val) (BitVec.ofNat 32 b.val) = if a.val = b.val then 1#1 else 0#1 := by decide +kernel
theorem eq_4 : ∀ a b : Fin 4, IntOp.cmpi .eq (IntOp.addi (BitVec.ofNat 32 a.val) 0#32) (BitVec.ofNat 32 b.val) = if a.val = b.val then 1#1 else 0#1 := by decide +kernel

/-- The sign of the 128-point transform at `(k, d)`. -/
def H (k d : Fin 128) : EReal :=
  Scalar.select (even (BitVec.ofNat 32 k.val) (BitVec.ofNat 32 d.val)) (Ideal.ofBits .f32 0x3F800000#32) (Ideal.ofBits .f32 0xBF800000#32)

theorem ofBits_neg_one : Ideal.ofBits .f32 0xBF800000#32 = ((-1 : ℝ) : EReal) := by
  simp [Ideal.ofBits, Ideal.ieee, -EReal.coe_mul]; norm_num

theorem ofBits_one : Ideal.ofBits .f32 0x3F800000#32 = ((1 : ℝ) : EReal) := Ideal.ofBits_one_f32

theorem H_real (k d : Fin 128) : IsReal (H k d) := by
  unfold H Scalar.select
  split
  · exact ⟨_, ofBits_one⟩
  · exact ⟨_, ofBits_neg_one⟩

variable (m : (ℓ : Loc nD τ sig) → Buf (Elt Ideal) ℓ)

/-- The sign matrix. -/
theorem had_apply (p q : Fin 256) : (V m c main_v14 : Vec Ideal S256x256 .bf16) (ix2 p q)
    = if p.val / 128 = q.val / 128 then H ⟨p.val % 128, Nat.mod_lt _ (by decide)⟩ ⟨q.val % 128, Nat.mod_lt _ (by decide)⟩ else (0 : EReal) := by
  rw [had_words, rem_128, rem_128, quot_128, quot_128, eq_2 ⟨p.val / 128, by omega⟩ ⟨q.val / 128, by omega⟩]
  by_cases h : p.val / 128 = q.val / 128
  · rw [if_pos h, if_pos h]; rfl
  · rw [if_neg h, if_neg h]; exact Ideal.ofBits_zero_f32

/-- The scale of the 128-point transform. -/
def scale : EReal := Ideal.ofBits .f32 0x3DB504F3#32

theorem ofBits_scale : Ideal.ofBits .f32 0x3DB504F3#32 = ((11863283 / 134217728 : ℝ) : EReal) := by
  simp [Ideal.ofBits, Ideal.ieee, -EReal.coe_mul]; norm_num

theorem scale_real : IsReal scale := ⟨_, ofBits_scale⟩

theorem big_apply (q : Vec Ideal S20x20 .f32) (i k : Fin 80) : big q (ix2 i k)
    = if i.val / 20 = k.val / 20 then q (ix2 ⟨i.val % 20, Nat.mod_lt _ (by decide)⟩ ⟨k.val % 20, Nat.mod_lt _ (by decide)⟩) * scale else (0 : EReal) := by
  unfold big
  refine (shapeCast_apply _ _ _ (ix4 (n0 := 4) (n1 := 20) (n2 := 4) (n3 := 20) ⟨i.val / 20, by omega⟩ ⟨i.val % 20, by omega⟩ ⟨k.val / 20, by omega⟩ ⟨k.val % 20, by omega⟩) ?_).trans ?_
  · rw [Shape.rowMajor_val_two, Shape.rowMajor_val_four]
    show ((i.val / 20 * 20 + i.val % 20) * 4 + k.val / 20) * 20 + k.val % 20 = i.val * 80 + k.val
    omega
  have e1 : ∀ x : S4x4.Idx → EReal, broadcastInDim S4x20x4x20 ![0, 1, 2, 3] bcast_S4x1x4x1_S4x20x4x20_0_1_2_3 (broadcastInDim S4x1x4x1 ![0, 2] bcast_S4x4_S4x1x4x1_0_2 x)
      (ix4 (n0 := 4) (n1 := 20) (n2 := 4) (n3 := 20) ⟨i.val / 20, by omega⟩ ⟨i.val % 20, by omega⟩ ⟨k.val / 20, by omega⟩ ⟨k.val % 20, by omega⟩) = x (ix2 ⟨i.val / 20, by omega⟩ ⟨k.val / 20, by omega⟩) := fun x =>
    (broadcastInDim_apply _ _ _ _ (ix4 (n0 := 4) (n1 := 1) (n2 := 4) (n3 := 1) ⟨i.val / 20, by omega⟩ 0 ⟨k.val / 20, by omega⟩ 0) fun a => by fin_cases a <;> rfl).trans
      (broadcastInDim_apply _ _ _ _ (ix2 (n0 := 4) (n1 := 4) ⟨i.val / 20, by omega⟩ ⟨k.val / 20, by omega⟩) fun a => by fin_cases a <;> rfl)
  have e2 : ∀ x : S20x20.Idx → EReal, broadcastInDim S4x20x4x20 ![0, 1, 2, 3] bcast_S1x20x1x20_S4x20x4x20_0_1_2_3 (broadcastInDim S1x20x1x20 ![1, 3] bcast_S20x20_S1x20x1x20_1_3 x)
      (ix4 (n0 := 4) (n1 := 20) (n2 := 4) (n3 := 20) ⟨i.val / 20, by omega⟩ ⟨i.val % 20, by omega⟩ ⟨k.val / 20, by omega⟩ ⟨k.val % 20, by omega⟩) = x (ix2 ⟨i.val % 20, by omega⟩ ⟨k.val % 20, by omega⟩) := fun x =>
    (broadcastInDim_apply _ _ _ _ (ix4 (n0 := 1) (n1 := 20) (n2 := 1) (n3 := 20) 0 ⟨i.val % 20, by omega⟩ 0 ⟨k.val % 20, by omega⟩) fun a => by fin_cases a <;> rfl).trans
      (broadcastInDim_apply _ _ _ _ (ix2 (n0 := 20) (n1 := 20) ⟨i.val % 20, by omega⟩ ⟨k.val % 20, by omega⟩) fun a => by fin_cases a <;> rfl)
  refine (congrArg₂ (fun a b : EReal => a * b) (e1 _) (e2 _)).trans ?_
  show (((IntOp.cmpi .eq (IntOp.addi (BitVec.ofNat 32 (i.val / 20)) 0#32) (BitVec.ofNat 32 (k.val / 20))).toNat : ℝ) : EReal) * (q (ix2 ⟨i.val % 20, _⟩ ⟨k.val % 20, _⟩) * scale) = _
  rw [eq_4 ⟨i.val / 20, by omega⟩ ⟨k.val / 20, by omega⟩]
  by_cases h : i.val / 20 = k.val / 20
  · rw [if_pos h, if_pos h]
    exact (congrArg (fun a : EReal => a * _) (by norm_num)).trans (one_mul _)
  · rw [if_neg h, if_neg h]
    exact (congrArg (fun a : EReal => a * _) (by norm_num)).trans (zero_mul _)

end Cert.RotHost

end
-- ==== Proof.RotNorm.lean ====
/- The normed input of the rotation, one token at a time: the sum of input and residual over the root of its mean
   square, times the weights. The kernel's and the reference's normed inputs are this one, and it is real when the
   inputs are. The reference's rotation is read at an index. -/
module

public import proofs.«01_k».proof.Proof.RotHost
public import proofs.«01_k».proof.Proof.Gen.RotateRefIdeal.Read
public import Idealize.ShloMosaic.Lib.ValueLayoutCasts

@[expose] public section

set_option backward.proofsInPublic true
set_option maxRecDepth 16384

noncomputable section

namespace Cert.RotNorm

open Idealize.ShloMosaic Idealize.ShloMosaic.TcCoe Idealize.SL Idealize.SL.Sem
open Idealize.ShloMosaic.ValueIdx Cert.RotBlock Cert.RotHost

/-- One token's normed input, at a column. -/
def token (a w : Fin 2560 → EReal) (c : Fin 2560) : EReal :=
  Ideal.div (a c) (Ideal.sqrt (Ideal.div (∑ k, a k * a k) (Ideal.ofBits .f32 0x45200000#32) + Ideal.ofBits .f32 0x3727C5AC#32)) * w c

theorem ofBits_width : Ideal.ofBits .f32 0x45200000#32 = ((2560 : ℝ) : EReal) := by
  simp [Ideal.ofBits, Ideal.ieee, -EReal.coe_mul]; norm_num

theorem ofBits_eps : Ideal.ofBits .f32 0x3727C5AC#32 = ((10995116 / 1099511627776 : ℝ) : EReal) := by
  simp [Ideal.ofBits, Ideal.ieee, -EReal.coe_mul]; norm_num

theorem div_coe (x y : ℝ) (hy : y ≠ 0) : Ideal.div (x : EReal) (y : EReal) = ((x * y⁻¹ : ℝ) : EReal) := by
  unfold Ideal.div
  rw [if_neg (EReal.coe_ne_zero.2 hy), ← EReal.coe_inv, ← EReal.coe_mul]

theorem sqrt_coe (x : ℝ) (hx : 0 ≤ x) : Ideal.sqrt (x : EReal) = ((Real.sqrt x : ℝ) : EReal) := by
  show (if x < 0 then (⊥ : EReal) else ((Real.sqrt x : ℝ) : EReal)) = _
  rw [if_neg (not_lt.2 hx)]

/-- The normed input is real when the sums and the weights are. -/
theorem token_real (a w : Fin 2560 → EReal) (c : Fin 2560) (ha : ∀ k, IsReal (a k)) (hw : ∀ k, IsReal (w k)) : IsReal (token a w c) := by
  choose a' ha' using ha
  unfold token
  refine IsReal.mul ?_ (hw c)
  have hs : ∑ k, a k * a k = ((∑ k, a' k * a' k : ℝ) : EReal) := by
    rw [coe_sum]
    exact Finset.sum_congr rfl fun k _ => by rw [ha' k, EReal.coe_mul]
  have h0 : 0 ≤ ∑ k, a' k * a' k := Finset.sum_nonneg fun k _ => mul_self_nonneg _
  have hp : 0 < (∑ k, a' k * a' k) * (2560 : ℝ)⁻¹ + 10995116 / 1099511627776 := by positivity
  rw [hs, ofBits_width, ofBits_eps, div_coe _ _ (by norm_num), ← EReal.coe_add, sqrt_coe _ hp.le, ha' c, div_coe _ _ (Real.sqrt_pos.2 hp).ne']
  exact ⟨_, rfl⟩

section kernel
open Cert.RotateIdeal Cert.RotateIdeal.Gen

/-- The kernel's normed input. -/
theorem norm_eq (x0 : Vec Ideal S256x2560 .bf16) (x1 : Vec Ideal S256x2560 .f32) (x2 : Vec Ideal S1x2560 .f32) (r : Fin 256) (c : Fin 2560) :
    RotBlock.norm x0 x1 x2 r c = token (fun k => x0 (ix2 r k) + x1 (ix2 r k)) (fun k => x2 (ix2 0 k)) c := by
  unfold RotBlock.norm scaled token
  refine congrArg (fun z => Ideal.div (x0 (ix2 r c) + x1 (ix2 r c)) (Ideal.sqrt (Ideal.div z (Ideal.ofBits .f32 0x45200000#32) + Ideal.ofBits .f32 0x3727C5AC#32)) * x2 (ix2 0 c)) ?_
  refine (shapeCast_a_a1_apply _ _ _ _).trans ((Ideal.multiReduction_add_single _ _ reduces_S256x2560_S256 _ _ _).trans ?_)
  refine Finset.sum_congr rfl fun k _ => ?_
  have hl : reduces_S256x2560_S256.lift (ix1 r) k = ix2 (n0 := 256) (n1 := 2560) r k := by
    funext a; fin_cases a <;> rfl
  rw [hl]
  rfl

end kernel

section reference
open Cert.RotateRefIdeal Cert.RotateRefIdeal.Read

variable (x0 : (⟨S2048x2560, .bf16⟩ : BufTy).Contents (Elt Ideal)) (x1 : (⟨S2048x2560, .f32⟩ : BufTy).Contents (Elt Ideal)) (x2 : (⟨S2560, .f32⟩ : BufTy).Contents (Elt Ideal)) (x3 : (⟨S20x20, .f32⟩ : BufTy).Contents (Elt Ideal))

/-- The reference's normed input. -/
theorem ref_norm (t : Fin 2048) (c : Fin 2560) :
    (val_main_v14 x0 x1 x2 (ix2 t c) : EReal) = token (fun k => x0 (ix2 t k) + x1 (ix2 t k)) (fun k => x2 (ix1 k)) c := by
  unfold token
  rw [val_main_v14_apply, val_main_v11_apply, val_main_v10_apply, val_main_v9_apply, val_main_v8_apply, val_main_v6_apply, val_main_v4_apply,
    val_main_v3_apply, val_main_v13_apply, val_main_v12_apply]
  refine congrArg₂ (fun z w : EReal => Ideal.div (x0 (ix2 t c) + x1 (ix2 t c)) (Ideal.sqrt (Ideal.div z (Ideal.ofBits .f32 0x45200000#32) + Ideal.ofBits .f32 0x3727C5AC#32)) * w) ?_ (congrArg x2 ?_)
  · refine (congrArg (· + _) (Ideal.ofBits_zero_f32)).trans ((zero_add _).trans (Finset.sum_congr rfl fun k _ => ?_))
    have e : idx_main_v3 (idx_main_v4 (idx_main_v10 (ix2 t c))) k = ix2 t k := by funext a; fin_cases a <;> rfl
    rw [e]
    rfl
  · funext a; fin_cases a; rfl

/-- The reference's transform matrix. -/
theorem ref_had (k d : Fin 128) : (val_main_v28 (F := Ideal) (ix2 k d) : EReal) = H k d * scale := by
  rw [val_main_v28_apply]
  rfl

/-- The reference's rotation, at an index. -/
theorem ref_apply (t : Fin 2048) (c : Fin 2560) :
    (val_main_v34 x0 x1 x2 x3 (ix2 t c) : EReal) = ∑ a : Fin 20, (∑ k : Fin 128, (val_main_v14 x0 x1 x2 (ix2 t ⟨128 * a.val + k.val, by omega⟩) : EReal)
      * (H k ⟨c.val % 128, Nat.mod_lt _ (by decide)⟩ * scale)) * x3 (ix2 ⟨c.val / 128, by omega⟩ a) := by
  rw [val_main_v34_apply, val_main_v33_apply, val_main_v32_apply]
  refine (val_main_v31_apply x0 x1 x2 x3 _).trans (Finset.sum_congr rfl fun a _ => ?_)
  rw [val_main_v30_apply]
  refine congrArg₂ (fun u v : EReal => u * v) (Finset.sum_congr rfl fun k _ => congrArg₂ (fun u v : EReal => u * v) ?_ ?_) (congrArg x3 ?_)
  · rw [val_main_v29_apply]
    refine congrArg (val_main_v14 x0 x1 x2) (funext fun b => Fin.ext ?_)
    match b with
    | ⟨0, _⟩ => show ((((t.val * 2560 + c.val) / 2560) * 20 + a.val) * 128 + k.val) / 2560 = t.val; omega
    | ⟨1, _⟩ => show ((((t.val * 2560 + c.val) / 2560) * 20 + a.val) * 128 + k.val) % 2560 = 128 * a.val + k.val; omega
  · rw [← ref_had]
    refine congrArg (val_main_v28 (F := Ideal)) (funext fun b => Fin.ext ?_)
    match b with
    | ⟨0, _⟩ => rfl
    | ⟨1, _⟩ => show (t.val * 2560 + c.val) % 128 = c.val % 128; omega
  · refine funext fun b => Fin.ext ?_
    match b with
    | ⟨0, _⟩ => show (t.val * 2560 + c.val) / 128 % 20 = c.val / 128; omega
    | ⟨1, _⟩ => rfl

end reference

end Cert.RotNorm

end
-- ==== Proof.RotWin.lean ====
/- What the blocks of the norm-and-rotate program hold at a grid point: rows of the input and of the residual, and the
   whole of the weights, the sign matrix and the two head matrices. -/
module

public import proofs.«01_k».proof.Proof.RotNorm
public import Idealize.ShloMosaic.Lib.Pipeline.ValueKit.Geometry
public import Idealize.ShloMosaic.Lib.ValueIdx
public import Idealize.ShloMosaic.Lib.ValueLayout

@[expose] public section

set_option backward.proofsInPublic true
set_option maxRecDepth 16384

noncomputable section

namespace Cert.RotWin

open Cert.RotateIdeal Cert.RotateIdeal.Gen Idealize.ShloMosaic Idealize.ShloMosaic.TcCoe Idealize.SL.Sem
open Idealize.ShloMosaic.ValueIdx Cert.RotBlock Cert.RotHost Cert.RotNorm

/-- Where the blocks lie at grid point `t`: the rows `256 t` and on for the inputs and the results, the origin otherwise. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

variable (m : (ℓ : Loc nD τ sig) → Buf (Elt Ideal) ℓ) (c : Dev nD) (t : Fin cfg0.N)

/-- The input's block is its rows `256 t` and on. -/
theorem input (i : Fin 256) (k : Fin 2560) (i' : Fin 2048) (hi : i'.val = 256 * t.val + i.val) :
    iblk m c 0 t (ix2 i k) = m ((c : Thread nD τ).loc main_arg0) (ix2 i' k) := by
  unfold iblk
  rw [← V_main_arg0 m c]
  refine congrArg (V m c main_arg0) (funext fun a => Fin.ext ?_)
  blk_simp
  match a with
  | ⟨0, _⟩ => show win0_0.index t 0 * 256 + i.val = i'.val; rw [(index0 t).1]; omega
  | ⟨1, _⟩ => show win0_0.index t 1 * 2560 + k.val = k.val; rw [(index0 t).2]; omega

/-- The residual's block is its rows `256 t` and on. -/
theorem residual (i : Fin 256) (k : Fin 2560) (i' : Fin 2048) (hi : i'.val = 256 * t.val + i.val) :
    iblk m c 1 t (ix2 i k) = m ((c : Thread nD τ).loc main_arg1) (ix2 i' k) := by
  unfold iblk
  rw [← V_main_arg1 m c]
  refine congrArg (V m c main_arg1) (funext fun a => Fin.ext ?_)
  blk_simp
  match a with
  | ⟨0, _⟩ => show win0_1.index t 0 * 256 + i.val = i'.val; rw [(index1 t).1]; omega
  | ⟨1, _⟩ => show win0_1.index t 1 * 2560 + k.val = k.val; rw [(index1 t).2]; omega

/-- The weights' block is the weights. -/
theorem weight (k : Fin 2560) : iblk m c 2 t (ix2 0 k) = m ((c : Thread nD τ).loc main_arg2) (ix1 k) := by
  have h : iblk m c 2 t (ix2 0 k) = V m c main_v38 (ix2 (n0 := 1) (n1 := 2560) 0 k) := by
    unfold iblk
    refine congrArg (V m c main_v38) (funext fun a => Fin.ext ?_)
    blk_simp
    match a with
    | ⟨0, _⟩ => show win0_2.index t 0 * 1 + 0 = 0; rw [(index2 t).1]
    | ⟨1, _⟩ => show win0_2.index t 1 * 2560 + k.val = k.val; rw [(index2 t).2]; omega
  rw [h, weights]
  exact shapeCast_a_1a_apply _ _ 0 k

/-- The sign matrix's block is the sign matrix. -/
theorem signs (p q : Fin 256) : (iblk m c 3 t : Vec Ideal S256x256 .bf16) (ix2 p q)
    = if p.val / 128 = q.val / 128 then H ⟨p.val % 128, Nat.mod_lt _ (by decide)⟩ ⟨q.val % 128, Nat.mod_lt _ (by decide)⟩ else (0 : EReal) := by
  rw [← had_apply c m p q]
  unfold iblk
  refine congrArg (V m c main_v14) (funext fun a => Fin.ext ?_)
  blk_simp
  match a with
  | ⟨0, _⟩ => show win0_3.index t 0 * 256 + p.val = p.val; rw [(index3 t).1]; omega
  | ⟨1, _⟩ => show win0_3.index t 1 * 256 + q.val = q.val; rw [(index3 t).2]; omega

/-- The head matrices' blocks are the head matrices. -/
theorem mid (i : Fin 80) (k : Fin 160) : iblk m c 4 t (ix2 i k) = V m c main_v36 (ix2 (n0 := 80) (n1 := 160) i k) := by
  unfold iblk
  refine congrArg (V m c main_v36) (funext fun a => Fin.ext ?_)
  blk_simp
  match a with
  | ⟨0, _⟩ => show win0_4.index t 0 * 80 + i.val = i.val; rw [(index4 t).1]; omega
  | ⟨1, _⟩ => show win0_4.index t 1 * 160 + k.val = k.val; rw [(index4 t).2]; omega

theorem low (i : Fin 80) (k : Fin 160) : iblk m c 5 t (ix2 i k) = V m c main_v37 (ix2 (n0 := 80) (n1 := 160) i k) := by
  unfold iblk
  refine congrArg (V m c main_v37) (funext fun a => Fin.ext ?_)
  blk_simp
  match a with
  | ⟨0, _⟩ => show win0_5.index t 0 * 80 + i.val = i.val; rw [(index5 t).1]; omega
  | ⟨1, _⟩ => show win0_5.index t 1 * 160 + k.val = k.val; rw [(index5 t).2]; omega

/-- The head matrix of the arguments. -/
def heads (e a : Fin 20) : EReal := (m ((c : Thread nD τ).loc main_arg3) : Vec Ideal S20x20 .f32) (ix2 e a)

/-- The left half of the head matrix: four copies of the scaled matrix on the diagonal. -/
theorem mid_left (i k : Fin 80) : (iblk m c 4 t : Vec Ideal S80x160 .bf16) (ix2 i ⟨k.val, by omega⟩) = if i.val / 20 = k.val / 20
    then heads m c ⟨i.val % 20, Nat.mod_lt _ (by decide)⟩ ⟨k.val % 20, Nat.mod_lt _ (by decide)⟩ * scale else (0 : EReal) := by
  refine Eq.trans ?_ (big_apply (m ((c : Thread nD τ).loc main_arg3)) i k)
  rw [mid, head_mid]
  exact cat_left _ _ _ i _ k rfl

theorem big_real (q : Vec Ideal S20x20 .f32) (hq : ∀ i k, IsReal (q (ix2 i k))) (i k : Fin 80) : IsReal (big q (ix2 i k)) := by
  rw [big_apply]
  split
  · exact (hq _ _).mul scale_real
  · exact ⟨0, EReal.coe_zero.symm⟩

/-- What casts leave over of a real matrix is nought. -/
theorem rest_zero (x : Vec Ideal S80x80 .f32) (i k : Fin 80) (h : IsReal (x (ix2 i k))) : (rest x (ix2 i k) : EReal) = 0 := sub_self_of_real h

/-- The right halves of the head matrices are nought. -/
theorem mid_right (hq : ∀ i k, IsReal ((m ((c : Thread nD τ).loc main_arg3) : Vec Ideal S20x20 .f32) (ix2 i k))) (i k : Fin 80) :
    (iblk m c 4 t : Vec Ideal S80x160 .bf16) (ix2 i ⟨80 + k.val, by omega⟩) = (0 : EReal) := by
  rw [mid, head_mid]
  exact (cat_right _ _ _ i _ k (by show k.val + 80 = 80 + k.val; omega)).trans (rest_zero _ i k (big_real _ hq i k))

theorem low_right (hq : ∀ i k, IsReal ((m ((c : Thread nD τ).loc main_arg3) : Vec Ideal S20x20 .f32) (ix2 i k))) (i k : Fin 80) :
    (iblk m c 5 t : Vec Ideal S80x160 .bf16) (ix2 i ⟨80 + k.val, by omega⟩) = (0 : EReal) := by
  rw [low, head_low]
  exact (cat_right _ _ _ i _ k (by show k.val + 80 = 80 + k.val; omega)).trans (rest_zero _ i k ⟨0, (rest_zero _ i k (big_real _ hq i k)).trans EReal.coe_zero.symm⟩)

end Cert.RotWin

end
-- ==== Proof.RotPre.lean ====
/- What the precondition of the norm-and-rotate claim says at exact arithmetic: every element of the four arguments is
   a real number. -/
module

public import proofs.«01_k».proof.Pre_finite
public import proofs.«01_k».proof.Proof.RotTrip
public import Idealize.ShloMosaic.Lib.ReduceAll

@[expose] public section

set_option maxRecDepth 16384

noncomputable section

namespace Cert.RotPre

open Cert.Pre_finite Cert.Pre_finite.Facts Idealize.ShloMosaic Idealize.ShloMosaic.ValueIdx Cert.RotBlock

/-- The shape relations of the precondition's operations. -/
instance facts : Cert.Pre_finite.Facts where
  bitsLt_bf16_f32 := by decide
  bcast_S_S2048x2560 := by decide
  bcast_S_S2560 := by decide
  bcast_S2560_S1x2560_1 := by decide
  bcast_S1x2560_S2048x2560_0_1 := by decide
  bcast_S_S20x20 := by decide
  reducesTo_S20x20_S_d0_1 := by decide
  h_S_ := by decide

theorem ofBits_inf : Ideal.ofBits .f32 0x7F800000#32 = (⊤ : EReal) := by
  simp [Ideal.ofBits, Ideal.ieee]

/-- A number below infinity in size is real. -/
theorem real_of_lt (x : EReal) (h : Ideal.cmp .olt (max x (-x)) (Ideal.ofBits .f32 0x7F800000#32) = 1#1) : IsReal x := by
  rw [ofBits_inf] at h
  have h' : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  obtain ⟨h1, h2⟩ := max_lt_iff.1 h'
  induction x using EReal.rec with
  | bot => exact absurd h2 (by simp)
  | top => exact absurd h1 (by simp)
  | coe r => exact ⟨r, rfl⟩

variable (x0 : FVec Ideal S2048x2560 .bf16) (x1 : FVec Ideal S2048x2560 .f32) (x2 : FVec Ideal S2560 .f32) (x3 : FVec Ideal S20x20 .f32)

instance : Subsingleton S_.Idx := ⟨fun a b => funext fun i => i.elim0⟩

/-- The precondition makes every argument's elements real. -/
theorem reals (h : Cert.Pre_finite.fn (F := Ideal) x0 x1 x2 x3 = fun _ => 1#1) :
    (∀ t k, IsReal (x0 (ix2 t k))) ∧ (∀ t k, IsReal (x1 (ix2 t k))) ∧ (∀ k, IsReal (x2 (ix1 k))) ∧ ∀ i k, IsReal (x3 (ix2 i k)) := by
  dsimp only [fn, fn_part1] at h
  have key : ∀ (t : Fin 2048) (k : Fin 2560), IsReal (x0 (ix2 t k)) ∧ IsReal (x1 (ix2 t k)) ∧ IsReal (x2 (ix1 k)) ∧ ∀ i j, IsReal (x3 (ix2 i j)) := fun t k => by
    obtain ⟨h13, h18⟩ := IntOp.andi_eq_one.1 (congrFun h (ix2 t k))
    obtain ⟨h7, h12⟩ := IntOp.andi_eq_one.1 h13
    obtain ⟨h3, h6⟩ := IntOp.andi_eq_one.1 h7
    refine ⟨real_of_lt _ h3, real_of_lt _ h6, real_of_lt _ ?_, fun i j => real_of_lt _ ?_⟩
    · refine Eq.trans ?_ h12
      refine Eq.symm ((broadcastInDim_apply ![0, 1] bcast_S1x2560_S2048x2560_0_1 _ (ix2 t k) (ix2 (n0 := 1) (n1 := 2560) 0 k) fun a => by fin_cases a <;> rfl).trans ?_)
      exact (broadcastInDim_apply ![1] bcast_S2560_S1x2560_1 _ (ix2 (n0 := 1) (n1 := 2560) 0 k) (ix1 k) fun a => by fin_cases a; rfl)
    · exact Host.reduce_andi_all _ _ _ _ _ h18 (ix2 i j)
  exact ⟨fun t k => (key t k).1, fun t k => (key t k).2.1, fun k => (key 0 k).2.2.1, (key 0 0).2.2.2⟩

end Cert.RotPre

end
-- ==== Proof.RotValue.lean ====
/- The norm-and-rotate claim: the kernel's two result arrays are the reference's, at exact arithmetic, on finite
   arguments. -/
module

public import proofs.«01_k».proof.Defs
public import proofs.«01_k».proof.Proof.RotWin
public import proofs.«01_k».proof.Proof.RotPre

@[expose] public section

set_option backward.proofsInPublic true
set_option maxRecDepth 16384

noncomputable section

namespace Cert.RotValue

open Cert.RotateIdeal Cert.RotateIdeal.Gen Idealize.ShloMosaic Idealize.ShloMosaic.TcCoe Idealize.SL.Sem
open Idealize.ShloMosaic.ValueIdx Cert.RotBlock Cert.RotHost Cert.RotNorm Cert.RotWin
open Cert.RotateRefIdeal.Read (val_main_v14 val_main_v34)

/-- The first output block: the widened input block plus the residual block. -/
theorem sum_eq (c : Dev nD) (i : grid0.Coords) (arg1 : Memref sig .tc .vmem S256x2560 .bf16) (harg1 : arg1.IsWhole) (arg2 : Memref sig .tc .vmem S256x2560 .f32) (harg2 : arg2.IsWhole) (arg3 : Memref sig .tc .vmem S1x2560 .f32) (harg3 : arg3.IsWhole) (arg4 : Memref sig .tc .vmem S256x256 .bf16) (harg4 : arg4.IsWhole) (arg5 : Memref sig .tc .vmem S80x160 .bf16) (harg5 : arg5.IsWhole) (arg6 : Memref sig .tc .vmem S80x160 .bf16) (harg6 : arg6.IsWhole) (arg7 : Memref sig .tc .vmem S256x2560 .f32) (harg7 : arg7.IsWhole) (arg8 : Memref sig .tc .vmem S256x2560 .bf16) (harg8 : arg8.IsWhole) (arg9 : Memref sig .tc .vmem S5120x128 .f32) (harg9 : arg9.IsWhole) (arg10 : Memref sig .tc .vmem S5120x128 .f32) (harg10 : arg10.IsWhole)
    (x0 : Vec Ideal S256x2560 .bf16) (x1 : Vec Ideal S256x2560 .f32) (x2 : Vec Ideal S1x2560 .f32) (x3 : Vec Ideal S256x256 .bf16) (x4 : Vec Ideal S80x160 .bf16) (x5 : Vec Ideal S80x160 .bf16) :
    out0_A_6 c i arg1 harg1 arg2 harg2 arg3 harg3 arg4 harg4 arg5 harg5 arg6 harg6 arg7 harg7 arg8 harg8 arg9 harg9 arg10 harg10 x0 x1 x2 x3 x4 x5 = addf (F := Ideal) (s := S256x2560) (φ := .f32) (extf (F := Ideal) (s := S256x2560) (φ := .bf16) .f32 x0 bitsLt_bf16_f32) x1 := by
  unfold out0_A_6
  rw [View.read_writes_junk_eq_canon]
  unfold kernelRun0_A
  dsimp only
  sl_unfold_words
  simp only [View.readAt_eq_ld, harg1.read_unread, harg2.read_unread]
  rw [View.canon_unit_zero (by funext a; fin_cases a <;> rfl)]
  rw [View.ld_unit_zero (by funext a; fin_cases a <;> rfl), View.ld_unit_zero (by funext a; fin_cases a <;> rfl)]
  rfl

variable (m : (ℓ : Loc nD τ sig) → Buf (Elt Ideal) ℓ) (c : Dev nD)

/-- The sum's array after the kernel is the reference's first result. -/
theorem sum_result : (dats m 0 c).arrAt 6 cfg0.N
    = addf (F := Ideal) (s := S2048x2560) (φ := .f32) (extf (F := Ideal) (s := S2048x2560) (φ := .bf16) .f32 (m ((c : Thread nD τ).loc main_arg0)) bitsLt_bf16_f32) (m ((c : Thread nD τ).loc main_arg1)) := by
  refine (dats m 0 c).arrAt_eq_of_covers 6 _ (by decide +kernel) fun t hf y => ?_
  blk_simp
  rw [after0_6]
  unfold outsAt0
  rw [sum_eq]
  obtain ⟨i, q, rfl⟩ : ∃ i q, y = ix2 (n0 := 256) (n1 := 2560) i q := ⟨_, _, eq_ix2 y⟩
  have ht : t.val < 8 := t.isLt
  have hi : ((cfg0.win 6).blk t).view.emb (ix2 i q) = ix2 (n0 := 2048) (n1 := 2560) ⟨256 * t.val + i.val, by omega⟩ q := by
    refine funext fun b => Fin.ext ?_
    blk_simp
    match b with
    | ⟨0, _⟩ => show win0_6.index t 0 * 256 + i.val = 256 * t.val + i.val; rw [(index6 t).1]; omega
    | ⟨1, _⟩ => show win0_6.index t 1 * 2560 + q.val = q.val; rw [(index6 t).2]; omega
  refine Eq.trans ?_ (congrArg _ hi.symm)
  exact congrArg₂ FloatOps.addf (congrArg (FloatOps.extf .f32 bitsLt_bf16_f32) (input m c t i q _ rfl)) (residual m c t i q _ rfl)

section finite
variable (h0 : ∀ t k, IsReal ((m ((c : Thread nD τ).loc main_arg0) : Vec Ideal S2048x2560 .bf16) (ix2 t k)))
  (h1 : ∀ t k, IsReal ((m ((c : Thread nD τ).loc main_arg1) : Vec Ideal S2048x2560 .f32) (ix2 t k)))
  (h2 : ∀ k, IsReal ((m ((c : Thread nD τ).loc main_arg2) : Vec Ideal S2560 .f32) (ix1 k)))
  (h3 : ∀ i k, IsReal ((m ((c : Thread nD τ).loc main_arg3) : Vec Ideal S20x20 .f32) (ix2 i k)))

/-- The normed block at a grid point is the reference's normed input, rows `256 t` and on. -/
theorem normed (t : Fin cfg0.N) (r : Fin 256) (k : Fin 2560) (r' : Fin 2048) (hr : r'.val = 256 * t.val + r.val) :
    RotBlock.norm (iblk m c 0 t) (iblk m c 1 t) (iblk m c 2 t) r k
      = (val_main_v14 (F := Ideal) (m ((c : Thread nD τ).loc main_arg0)) (m ((c : Thread nD τ).loc main_arg1)) (m ((c : Thread nD τ).loc main_arg2)) (ix2 r' k) : EReal) := by
  refine (norm_eq _ _ _ r k).trans (Eq.trans ?_ (ref_norm _ _ _ r' k).symm)
  refine congrArg₂ (fun a w => token a w k) (funext fun j => ?_) (funext fun j => weight m c t j)
  exact congrArg₂ (fun a b : EReal => a + b) (input m c t r j r' hr) (residual m c t r j r' hr)

include h0 h1 h2 in
theorem normed_real (t : Fin cfg0.N) (r : Fin 256) (k : Fin 2560) : IsReal (RotBlock.norm (iblk m c 0 t) (iblk m c 1 t) (iblk m c 2 t) r k) := by
  have ht : t.val < 8 := t.isLt
  rw [normed m c t r k ⟨256 * t.val + r.val, by omega⟩ rfl]
  exact (congrArg IsReal (ref_norm _ _ _ _ k)).mpr (token_real _ _ _ (fun j => (h0 _ j).add (h1 _ j)) h2)

include h0 h1 h2 h3 in
/-- The rotated block at an index is the reference's second result. -/
theorem rotated (t : Fin cfg0.N) (r : Fin 256) (q : Fin 2560) (r' : Fin 2048) (hr : r'.val = 256 * t.val + r.val) :
    ∑ a : Fin 20, (heads m c ⟨q.val / 128, by omega⟩ a * scale) * had (iblk m c 0 t) (iblk m c 1 t) (iblk m c 2 t) H r a ⟨q.val % 128, Nat.mod_lt _ (by decide)⟩
      = (val_main_v34 (F := Ideal) (m ((c : Thread nD τ).loc main_arg0)) (m ((c : Thread nD τ).loc main_arg1)) (m ((c : Thread nD τ).loc main_arg2)) (m ((c : Thread nD τ).loc main_arg3)) (ix2 r' q) : EReal) := by
  refine Eq.trans ?_ (ref_apply _ _ _ _ r' q).symm
  refine Finset.sum_congr rfl fun a _ => ?_
  refine (scale_sum _ _ _ scale (fun k => normed_real m c h0 h1 h2 t r _) (fun k => H_real k _) (h3 _ _) scale_real).trans ?_
  refine congrArg (fun z : EReal => z * _) (Finset.sum_congr rfl fun k _ => congrArg (fun z : EReal => z * _) ?_)
  exact normed m c t r _ r' hr

include h0 h1 h2 h3 in
/-- The rotation's array after the kernel is the reference's second result. -/
theorem rot_result : (dats m 0 c).arrAt 7 cfg0.N = val_main_v34 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  dsimp only
  rw [out_apply _ _ _ _ _ _ H (fun e a => heads m c e a * scale)
    (normed_real m c h0 h1 h2 t) H_real (signs m c t) (mid_left m c t) (mid_right m c t h3) (low_right m c t h3)]
  obtain ⟨i, q, rfl⟩ : ∃ i q, y = ix2 (n0 := 256) (n1 := 2560) i q := ⟨_, _, eq_ix2 y⟩
  have ht : t.val < 8 := t.isLt
  have hi : ((cfg0.win 7).blk t).view.emb (ix2 i q) = ix2 (n0 := 2048) (n1 := 2560) ⟨256 * t.val + i.val, by omega⟩ q := by
    refine funext fun b => Fin.ext ?_
    blk_simp
    match b with
    | ⟨0, _⟩ => show win0_7.index t 0 * 256 + i.val = 256 * t.val + i.val; rw [(index7 t).1]; omega
    | ⟨1, _⟩ => show win0_7.index t 1 * 2560 + q.val = q.val; rw [(index7 t).2]; omega
  refine Eq.trans ?_ (congrArg _ hi.symm)
  exact rotated m c h0 h1 h2 h3 t i q _ rfl

end finite

/-- The claim: on memories that agree on finite arguments, the kernel and the reference end with the same two results. -/
theorem algebraic : Cert.algebraic_RotateIdeal_RotateRefIdeal_pre_finite (hPre_finite := RotPre.facts) := by
  intro m g m' g' hpre hagree
  refine ⟨fun c => (dats m 0 c).arrAt 6 cfg0.N, fun c => (dats m 0 c).arrAt 7 cfg0.N, Cert.RotateIdeal.Value.run_blocks m g, ?_⟩
  refine (θ_run _ _ _).mono (fun r h c => ⟨(h c).1.trans ?_, (h c).2.1.trans ?_, (h c).2.2⟩) (Cert.RotateRefIdeal.Value.run m' g')
  · rw [(hagree c).1, (hagree c).2.1]
    exact (sum_result m c).symm
  · obtain ⟨h0, h1, h2, h3⟩ := RotPre.reals _ _ _ _ (hpre c)
    rw [Cert.RotateRefIdeal.Read.val_main_v34_eq, (hagree c).1, (hagree c).2.1, (hagree c).2.2.1, (hagree c).2.2.2]
    exact (rot_result m c h0 h1 h2 h3).symm

end Cert.RotValue

end
-- ==== Proof.lean ====
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.InProjZ
public import proofs.«01_k».proof.Proof.Gen.InProjZ.Skeleton
public import proofs.«01_k».proof.Proof.Gen.InProjZ.Launch
public import proofs.«01_k».proof.Proof.Gen.InProjZ.Points
public import proofs.«01_k».proof.Proof.Gen.InProjZ.Frame
public import proofs.«01_k».proof.Proof.Gen.InProjZIdeal
public import proofs.«01_k».proof.Proof.Gen.InProjZIdeal.Skeleton
public import proofs.«01_k».proof.Proof.Gen.InProjZIdeal.Launch
public import proofs.«01_k».proof.Proof.Gen.InProjZIdeal.Points
public import proofs.«01_k».proof.Proof.Gen.InProjZIdeal.Frame
public import proofs.«01_k».proof.Proof.Gen.ZRefIdeal
public import proofs.«01_k».proof.Proof.Gen.InProjConv
public import proofs.«01_k».proof.Proof.Gen.InProjConv.Skeleton
public import proofs.«01_k».proof.Proof.Gen.InProjConv.Launch
public import proofs.«01_k».proof.Proof.Gen.InProjConv.Points
public import proofs.«01_k».proof.Proof.Gen.InProjConv.Frame
public import proofs.«01_k».proof.Proof.Gen.InProjConvIdeal
public import proofs.«01_k».proof.Proof.Gen.InProjConvIdeal.Skeleton
public import proofs.«01_k».proof.Proof.Gen.InProjConvIdeal.Launch
public import proofs.«01_k».proof.Proof.Gen.InProjConvIdeal.Points
public import proofs.«01_k».proof.Proof.Gen.InProjConvIdeal.Frame
public import proofs.«01_k».proof.Proof.Gen.ConvRefIdeal
public import proofs.«01_k».proof.Proof.Gen.StateQuant
public import proofs.«01_k».proof.Proof.Gen.StateQuant.Skeleton
public import proofs.«01_k».proof.Proof.Gen.StateQuant.Launch
public import proofs.«01_k».proof.Proof.Gen.StateQuant.Points
public import proofs.«01_k».proof.Proof.Gen.StateQuant.Frame
public import proofs.«01_k».proof.Proof.Gen.StateQuantIdeal
public import proofs.«01_k».proof.Proof.Gen.StateQuantIdeal.Skeleton
public import proofs.«01_k».proof.Proof.Gen.StateQuantIdeal.Launch
public import proofs.«01_k».proof.Proof.Gen.StateQuantIdeal.Points
public import proofs.«01_k».proof.Proof.Gen.StateQuantIdeal.Frame
public import proofs.«01_k».proof.Proof.Gen.NormRotate
public import proofs.«01_k».proof.Proof.Gen.NormRotate.Skeleton
public import proofs.«01_k».proof.Proof.Gen.NormRotate.Launch
public import proofs.«01_k».proof.Proof.Gen.NormRotate.Points
public import proofs.«01_k».proof.Proof.Gen.NormRotate.Frame
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateIdeal.Value
public import proofs.«01_k».proof.Proof.Gen.RotateRefIdeal
public import proofs.«01_k».proof.Proof.Gen.RotateRefIdeal.Read
public import proofs.«01_k».proof.Proof.Gen.RotateRefIdeal.Run
public import proofs.«01_k».proof.Proof.Gen.StateRefIdeal
public import proofs.«01_k».proof.Proof.Gen.ResRef
public import proofs.«01_k».proof.Proof.Gen.InProjZIdeal.Value
public import proofs.«01_k».proof.Proof.Gen.InProjConvIdeal.Value
public import proofs.«01_k».proof.Proof.Gen.OutRefIdeal.Read
public import proofs.«01_k».proof.Proof.Gen.ZRefIdeal.Read
public import proofs.«01_k».proof.Proof.Gen.ConvRefIdeal.Read
public import proofs.«01_k».proof.Proof.Gen.OutRefIdeal.Run
public import proofs.«01_k».proof.Proof.Gen.ZRefIdeal.Run
public import proofs.«01_k».proof.Proof.Gen.ConvRefIdeal.Run
public import proofs.«01_k».proof.Proof.Gen.StateQuantIdeal.Value
public import proofs.«01_k».proof.Proof.Gen.NormRotate.Value
public import proofs.«01_k».proof.Proof.Gen.StateRefIdeal.Read
public import proofs.«01_k».proof.Proof.Gen.ResRef.Read
public import proofs.«01_k».proof.Proof.Gen.StateRefIdeal.Run
public import proofs.«01_k».proof.Proof.Gen.ResRef.Run
public import proofs.«01_k».proof.Proof.ZValue
public import proofs.«01_k».proof.Proof.OutValue
public import proofs.«01_k».proof.Proof.ConvValue
public import proofs.«01_k».proof.Proof.StateValue
public import proofs.«01_k».proof.Proof.ResValue
public import proofs.«01_k».proof.Proof.RotValue
public import Idealize.ShloMosaic.Adequacy
public import Idealize.ShloMosaic.Init

@[expose] public section

noncomputable section

namespace Cert.Proof

open Idealize.ShloMosaic Idealize.SL.Sem

/-- The frame of this reference: its run, read at the arguments; the program declares no semaphore. -/
theorem frame_OutRefIdeal : Cert.quiescent_OutRefIdeal (hOutRefIdeal := Cert.OutRefIdeal.Gen.facts) := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

/-- The frame of this reference: its run, read at the arguments; the program declares no semaphore. -/
theorem frame_ZRefIdeal : Cert.quiescent_ZRefIdeal (hZRefIdeal := Cert.ZRefIdeal.Gen.facts) := fun m ρ _ =>
  (θ_run Cert.ZRefIdeal.defs _ _).mono (fun r h => ⟨fun c => (h c).2,
      Idealize.ShloMosaic.sem_eq_zero_of_no_sems (by decide) r.2⟩)
    (Cert.ZRefIdeal.Value.run (F := Ideal) m ρ)

/-- The frame of this reference: its run, read at the arguments; the program declares no semaphore. -/
theorem frame_ConvRefIdeal : Cert.quiescent_ConvRefIdeal (hConvRefIdeal := Cert.ConvRefIdeal.Gen.facts) := fun m ρ _ =>
  (θ_run Cert.ConvRefIdeal.defs _ _).mono (fun r h => ⟨fun c => (h c).2.2.2,
      Idealize.ShloMosaic.sem_eq_zero_of_no_sems (by decide) r.2⟩)
    (Cert.ConvRefIdeal.Value.run (F := Ideal) m ρ)

/-- The frame of this reference: its run, read at the arguments; the program declares no semaphore. -/
theorem frame_StateRefIdeal : Cert.quiescent_StateRefIdeal (hStateRefIdeal := Cert.StateRefIdeal.Gen.facts) := fun m ρ _ =>
  (θ_run Cert.StateRefIdeal.defs _ _).mono (fun r h => ⟨fun c => (h c).2.2,
      Idealize.ShloMosaic.sem_eq_zero_of_no_sems (by decide) r.2⟩)
    (Cert.StateRefIdeal.Value.run (F := Ideal) m ρ)

/-- The frame of this reference: its run, read at the arguments; the program declares no semaphore. -/
theorem frame_ResRef : Cert.quiescent_ResRef (hResRef := Cert.ResRef.Gen.facts) := fun m ρ _ =>
  (θ_run Cert.ResRef.defs _ _).mono (fun r h => ⟨fun c => (h c).2,
      Idealize.ShloMosaic.sem_eq_zero_of_no_sems (by decide) r.2⟩)
    (Cert.ResRef.Value.run (F := Bits) m ρ)

/-- The frame of this reference: its run, read at the arguments; the program declares no semaphore. -/
theorem frame_RotateRefIdeal : Cert.quiescent_RotateRefIdeal (hRotateRefIdeal := Cert.RotateRefIdeal.Gen.facts) := fun m ρ _ =>
  (θ_run Cert.RotateRefIdeal.defs _ _).mono (fun r h => ⟨fun c => (h c).2.2,
      Idealize.ShloMosaic.sem_eq_zero_of_no_sems (by decide) r.2⟩)
    (Cert.RotateRefIdeal.Value.run (F := Ideal) m ρ)

theorem claim : Cert.Claim := ⟨Cert.OutProj.Gen.facts, Cert.OutProjIdeal.Gen.facts, Cert.OutRefIdeal.Gen.facts, Cert.InProjZ.Gen.facts, Cert.InProjZIdeal.Gen.facts, Cert.ZRefIdeal.Gen.facts, Cert.InProjConv.Gen.facts, Cert.InProjConvIdeal.Gen.facts, Cert.ConvRefIdeal.Gen.facts,
  Cert.StateQuant.Gen.facts, Cert.StateQuantIdeal.Gen.facts, Cert.StateRefIdeal.Gen.facts, Cert.NormRotate.Gen.facts, Cert.ResRef.Gen.facts,
  Cert.Rotate.Gen.facts, Cert.RotateIdeal.Gen.facts, Cert.RotateRefIdeal.Gen.facts, Cert.RotPre.facts,
  fun m ρ _ => Cert.OutProj.Gen.frame m ρ, fun m ρ _ => Cert.OutProjIdeal.Gen.frame m ρ,
  frame_OutRefIdeal,
  fun m ρ _ => Cert.InProjZ.Gen.frame m ρ, fun m ρ _ => Cert.InProjZIdeal.Gen.frame m ρ,
  frame_ZRefIdeal,
  fun m ρ _ => Cert.InProjConv.Gen.frame m ρ, fun m ρ _ => Cert.InProjConvIdeal.Gen.frame m ρ,
  frame_ConvRefIdeal,
  fun m ρ _ => Cert.StateQuant.Gen.frame m ρ, fun m ρ _ => Cert.StateQuantIdeal.Gen.frame m ρ,
  frame_StateRefIdeal,
  fun m ρ _ => Cert.NormRotate.Gen.frame m ρ,
  frame_ResRef,
  fun m ρ _ => Cert.Rotate.Gen.frame m ρ, fun m ρ _ => Cert.RotateIdeal.Gen.frame m ρ, fun m ρ _ => Cert.RotateIdeal.Gen.frame m ρ,
  frame_RotateRefIdeal, fun m ρ _ => frame_RotateRefIdeal m ρ trivial,
  trivial, Cert.OutValue.algebraic, trivial, Cert.ZValue.algebraic, trivial, Cert.ConvValue.algebraic,
  trivial, Cert.StateValue.algebraic, Cert.ResValue.bitexact,
  trivial, Cert.RotValue.algebraic⟩

end Cert.Proof

end
